-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_decay_finite [hPre_decay_finite : Cert.Pre_decay_finite.Facts] (m : (ℓ : Loc Cert.GlaIdeal.nD Cert.GlaIdeal.τ Cert.GlaIdeal.sig) → Buf (Elt Ideal) ℓ) : Prop :=
  ∀ c : Dev Cert.GlaIdeal.nD,
    (Cert.Pre_decay_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_decay_finite [hPre_decay_finite : Cert.Pre_decay_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_decay_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).2.2.2 = (fun _ => 1#1)

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaIdeal_pre_decay_finite [hGlaIdeal : Cert.GlaIdeal.Facts] [hPre_decay_finite : Cert.Pre_decay_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_decay_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_decay_finite [hGlaRefIdeal : Cert.GlaRefIdeal.Facts] [hPre_decay_finite : Cert.Pre_decay_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_decay_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10))
      ∧ r.2.sem = fun _ => 0)

def preserves_Gla_GlaIdeal : Prop :=
  True

def algebraic_GlaIdeal_GlaRefIdeal_pre_decay_finite [hGlaIdeal : Cert.GlaIdeal.Facts] [hGlaRefIdeal : Cert.GlaRefIdeal.Facts] [hPre_decay_finite : Cert.Pre_decay_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_decay_finite m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v8_0)) (v1 : (c : Dev Cert.GlaIdeal.nD) → Buf (Elt Ideal) ((c.tc : Thread Cert.GlaIdeal.nD Cert.GlaIdeal.τ).loc Cert.GlaIdeal.main_v8_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v8_0) = v0 c
          ∧ r.2.mem ((c.tc : Thread Cert.GlaIdeal.nD Cert.GlaIdeal.τ).loc Cert.GlaIdeal.main_v8_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v40) = v0 c
          ∧ r.2.mem ((c.tc : Thread Cert.GlaRefIdeal.nD Cert.GlaRefIdeal.τ).loc Cert.GlaRefIdeal.main_v38) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v7) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v36) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v83_0)) (v1 : (c : Dev Cert.ProjIdeal.nD) → Buf (Elt Ideal) ((c.tc : Thread Cert.ProjIdeal.nD Cert.ProjIdeal.τ).loc Cert.ProjIdeal.main_v83_2)) (v2 : (c : Dev Cert.ProjIdeal.nD) → Buf (Elt Ideal) ((c.tc : Thread Cert.ProjIdeal.nD Cert.ProjIdeal.τ).loc Cert.ProjIdeal.main_v83_3)) (v3 : (c : Dev Cert.ProjIdeal.nD) → Buf (Elt Ideal) ((c.tc : Thread Cert.ProjIdeal.nD Cert.ProjIdeal.τ).loc Cert.ProjIdeal.main_v83_6)) (v4 : (c : Dev Cert.ProjIdeal.nD) → Buf (Elt Ideal) ((c.tc : Thread Cert.ProjIdeal.nD Cert.ProjIdeal.τ).loc Cert.ProjIdeal.main_v83_8)) (v5 : (c : Dev Cert.ProjIdeal.nD) → Buf (Elt Ideal) ((c.tc : Thread Cert.ProjIdeal.nD Cert.ProjIdeal.τ).loc Cert.ProjIdeal.main_v83_12)) (v6 : (c : Dev Cert.ProjIdeal.nD) → Buf (Elt Ideal) ((c.tc : Thread Cert.ProjIdeal.nD Cert.ProjIdeal.τ).loc Cert.ProjIdeal.main_v83_13)) (v7 : (c : Dev Cert.ProjIdeal.nD) → Buf (Elt Ideal) ((c.tc : Thread Cert.ProjIdeal.nD Cert.ProjIdeal.τ).loc Cert.ProjIdeal.main_v83_14)) (v8 : (c : Dev Cert.ProjIdeal.nD) → Buf (Elt Ideal) ((c.tc : Thread Cert.ProjIdeal.nD Cert.ProjIdeal.τ).loc Cert.ProjIdeal.main_v83_15)) (v9 : (c : Dev Cert.ProjIdeal.nD) → Buf (Elt Ideal) ((c.tc : Thread Cert.ProjIdeal.nD Cert.ProjIdeal.τ).loc Cert.ProjIdeal.main_v83_16)) (v10 : (c : Dev Cert.ProjIdeal.nD) → Buf (Elt Ideal) ((c.tc : Thread Cert.ProjIdeal.nD Cert.ProjIdeal.τ).loc Cert.ProjIdeal.main_v83_17)) (v11 : (c : Dev Cert.ProjIdeal.nD) → Buf (Elt Ideal) ((c.tc : Thread Cert.ProjIdeal.nD Cert.ProjIdeal.τ).loc Cert.ProjIdeal.main_v83_18)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v83_0) = v0 c
          ∧ r.2.mem ((c.tc : Thread Cert.ProjIdeal.nD Cert.ProjIdeal.τ).loc Cert.ProjIdeal.main_v83_2) = v1 c
          ∧ r.2.mem ((c.tc : Thread Cert.ProjIdeal.nD Cert.ProjIdeal.τ).loc Cert.ProjIdeal.main_v83_3) = v2 c
          ∧ r.2.mem ((c.tc : Thread Cert.ProjIdeal.nD Cert.ProjIdeal.τ).loc Cert.ProjIdeal.main_v83_6) = v3 c
          ∧ r.2.mem ((c.tc : Thread Cert.ProjIdeal.nD Cert.ProjIdeal.τ).loc Cert.ProjIdeal.main_v83_8) = v4 c
          ∧ r.2.mem ((c.tc : Thread Cert.ProjIdeal.nD Cert.ProjIdeal.τ).loc Cert.ProjIdeal.main_v83_12) = v5 c
          ∧ r.2.mem ((c.tc : Thread Cert.ProjIdeal.nD Cert.ProjIdeal.τ).loc Cert.ProjIdeal.main_v83_13) = v6 c
          ∧ r.2.mem ((c.tc : Thread Cert.ProjIdeal.nD Cert.ProjIdeal.τ).loc Cert.ProjIdeal.main_v83_14) = v7 c
          ∧ r.2.mem ((c.tc : Thread Cert.ProjIdeal.nD Cert.ProjIdeal.τ).loc Cert.ProjIdeal.main_v83_15) = v8 c
          ∧ r.2.mem ((c.tc : Thread Cert.ProjIdeal.nD Cert.ProjIdeal.τ).loc Cert.ProjIdeal.main_v83_16) = v9 c
          ∧ r.2.mem ((c.tc : Thread Cert.ProjIdeal.nD Cert.ProjIdeal.τ).loc Cert.ProjIdeal.main_v83_17) = v10 c
          ∧ r.2.mem ((c.tc : Thread Cert.ProjIdeal.nD Cert.ProjIdeal.τ).loc Cert.ProjIdeal.main_v83_18) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v222) = v0 c
          ∧ r.2.mem ((c.tc : Thread Cert.ProjRefIdeal.nD Cert.ProjRefIdeal.τ).loc Cert.ProjRefIdeal.main_v224) = v1 c
          ∧ r.2.mem ((c.tc : Thread Cert.ProjRefIdeal.nD Cert.ProjRefIdeal.τ).loc Cert.ProjRefIdeal.main_v226) = v2 c
          ∧ r.2.mem ((c.tc : Thread Cert.ProjRefIdeal.nD Cert.ProjRefIdeal.τ).loc Cert.ProjRefIdeal.main_v228) = v3 c
          ∧ r.2.mem ((c.tc : Thread Cert.ProjRefIdeal.nD Cert.ProjRefIdeal.τ).loc Cert.ProjRefIdeal.main_v229) = v4 c
          ∧ r.2.mem ((c.tc : Thread Cert.ProjRefIdeal.nD Cert.ProjRefIdeal.τ).loc Cert.ProjRefIdeal.main_v230) = v5 c
          ∧ r.2.mem ((c.tc : Thread Cert.ProjRefIdeal.nD Cert.ProjRefIdeal.τ).loc Cert.ProjRefIdeal.main_v231) = v6 c
          ∧ r.2.mem ((c.tc : Thread Cert.ProjRefIdeal.nD Cert.ProjRefIdeal.τ).loc Cert.ProjRefIdeal.main_v232) = v7 c
          ∧ r.2.mem ((c.tc : Thread Cert.ProjRefIdeal.nD Cert.ProjRefIdeal.τ).loc Cert.ProjRefIdeal.main_v233) = v8 c
          ∧ r.2.mem ((c.tc : Thread Cert.ProjRefIdeal.nD Cert.ProjRefIdeal.τ).loc Cert.ProjRefIdeal.main_v234) = v9 c
          ∧ r.2.mem ((c.tc : Thread Cert.ProjRefIdeal.nD Cert.ProjRefIdeal.τ).loc Cert.ProjRefIdeal.main_v235) = v10 c
          ∧ r.2.mem ((c.tc : Thread Cert.ProjRefIdeal.nD Cert.ProjRefIdeal.τ).loc Cert.ProjRefIdeal.main_v236) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)) →
    ∃ (v0 : (c : Dev Cert.FfnSIdeal.nD) → Buf (Elt Ideal) ((c.tc : Thread Cert.FfnSIdeal.nD Cert.FfnSIdeal.τ).loc Cert.FfnSIdeal.main_v5)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v5) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v7) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)
      ∧ m' ((c.tc : Thread Cert.MergeSRefIdeal.nD Cert.MergeSRefIdeal.τ).loc Cert.MergeSRefIdeal.main_arg10) = m ((c.tc : Thread Cert.MergeSIdeal.nD Cert.MergeSIdeal.τ).loc Cert.MergeSIdeal.main_arg10)) →
    ∃ (v0 : (c : Dev Cert.MergeSIdeal.nD) → Buf (Elt Ideal) ((c.tc : Thread Cert.MergeSIdeal.nD Cert.MergeSIdeal.τ).loc Cert.MergeSIdeal.main_v5_0)) (v1 : (c : Dev Cert.MergeSIdeal.nD) → Buf (Elt Ideal) ((c.tc : Thread Cert.MergeSIdeal.nD Cert.MergeSIdeal.τ).loc Cert.MergeSIdeal.main_v5_1)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v5_0) = v0 c
          ∧ r.2.mem ((c.tc : Thread Cert.MergeSIdeal.nD Cert.MergeSIdeal.τ).loc Cert.MergeSIdeal.main_v5_1) = v1 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v36) = v0 c
          ∧ r.2.mem ((c.tc : Thread Cert.MergeSRefIdeal.nD Cert.MergeSRefIdeal.τ).loc Cert.MergeSRefIdeal.main_v50) = v1 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9)
          ∧ r.2.mem ((c.tc : Thread Cert.MergeSRefIdeal.nD Cert.MergeSRefIdeal.τ).loc Cert.MergeSRefIdeal.main_arg10) = m' ((c.tc : Thread Cert.MergeSRefIdeal.nD Cert.MergeSRefIdeal.τ).loc Cert.MergeSRefIdeal.main_arg10))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hFfnS : Cert.FfnS.Facts) (hFfnSIdeal : Cert.FfnSIdeal.Facts) (hFfnSRefIdeal : Cert.FfnSRefIdeal.Facts) (hMergeS : Cert.MergeS.Facts) (hMergeSIdeal : Cert.MergeSIdeal.Facts) (hMergeSRefIdeal : Cert.MergeSRefIdeal.Facts) (hPre_decay_finite : Cert.Pre_decay_finite.Facts) (hPre_proj_finite : Cert.Pre_proj_finite.Facts),
    quiescent_Gla (hGla := hGla)
    ∧ quiescent_GlaIdeal (hGlaIdeal := hGlaIdeal)
    ∧ quiescent_GlaIdeal_pre_decay_finite (hGlaIdeal := hGlaIdeal) (hPre_decay_finite := hPre_decay_finite)
    ∧ quiescent_GlaRefIdeal (hGlaRefIdeal := hGlaRefIdeal)
    ∧ quiescent_GlaRefIdeal_pre_decay_finite (hGlaRefIdeal := hGlaRefIdeal) (hPre_decay_finite := hPre_decay_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ preserves_Gla_GlaIdeal
    ∧ algebraic_GlaIdeal_GlaRefIdeal_pre_decay_finite (hGlaIdeal := hGlaIdeal) (hGlaRefIdeal := hGlaRefIdeal) (hPre_decay_finite := hPre_decay_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_FfnS_FfnSIdeal
    ∧ algebraic_FfnSIdeal_FfnSRefIdeal (hFfnSIdeal := hFfnSIdeal) (hFfnSRefIdeal := hFfnSRefIdeal)
    ∧ preserves_MergeS_MergeSIdeal
    ∧ algebraic_MergeSIdeal_MergeSRefIdeal (hMergeSIdeal := hMergeSIdeal) (hMergeSRefIdeal := hMergeSRefIdeal)
-- ==== Pre_decay_finite.lean ====
abbrev S128x8x4x64 : Shape := ⟨4, ![128, 8, 4, 64]⟩
abbrev S128x8x4x128 : Shape := ⟨4, ![128, 8, 4, 128]⟩
abbrev S128x4x64x128 : Shape := ⟨4, ![128, 4, 64, 128]⟩
abbrev S_ : Shape := ⟨0, ![]⟩

class Facts : Prop where
  bcast_S_S128x8x4x64 : S_.BroadcastsInDim S128x8x4x64 (![] : Fin 0 → Fin S128x8x4x64.rank)

variable [Facts]

def fn {F : FTy → Type} [FloatOps F] (main_arg0 : FVec F S128x8x4x64 .f32) (main_arg1 : FVec F S128x8x4x64 .f32) (main_arg2 : FVec F S128x8x4x128 .f32) (main_arg3 : FVec F S128x8x4x64 .f32) (main_arg4 : FVec F S128x4x64x128 .f32) : IVec S128x8x4x64 1 :=
  let main_v0 : FVec F S128x8x4x64 .f32 := Host.absf main_arg3
  let main_cst : FVec F S_ .f32 := constant S_ .f32 0x7F800000#32
  let main_v1 : FVec F S128x8x4x64 .f32 := broadcastInDim S128x8x4x64 ![] bcast_S_S128x8x4x64 main_cst
  let main_v2 : IVec S128x8x4x64 1 := cmpf .olt main_v0 main_v1
  main_v2
-- ==== Pre_proj_finite.lean ====
abbrev S16384x1024 : Shape := ⟨2, ![16384, 1024]⟩
abbrev S1024 : Shape := ⟨1, ![1024]⟩
abbrev S1024x4948 : Shape := ⟨2, ![1024, 4948]⟩
abbrev S64 : Shape := ⟨1, ![64]⟩
abbrev S16x256 : Shape := ⟨2, ![16, 256]⟩
abbrev S256 : Shape := ⟨1, ![256]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4948 : S_.BroadcastsInDim S1024x4948 (![] : Fin 0 → Fin S1024x4948.rank)
  bcast_S_S16x256 : S_.BroadcastsInDim S16x256 (![] : Fin 0 → Fin S16x256.rank)

variable [Facts]

def fn {F : FTy → Type} [FloatOps F] (main_arg0 : FVec F S16384x1024 .f32) (main_arg1 : FVec F S1024 .f32) (main_arg2 : FVec F S1024x4948 .f32) (main_arg3 : FVec F S64 .f32) (main_arg4 : FVec F S64 .f32) (main_arg5 : FVec F S64 .f32) (main_arg6 : FVec F S16x256 .f32) (main_arg7 : FVec F S256 .f32) : IVec S16384x1024 1 × IVec S1024 1 × IVec S1024x4948 1 × IVec S16x256 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4948 .f32 := Host.absf main_arg2
  let main_cst_1 : FVec F S_ .f32 := constant S_ .f32 0x7F800000#32
  let main_v7 : FVec F S1024x4948 .f32 := broadcastInDim S1024x4948 ![] bcast_S_S1024x4948 main_cst_1
  let main_v8 : IVec S1024x4948 1 := cmpf .olt main_v6 main_v7
  let main_v9 : FVec F S16x256 .f32 := Host.absf main_arg6
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  (main_v2, main_v5, main_v8, main_v11)
-- ==== Gla.lean ====
abbrev S128x8x4x64 : Shape := ⟨4, ![128, 8, 4, 64]⟩
abbrev S128x8x4x128 : Shape := ⟨4, ![128, 8, 4, 128]⟩
abbrev S128x4x64x128 : Shape := ⟨4, ![128, 4, 64, 128]⟩
abbrev S1024x256 : Shape := ⟨2, ![1024, 256]⟩
abbrev S128x8x256 : Shape := ⟨3, ![128, 8, 256]⟩
abbrev S1024x512 : Shape := ⟨2, ![1024, 512]⟩
abbrev S128x8x512 : Shape := ⟨3, ![128, 8, 512]⟩
abbrev S8x8x256 : Shape := ⟨3, ![8, 8, 256]⟩
abbrev S8x8x512 : Shape := ⟨3, ![8, 8, 512]⟩
abbrev S8x4x64x128 : Shape := ⟨4, ![8, 4, 64, 128]⟩
abbrev S8x8 : Shape := ⟨2, ![8, 8]⟩
abbrev S64x64 : Shape := ⟨2, ![64, 64]⟩
abbrev S1x8x256 : Shape := ⟨3, ![1, 8, 256]⟩
abbrev S8x256 : Shape := ⟨2, ![8, 256]⟩
abbrev S1x256 : Shape := ⟨2, ![1, 256]⟩
abbrev S1x8x512 : Shape := ⟨3, ![1, 8, 512]⟩
abbrev S8x512 : Shape := ⟨2, ![8, 512]⟩
abbrev S1x64 : Shape := ⟨2, ![1, 64]⟩
abbrev S64 : Shape := ⟨1, ![64]⟩
abbrev S64x1 : Shape := ⟨2, ![64, 1]⟩
abbrev S8x64 : Shape := ⟨2, ![8, 64]⟩
abbrev S8x128 : Shape := ⟨2, ![8, 128]⟩
abbrev S64x128 : Shape := ⟨2, ![64, 128]⟩
abbrev S1x1x64x128 : Shape := ⟨4, ![1, 1, 64, 128]⟩
abbrev S1x8x128 : Shape := ⟨3, ![1, 8, 128]⟩

abbrev nBuf : Space → Nat
  | .hbm => 15
  | .vmem => 15
  | .smem => 0
  | _ => 0

abbrev bufTy : (tb : Table) → Fin (tcTables nBuf tb) → BufTy
  | .hbm, ⟨0, _⟩ => ⟨S128x8x4x64, .f32⟩
  | .hbm, ⟨1, _⟩ => ⟨S128x8x4x64, .f32⟩
  | .hbm, ⟨2, _⟩ => ⟨S128x8x4x128, .f32⟩
  | .hbm, ⟨3, _⟩ => ⟨S128x8x4x64, .f32⟩
  | .hbm, ⟨4, _⟩ => ⟨S128x4x64x128, .f32⟩
  | .hbm, ⟨5, _⟩ => ⟨S1024x256, .f32⟩
  | .hbm, ⟨6, _⟩ => ⟨S128x8x256, .f32⟩
  | .hbm, ⟨7, _⟩ => ⟨S1024x256, .f32⟩
  | .hbm, ⟨8, _⟩ => ⟨S128x8x256, .f32⟩
  | .hbm, ⟨9, _⟩ => ⟨S1024x512, .f32⟩
  | .hbm, ⟨10, _⟩ => ⟨S128x8x512, .f32⟩
  | .hbm, ⟨11, _⟩ => ⟨S1024x256, .f32⟩
  | .hbm, ⟨12, _⟩ => ⟨S128x8x256, .f32⟩
  | .hbm, ⟨13, _⟩ => ⟨S128x8x512, .f32⟩
  | .hbm, ⟨14, _⟩ => ⟨S128x4x64x128, .f32⟩
  | .local _ .vmem, ⟨0, _⟩ => ⟨S8x8x256, .f32⟩
  | .local _ .vmem, ⟨1, _⟩ => ⟨S8x8x256, .f32⟩
  | .local _ .vmem, ⟨2, _⟩ => ⟨S8x8x256, .f32⟩
  | .local _ .vmem, ⟨3, _⟩ => ⟨S8x8x256, .f32⟩
  | .local _ .vmem, ⟨4, _⟩ => ⟨S8x8x512, .f32⟩
  | .local _ .vmem, ⟨5, _⟩ => ⟨S8x8x512, .f32⟩
  | .local _ .vmem, ⟨6, _⟩ => ⟨S8x8x256, .f32⟩
  | .local _ .vmem, ⟨7, _⟩ => ⟨S8x8x256, .f32⟩
  | .local _ .vmem, ⟨8, _⟩ => ⟨S8x4x64x128, .f32⟩
  | .local _ .vmem, ⟨9, _⟩ => ⟨S8x4x64x128, .f32⟩
  | .local _ .vmem, ⟨10, _⟩ => ⟨S8x8x512, .f32⟩
  | .local _ .vmem, ⟨11, _⟩ => ⟨S8x8x512, .f32⟩
  | .local _ .vmem, ⟨12, _⟩ => ⟨S8x4x64x128, .f32⟩
  | .local _ .vmem, ⟨13, _⟩ => ⟨S8x4x64x128, .f32⟩
  | .local _ .vmem, ⟨14, _⟩ => ⟨S8x4x64x128, .f32⟩
  | _, _ => ⟨S128x8x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def k0_mult1 : BitVec 32 :=
  let c0_i32_1 : BitVec 32 := 0#32
  let c8_i32 : BitVec 32 := 8#32
  let v3 : BitVec 32 := Scalar.muli c0_i32_1 c8_i32
  v3
def k0_off1 : Fin 3 → Nat :=
  let c0 : Index := 0#32
  let c0_i32_1 : BitVec 32 := 0#32
  let c8_i32 : BitVec 32 := 8#32
  let v3 : BitVec 32 := Scalar.muli c0_i32_1 c8_i32
  let v4 : BitVec 32 := v3
  let v15 : Index := Scalar.indexCast v4
  let c0_3 : Index := 0#32
  ![0, v15.toNat, 0]
def k0_off2 : Fin 3 → Nat :=
  let c0_12 : Index := 0#32
  let c0_i32_1 : BitVec 32 := 0#32
  let c8_i32 : BitVec 32 := 8#32
  let v3 : BitVec 32 := Scalar.muli c0_i32_1 c8_i32
  let v4 : BitVec 32 := v3
  let v40 : Index := Scalar.indexCast v4
  let c0_13 : Index := 0#32
  ![0, v40.toNat, 0]
def k0_off3 : Fin 3 → Nat :=
  let c0_43 : Index := 0#32
  let c0_i32_1 : BitVec 32 := 0#32
  let c8_i32 : BitVec 32 := 8#32
  let v3 : BitVec 32 := Scalar.muli c0_i32_1 c8_i32
  let v4 : BitVec 32 := v3
  let v147 : Index := Scalar.indexCast v4
  let c0_44 : Index := 0#32
  ![0, v147.toNat, 0]
def k0_off4 : Fin 3 → Nat :=
  let c0_53 : Index := 0#32
  let c0_i32_1 : BitVec 32 := 0#32
  let c8_i32 : BitVec 32 := 8#32
  let v3 : BitVec 32 := Scalar.muli c0_i32_1 c8_i32
  let v4 : BitVec 32 := v3
  let v162 : Index := Scalar.indexCast v4
  let c128 : Index := 128#32
  ![0, v162.toNat, 128]
def k0_off5 : Fin 3 → Nat :=
  let c0_62 : Index := 0#32
  let c0_i32_1 : BitVec 32 := 0#32
  let c8_i32 : BitVec 32 := 8#32
  let v3 : BitVec 32 := Scalar.muli c0_i32_1 c8_i32
  let v4 : BitVec 32 := v3
  let v177 : Index := Scalar.indexCast v4
  let c256 : Index := 256#32
  ![0, v177.toNat, 256]
def k0_off6 : Fin 3 → Nat :=
  let c0_71 : Index := 0#32
  let c0_i32_1 : BitVec 32 := 0#32
  let c8_i32 : BitVec 32 := 8#32
  let v3 : BitVec 32 := Scalar.muli c0_i32_1 c8_i32
  let v4 : BitVec 32 := v3
  let v192 : Index := Scalar.indexCast v4
  let c384 : Index := 384#32
  ![0, v192.toNat, 384]
def k0_off7 : Fin 3 → Nat :=
  let c1_78 : Index := 1#32
  let c0_i32_1 : BitVec 32 := 0#32
  let c8_i32 : BitVec 32 := 8#32
  let v3 : BitVec 32 := Scalar.muli c0_i32_1 c8_i32
  let v4 : BitVec 32 := v3
  let v212 : Index := Scalar.indexCast v4
  let c0_79 : Index := 0#32
  ![1, v212.toNat, 0]
def k0_off8 : Fin 3 → Nat :=
  let c1_88 : Index := 1#32
  let c0_i32_1 : BitVec 32 := 0#32
  let c8_i32 : BitVec 32 := 8#32
  let v3 : BitVec 32 := Scalar.muli c0_i32_1 c8_i32
  let v4 : BitVec 32 := v3
  let v237 : Index := Scalar.indexCast v4
  let c0_89 : Index := 0#32
  ![1, v237.toNat, 0]
def k0_off9 : Fin 3 → Nat :=
  let c1_119 : Index := 1#32
  let c0_i32_1 : BitVec 32 := 0#32
  let c8_i32 : BitVec 32 := 8#32
  let v3 : BitVec 32 := Scalar.muli c0_i32_1 c8_i32
  let v4 : BitVec 32 := v3
  let v344 : Index := Scalar.indexCast v4
  let c0_120 : Index := 0#32
  ![1, v344.toNat, 0]
def k0_off10 : Fin 3 → Nat :=
  let c1_130 : Index := 1#32
  let c0_i32_1 : BitVec 32 := 0#32
  let c8_i32 : BitVec 32 := 8#32
  let v3 : BitVec 32 := Scalar.muli c0_i32_1 c8_i32
  let v4 : BitVec 32 := v3
  let v359 : Index := Scalar.indexCast v4
  let c128_131 : Index := 128#32
  ![1, v359.toNat, 128]
def k0_off11 : Fin 3 → Nat :=
  let c1_141 : Index := 1#32
  let c0_i32_1 : BitVec 32 := 0#32
  let c8_i32 : BitVec 32 := 8#32
  let v3 : BitVec 32 := Scalar.muli c0_i32_1 c8_i32
  let v4 : BitVec 32 := v3
  let v374 : Index := Scalar.indexCast v4
  let c256_142 : Index := 256#32
  ![1, v374.toNat, 256]
def k0_off12 : Fin 3 → Nat :=
  let c1_152 : Index := 1#32
  let c0_i32_1 : BitVec 32 := 0#32
  let c8_i32 : BitVec 32 := 8#32
  let v3 : BitVec 32 := Scalar.muli c0_i32_1 c8_i32
  let v4 : BitVec 32 := v3
  let v389 : Index := Scalar.indexCast v4
  let c384_153 : Index := 384#32
  ![1, v389.toNat, 384]
def k0_off13 : Fin 3 → Nat :=
  let c2_160 : Index := 2#32
  let c0_i32_1 : BitVec 32 := 0#32
  let c8_i32 : BitVec 32 := 8#32
  let v3 : BitVec 32 := Scalar.muli c0_i32_1 c8_i32
  let v4 : BitVec 32 := v3
  let v409 : Index := Scalar.indexCast v4
  let c0_161 : Index := 0#32
  ![2, v409.toNat, 0]
def k0_off14 : Fin 3 → Nat :=
  let c2_170 : Index := 2#32
  let c0_i32_1 : BitVec 32 := 0#32
  let c8_i32 : BitVec 32 := 8#32
  let v3 : BitVec 32 := Scalar.muli c0_i32_1 c8_i32
  let v4 : BitVec 32 := v3
  let v434 : Index := Scalar.indexCast v4
  let c0_171 : Index := 0#32
  ![2, v434.toNat, 0]
def k0_off15 : Fin 3 → Nat :=
  let c2_201 : Index := 2#32
  let c0_i32_1 : BitVec 32 := 0#32
  let c8_i32 : BitVec 32 := 8#32
  let v3 : BitVec 32 := Scalar.muli c0_i32_1 c8_i32
  let v4 : BitVec 32 := v3
  let v541 : Index := Scalar.indexCast v4
  let c0_202 : Index := 0#32
  ![2, v541.toNat, 0]
def k0_off16 : Fin 3 → Nat :=
  let c2_212 : Index := 2#32
  let c0_i32_1 : BitVec 32 := 0#32
  let c8_i32 : BitVec 32 := 8#32
  let v3 : BitVec 32 := Scalar.muli c0_i32_1 c8_i32
  let v4 : BitVec 32 := v3
  let v556 : Index := Scalar.indexCast v4
  let c128_213 : Index := 128#32
  ![2, v556.toNat, 128]
def k0_off17 : Fin 3 → Nat :=
  let c2_223 : Index := 2#32
  let c0_i32_1 : BitVec 32 := 0#32
  let c8_i32 : BitVec 32 := 8#32
  let v3 : BitVec 32 := Scalar.muli c0_i32_1 c8_i32
  let v4 : BitVec 32 := v3
  let v571 : Index := Scalar.indexCast v4
  let c256_224 : Index := 256#32
  ![2, v571.toNat, 256]
def k0_off18 : Fin 3 → Nat :=
  let c2_234 : Index := 2#32
  let c0_i32_1 : BitVec 32 := 0#32
  let c8_i32 : BitVec 32 := 8#32
  let v3 : BitVec 32 := Scalar.muli c0_i32_1 c8_i32
  let v4 : BitVec 32 := v3
  let v586 : Index := Scalar.indexCast v4
  let c384_235 : Index := 384#32
  ![2, v586.toNat, 384]
def k0_off19 : Fin 3 → Nat :=
  let c3_242 : Index := 3#32
  let c0_i32_1 : BitVec 32 := 0#32
  let c8_i32 : BitVec 32 := 8#32
  let v3 : BitVec 32 := Scalar.muli c0_i32_1 c8_i32
  let v4 : BitVec 32 := v3
  let v606 : Index := Scalar.indexCast v4
  let c0_243 : Index := 0#32
  ![3, v606.toNat, 0]
def k0_off20 : Fin 3 → Nat :=
  let c3_252 : Index := 3#32
  let c0_i32_1 : BitVec 32 := 0#32
  let c8_i32 : BitVec 32 := 8#32
  let v3 : BitVec 32 := Scalar.muli c0_i32_1 c8_i32
  let v4 : BitVec 32 := v3
  let v631 : Index := Scalar.indexCast v4
  let c0_253 : Index := 0#32
  ![3, v631.toNat, 0]
def k0_off21 : Fin 3 → Nat :=
  let c3_283 : Index := 3#32
  let c0_i32_1 : BitVec 32 := 0#32
  let c8_i32 : BitVec 32 := 8#32
  let v3 : BitVec 32 := Scalar.muli c0_i32_1 c8_i32
  let v4 : BitVec 32 := v3
  let v738 : Index := Scalar.indexCast v4
  let c0_284 : Index := 0#32
  ![3, v738.toNat, 0]
def k0_off22 : Fin 3 → Nat :=
  let c3_294 : Index := 3#32
  let c0_i32_1 : BitVec 32 := 0#32
  let c8_i32 : BitVec 32 := 8#32
  let v3 : BitVec 32 := Scalar.muli c0_i32_1 c8_i32
  let v4 : BitVec 32 := v3
  let v753 : Index := Scalar.indexCast v4
  let c128_295 : Index := 128#32
  ![3, v753.toNat, 128]
def k0_off23 : Fin 3 → Nat :=
  let c3_305 : Index := 3#32
  let c0_i32_1 : BitVec 32 := 0#32
  let c8_i32 : BitVec 32 := 8#32
  let v3 : BitVec 32 := Scalar.muli c0_i32_1 c8_i32
  let v4 : BitVec 32 := v3
  let v768 : Index := Scalar.indexCast v4
  let c256_306 : Index := 256#32
  ![3, v768.toNat, 256]
def k0_off24 : Fin 3 → Nat :=
  let c3_316 : Index := 3#32
  let c0_i32_1 : BitVec 32 := 0#32
  let c8_i32 : BitVec 32 := 8#32
  let v3 : BitVec 32 := Scalar.muli c0_i32_1 c8_i32
  let v4 : BitVec 32 := v3
  let v783 : Index := Scalar.indexCast v4
  let c384_317 : Index := 384#32
  ![3, v783.toNat, 384]
def k0_off25 : Fin 3 → Nat :=
  let c4 : Index := 4#32
  let c0_i32_1 : BitVec 32 := 0#32
  let c8_i32 : BitVec 32 := 8#32
  let v3 : BitVec 32 := Scalar.muli c0_i32_1 c8_i32
  let v4 : BitVec 32 := v3
  let v803 : Index := Scalar.indexCast v4
  let c0_324 : Index := 0#32
  ![4, v803.toNat, 0]
def k0_off26 : Fin 3 → Nat :=
  let c4_333 : Index := 4#32
  let c0_i32_1 : BitVec 32 := 0#32
  let c8_i32 : BitVec 32 := 8#32
  let v3 : BitVec 32 := Scalar.muli c0_i32_1 c8_i32
  let v4 : BitVec 32 := v3
  let v828 : Index := Scalar.indexCast v4
  let c0_334 : Index := 0#32
  ![4, v828.toNat, 0]
def k0_off27 : Fin 3 → Nat :=
  let c4_364 : Index := 4#32
  let c0_i32_1 : BitVec 32 := 0#32
  let c8_i32 : BitVec 32 := 8#32
  let v3 : BitVec 32 := Scalar.muli c0_i32_1 c8_i32
  let v4 : BitVec 32 := v3
  let v935 : Index := Scalar.indexCast v4
  let c0_365 : Index := 0#32
  ![4, v935.toNat, 0]
def k0_off28 : Fin 3 → Nat :=
  let c4_375 : Index := 4#32
  let c0_i32_1 : BitVec 32 := 0#32
  let c8_i32 : BitVec 32 := 8#32
  let v3 : BitVec 32 := Scalar.muli c0_i32_1 c8_i32
  let v4 : BitVec 32 := v3
  let v950 : Index := Scalar.indexCast v4
  let c128_376 : Index := 128#32
  ![4, v950.toNat, 128]
def k0_off29 : Fin 3 → Nat :=
  let c4_386 : Index := 4#32
  let c0_i32_1 : BitVec 32 := 0#32
  let c8_i32 : BitVec 32 := 8#32
  let v3 : BitVec 32 := Scalar.muli c0_i32_1 c8_i32
  let v4 : BitVec 32 := v3
  let v965 : Index := Scalar.indexCast v4
  let c256_387 : Index := 256#32
  ![4, v965.toNat, 256]
def k0_off30 : Fin 3 → Nat :=
  let c4_397 : Index := 4#32
  let c0_i32_1 : BitVec 32 := 0#32
  let c8_i32 : BitVec 32 := 8#32
  let v3 : BitVec 32 := Scalar.muli c0_i32_1 c8_i32
  let v4 : BitVec 32 := v3
  let v980 : Index := Scalar.indexCast v4
  let c384_398 : Index := 384#32
  ![4, v980.toNat, 384]
def k0_off31 : Fin 3 → Nat :=
  let c5 : Index := 5#32
  let c0_i32_1 : BitVec 32 := 0#32
  let c8_i32 : BitVec 32 := 8#32
  let v3 : BitVec 32 := Scalar.muli c0_i32_1 c8_i32
  let v4 : BitVec 32 := v3
  let v1000 : Index := Scalar.indexCast v4
  let c0_405 : Index := 0#32
  ![5, v1000.toNat, 0]
def k0_off32 : Fin 3 → Nat :=
  let c5_414 : Index := 5#32
  let c0_i32_1 : BitVec 32 := 0#32
  let c8_i32 : BitVec 32 := 8#32
  let v3 : BitVec 32 := Scalar.muli c0_i32_1 c8_i32
  let v4 : BitVec 32 := v3
  let v1025 : Index := Scalar.indexCast v4
  let c0_415 : Index := 0#32
  ![5, v1025.toNat, 0]
def k0_off33 : Fin 3 → Nat :=
  let c5_445 : Index := 5#32
  let c0_i32_1 : BitVec 32 := 0#32
  let c8_i32 : BitVec 32 := 8#32
  let v3 : BitVec 32 := Scalar.muli c0_i32_1 c8_i32
  let v4 : BitVec 32 := v3
  let v1132 : Index := Scalar.indexCast v4
  let c0_446 : Index := 0#32
  ![5, v1132.toNat, 0]
def k0_off34 : Fin 3 → Nat :=
  let c5_456 : Index := 5#32
  let c0_i32_1 : BitVec 32 := 0#32
  let c8_i32 : BitVec 32 := 8#32
  let v3 : BitVec 32 := Scalar.muli c0_i32_1 c8_i32
  let v4 : BitVec 32 := v3
  let v1147 : Index := Scalar.indexCast v4
  let c128_457 : Index := 128#32
  ![5, v1147.toNat, 128]
def k0_off35 : Fin 3 → Nat :=
  let c5_467 : Index := 5#32
  let c0_i32_1 : BitVec 32 := 0#32
  let c8_i32 : BitVec 32 := 8#32
  let v3 : BitVec 32 := Scalar.muli c0_i32_1 c8_i32
  let v4 : BitVec 32 := v3
  let v1162 : Index := Scalar.indexCast v4
  let c256_468 : Index := 256#32
  ![5, v1162.toNat, 256]
def k0_off36 : Fin 3 → Nat :=
  let c5_478 : Index := 5#32
  let c0_i32_1 : BitVec 32 := 0#32
  let c8_i32 : BitVec 32 := 8#32
  let v3 : BitVec 32 := Scalar.muli c0_i32_1 c8_i32
  let v4 : BitVec 32 := v3
  let v1177 : Index := Scalar.indexCast v4
  let c384_479 : Index := 384#32
  ![5, v1177.toNat, 384]
def k0_off37 : Fin 3 → Nat :=
  let c6 : Index := 6#32
  let c0_i32_1 : BitVec 32 := 0#32
  let c8_i32 : BitVec 32 := 8#32
  let v3 : BitVec 32 := Scalar.muli c0_i32_1 c8_i32
  let v4 : BitVec 32 := v3
  let v1197 : Index := Scalar.indexCast v4
  let c0_486 : Index := 0#32
  ![6, v1197.toNat, 0]
def k0_off38 : Fin 3 → Nat :=
  let c6_495 : Index := 6#32
  let c0_i32_1 : BitVec 32 := 0#32
  let c8_i32 : BitVec 32 := 8#32
  let v3 : BitVec 32 := Scalar.muli c0_i32_1 c8_i32
  let v4 : BitVec 32 := v3
  let v1222 : Index := Scalar.indexCast v4
  let c0_496 : Index := 0#32
  ![6, v1222.toNat, 0]
def k0_off39 : Fin 3 → Nat :=
  let c6_526 : Index := 6#32
  let c0_i32_1 : BitVec 32 := 0#32
  let c8_i32 : BitVec 32 := 8#32
  let v3 : BitVec 32 := Scalar.muli c0_i32_1 c8_i32
  let v4 : BitVec 32 := v3
  let v1329 : Index := Scalar.indexCast v4
  let c0_527 : Index := 0#32
  ![6, v1329.toNat, 0]
def k0_off40 : Fin 3 → Nat :=
  let c6_537 : Index := 6#32
  let c0_i32_1 : BitVec 32 := 0#32
  let c8_i32 : BitVec 32 := 8#32
  let v3 : BitVec 32 := Scalar.muli c0_i32_1 c8_i32
  let v4 : BitVec 32 := v3
  let v1344 : Index := Scalar.indexCast v4
  let c128_538 : Index := 128#32
  ![6, v1344.toNat, 128]
def k0_off41 : Fin 3 → Nat :=
  let c6_548 : Index := 6#32
  let c0_i32_1 : BitVec 32 := 0#32
  let c8_i32 : BitVec 32 := 8#32
  let v3 : BitVec 32 := Scalar.muli c0_i32_1 c8_i32
  let v4 : BitVec 32 := v3
  let v1359 : Index := Scalar.indexCast v4
  let c256_549 : Index := 256#32
  ![6, v1359.toNat, 256]
def k0_off42 : Fin 3 → Nat :=
  let c6_559 : Index := 6#32
  let c0_i32_1 : BitVec 32 := 0#32
  let c8_i32 : BitVec 32 := 8#32
  let v3 : BitVec 32 := Scalar.muli c0_i32_1 c8_i32
  let v4 : BitVec 32 := v3
  let v1374 : Index := Scalar.indexCast v4
  let c384_560 : Index := 384#32
  ![6, v1374.toNat, 384]
def k0_off43 : Fin 3 → Nat :=
  let c7 : Index := 7#32
  let c0_i32_1 : BitVec 32 := 0#32
  let c8_i32 : BitVec 32 := 8#32
  let v3 : BitVec 32 := Scalar.muli c0_i32_1 c8_i32
  let v4 : BitVec 32 := v3
  let v1394 : Index := Scalar.indexCast v4
  let c0_567 : Index := 0#32
  ![7, v1394.toNat, 0]
def k0_off44 : Fin 3 → Nat :=
  let c7_576 : Index := 7#32
  let c0_i32_1 : BitVec 32 := 0#32
  let c8_i32 : BitVec 32 := 8#32
  let v3 : BitVec 32 := Scalar.muli c0_i32_1 c8_i32
  let v4 : BitVec 32 := v3
  let v1419 : Index := Scalar.indexCast v4
  let c0_577 : Index := 0#32
  ![7, v1419.toNat, 0]
def k0_off45 : Fin 3 → Nat :=
  let c7_607 : Index := 7#32
  let c0_i32_1 : BitVec 32 := 0#32
  let c8_i32 : BitVec 32 := 8#32
  let v3 : BitVec 32 := Scalar.muli c0_i32_1 c8_i32
  let v4 : BitVec 32 := v3
  let v1526 : Index := Scalar.indexCast v4
  let c0_608 : Index := 0#32
  ![7, v1526.toNat, 0]
def k0_off46 : Fin 3 → Nat :=
  let c7_618 : Index := 7#32
  let c0_i32_1 : BitVec 32 := 0#32
  let c8_i32 : BitVec 32 := 8#32
  let v3 : BitVec 32 := Scalar.muli c0_i32_1 c8_i32
  let v4 : BitVec 32 := v3
  let v1541 : Index := Scalar.indexCast v4
  let c128_619 : Index := 128#32
  ![7, v1541.toNat, 128]
def k0_off47 : Fin 3 → Nat :=
  let c7_629 : Index := 7#32
  let c0_i32_1 : BitVec 32 := 0#32
  let c8_i32 : BitVec 32 := 8#32
  let v3 : BitVec 32 := Scalar.muli c0_i32_1 c8_i32
  let v4 : BitVec 32 := v3
  let v1556 : Index := Scalar.indexCast v4
  let c256_630 : Index := 256#32
  ![7, v1556.toNat, 256]
def k0_off48 : Fin 3 → Nat :=
  let c7_640 : Index := 7#32
  let c0_i32_1 : BitVec 32 := 0#32
  let c8_i32 : BitVec 32 := 8#32
  let v3 : BitVec 32 := Scalar.muli c0_i32_1 c8_i32
  let v4 : BitVec 32 := v3
  let v1571 : Index := Scalar.indexCast v4
  let c384_641 : Index := 384#32
  ![7, v1571.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GlaRefIdeal.lean ====
abbrev S128x8x4x64 : Shape := ⟨4, ![128, 8, 4, 64]⟩
abbrev S128x8x4x128 : Shape := ⟨4, ![128, 8, 4, 128]⟩
abbrev S128x4x64x128 : Shape := ⟨4, ![128, 4, 64, 128]⟩
abbrev S128x4x8x64 : Shape := ⟨4, ![128, 4, 8, 64]⟩
abbrev S128x4x8x128 : Shape := ⟨4, ![128, 4, 8, 128]⟩
abbrev S_ : Shape := ⟨0, ![]⟩
abbrev S8x8 : Shape := ⟨2, ![8, 8]⟩
abbrev S128x4x8x1x64 : Shape := ⟨5, ![128, 4, 8, 1, 64]⟩
abbrev S128x4x1x8x64 : Shape := ⟨5, ![128, 4, 1, 8, 64]⟩
abbrev S128x4x8x8x64 : Shape := ⟨5, ![128, 4, 8, 8, 64]⟩
abbrev S8x8x1 : Shape := ⟨3, ![8, 8, 1]⟩
abbrev S128x4x8x8 : Shape := ⟨4, ![128, 4, 8, 8]⟩
abbrev S128x4x1x64 : Shape := ⟨4, ![128, 4, 1, 64]⟩
abbrev S128x4x64 : Shape := ⟨3, ![128, 4, 64]⟩
abbrev S128x4x64x1 : Shape := ⟨4, ![128, 4, 64, 1]⟩
abbrev S128x8x512 : Shape := ⟨3, ![128, 8, 512]⟩

abbrev nBuf : Space → Nat
  | .hbm => 62
  | .vmem => 0
  | .smem => 0
  | _ => 0

abbrev bufTy : (tb : Table) → Fin (tcTables nBuf tb) → BufTy
  | .hbm, ⟨0, _⟩ => ⟨S128x8x4x64, .f32⟩
  | .hbm, ⟨1, _⟩ => ⟨S128x8x4x64, .f32⟩
  | .hbm, ⟨2, _⟩ => ⟨S128x8x4x128, .f32⟩
  | .hbm, ⟨3, _⟩ => ⟨S128x8x4x64, .f32⟩
  | .hbm, ⟨4, _⟩ => ⟨S128x4x64x128, .f32⟩
  | .hbm, ⟨5, _⟩ => ⟨S128x4x8x64, .f32⟩
  | .hbm, ⟨6, _⟩ => ⟨S128x4x8x64, .f32⟩
  | .hbm, ⟨7, _⟩ => ⟨S128x4x8x128, .f32⟩
  | .hbm, ⟨8, _⟩ => ⟨S128x4x8x64, .f32⟩
  | .hbm, ⟨9, _⟩ => ⟨S_, .i1⟩
  | .hbm, ⟨10, _⟩ => ⟨S8x8, .i1⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S_, .i1⟩
  | .hbm, ⟨18, _⟩ => ⟨S8x8, .i1⟩
  | .hbm, ⟨19, _⟩ => ⟨S8x8, .i1⟩
  | .hbm, ⟨20, _⟩ => ⟨S_, .f32⟩
  | .hbm, ⟨21, _⟩ => ⟨S_, .f32⟩
  | .hbm, ⟨22, _⟩ => ⟨S128x4x8x64, .f32⟩
  | .hbm, ⟨23, _⟩ => ⟨S128x4x8x64, .f32⟩
  | .hbm, ⟨24, _⟩ => ⟨S128x4x8x64, .f32⟩
  | .hbm, ⟨25, _⟩ => ⟨S128x4x8x128, .f32⟩
  | .hbm, ⟨26, _⟩ => ⟨S128x4x8x1x64, .f32⟩
  | .hbm, ⟨27, _⟩ => ⟨S128x4x1x8x64, .f32⟩
  | .hbm, ⟨28, _⟩ => ⟨S128x4x8x8x64, .f32⟩
  | .hbm, ⟨29, _⟩ => ⟨S128x4x8x8x64, .f32⟩
  | .hbm, ⟨30, _⟩ => ⟨S128x4x8x8x64, .f32⟩
  | .hbm, ⟨31, _⟩ => ⟨S8x8x1, .i1⟩
  | .hbm, ⟨32, _⟩ => ⟨S_, .f32⟩
  | .hbm, ⟨33, _⟩ => ⟨S_, .f32⟩
  | .hbm, ⟨34, _⟩ => ⟨S128x4x8x8x64, .i1⟩
  | .hbm, ⟨35, _⟩ => ⟨S128x4x8x8x64, .f32⟩
  | .hbm, ⟨36, _⟩ => ⟨S128x4x8x8x64, .f32⟩
  | .hbm, ⟨37, _⟩ => ⟨S128x4x8x8x64, .f32⟩
  | .hbm, ⟨38, _⟩ => ⟨S128x4x8x1x64, .f32⟩
  | .hbm, ⟨39, _⟩ => ⟨S128x4x1x8x64, .f32⟩
  | .hbm, ⟨40, _⟩ => ⟨S128x4x8x8x64, .f32⟩
  | .hbm, ⟨41, _⟩ => ⟨S128x4x8x8x64, .f32⟩
  | .hbm, ⟨42, _⟩ => ⟨S128x4x8x8x64, .f32⟩
  | .hbm, ⟨43, _⟩ => ⟨S128x4x8x8x64, .f32⟩
  | .hbm, ⟨44, _⟩ => ⟨S_, .f32⟩
  | .hbm, ⟨45, _⟩ => ⟨S128x4x8x8, .f32⟩
  | .hbm, ⟨46, _⟩ => ⟨S128x4x8x128, .f32⟩
  | .hbm, ⟨47, _⟩ => ⟨S128x4x8x128, .f32⟩
  | .hbm, ⟨48, _⟩ => ⟨S128x4x1x64, .f32⟩
  | .hbm, ⟨49, _⟩ => ⟨S128x4x64, .f32⟩
  | .hbm, ⟨50, _⟩ => ⟨S128x4x64, .f32⟩
  | .hbm, ⟨51, _⟩ => ⟨S128x4x64x1, .f32⟩
  | .hbm, ⟨52, _⟩ => ⟨S128x4x64x128, .f32⟩
  | .hbm, ⟨53, _⟩ => ⟨S128x4x64x128, .f32⟩
  | .hbm, ⟨54, _⟩ => ⟨S128x4x8x64, .f32⟩
  | .hbm, ⟨55, _⟩ => ⟨S128x4x8x64, .f32⟩
  | .hbm, ⟨56, _⟩ => ⟨S128x4x8x64, .f32⟩
  | .hbm, ⟨57, _⟩ => ⟨S128x4x8x64, .f32⟩
  | .hbm, ⟨58, _⟩ => ⟨S128x4x64x128, .f32⟩
  | .hbm, ⟨59, _⟩ => ⟨S128x4x64x128, .f32⟩
  | .hbm, ⟨60, _⟩ => ⟨S128x8x4x128, .f32⟩
  | .hbm, ⟨61, _⟩ => ⟨S128x8x512, .f32⟩
  | _, _ => ⟨S128x8x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v5 : Ref sig .tc := ⟨.hbm, 19, rfl⟩
abbrev main_call1_call0_cst : Ref sig .tc := ⟨.hbm, 20, rfl⟩
abbrev main_call1_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S1024x2816 : Shape := ⟨2, ![1024, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1408_i32 : BitVec 32 := 1408#32
  let v3 : BitVec 32 := Scalar.muli arg1 c1408_i32
  v3
def k0_off1 (i : grid0.Coords) : Fin 2 → Nat :=
  let c0_2 : Index := 0#32
  let arg1 : BitVec 32 := BitVec.ofNat 32 (i 1).val
  let c1408_i32 : BitVec 32 := 1408#32
  let v3 : BitVec 32 := Scalar.muli arg1 c1408_i32
  let v4 : BitVec 32 := v3
  let v6 : Index := Scalar.indexCast v4
  ![0, v6.toNat]
def k0_off2 (i : grid0.Coords) : Fin 2 → Nat :=
  let arg1 : BitVec 32 := BitVec.ofNat 32 (i 1).val
  let c1408_i32 : BitVec 32 := 1408#32
  let v3 : BitVec 32 := Scalar.muli arg1 c1408_i32
  let v4 : BitVec 32 := v3
  let v25 : Index := Scalar.indexCast v4
  let c0_10 : Index := 0#32
  ![v25.toNat, 0]
def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnIdeal.lean ====
abbrev S16384x1024 : Shape := ⟨2, ![16384, 1024]⟩
abbrev S1024x5632 : Shape := ⟨2, ![1024, 5632]⟩
abbrev S2816x1024 : Shape := ⟨2, ![2816, 1024]⟩
abbrev S1024x2816 : Shape := ⟨2, ![1024, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1408_i32 : BitVec 32 := 1408#32
  let v3 : BitVec 32 := Scalar.muli arg1 c1408_i32
  v3
def k0_off1 (i : grid0.Coords) : Fin 2 → Nat :=
  let c0_2 : Index := 0#32
  let arg1 : BitVec 32 := BitVec.ofNat 32 (i 1).val
  let c1408_i32 : BitVec 32 := 1408#32
  let v3 : BitVec 32 := Scalar.muli arg1 c1408_i32
  let v4 : BitVec 32 := v3
  let v6 : Index := Scalar.indexCast v4
  ![0, v6.toNat]
def k0_off2 (i : grid0.Coords) : Fin 2 → Nat :=
  let arg1 : BitVec 32 := BitVec.ofNat 32 (i 1).val
  let c1408_i32 : BitVec 32 := 1408#32
  let v3 : BitVec 32 := Scalar.muli arg1 c1408_i32
  let v4 : BitVec 32 := v3
  let v25 : Index := Scalar.indexCast v4
  let c0_10 : Index := 0#32
  ![v25.toNat, 0]
def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1x128 : Shape := ⟨2, ![1, 128]⟩
abbrev S1x1024 : Shape := ⟨2, ![1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1x128, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S16384x1024, .f32⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeIdeal.lean ====
abbrev S16384x1024 : Shape := ⟨2, ![16384, 1024]⟩
abbrev S16384x512 : Shape := ⟨2, ![16384, 512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1x128 : Shape := ⟨2, ![1, 128]⟩
abbrev S1x1024 : Shape := ⟨2, ![1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1x128, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S16384x1024, .f32⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S16384x512 : Shape := ⟨2, ![16384, 512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S16384 : Shape := ⟨1, ![16384]⟩
abbrev S16384x1 : Shape := ⟨2, ![16384, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S16384x4x128, .f32⟩
  | .hbm, ⟨12, _⟩ => ⟨S16384x4x128, .f32⟩
  | .hbm, ⟨13, _⟩ => ⟨S_, .f32⟩
  | .hbm, ⟨14, _⟩ => ⟨S16384x4, .f32⟩
  | .hbm, ⟨15, _⟩ => ⟨S16384x4x1, .f32⟩
  | .hbm, ⟨16, _⟩ => ⟨S_, .f32⟩
  | .hbm, ⟨17, _⟩ => ⟨S16384x4x1, .f32⟩
  | .hbm, ⟨18, _⟩ => ⟨S16384x4x1, .f32⟩
  | .hbm, ⟨19, _⟩ => ⟨S_, .f32⟩
  | .hbm, ⟨20, _⟩ => ⟨S16384x4x1, .f32⟩
  | .hbm, ⟨21, _⟩ => ⟨S16384x4x1, .f32⟩
  | .hbm, ⟨22, _⟩ => ⟨S16384x4x1, .f32⟩
  | .hbm, ⟨23, _⟩ => ⟨S16384x4x128, .f32⟩
  | .hbm, ⟨24, _⟩ => ⟨S16384x4x128, .f32⟩
  | .hbm, ⟨25, _⟩ => ⟨S1x1x128, .f32⟩
  | .hbm, ⟨26, _⟩ => ⟨S16384x4x128, .f32⟩
  | .hbm, ⟨27, _⟩ => ⟨S16384x4x128, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x512, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x4948 : Shape := ⟨2, ![1024, 4948]⟩
abbrev S64 : Shape := ⟨1, ![64]⟩
abbrev S16x256 : Shape := ⟨2, ![16, 256]⟩
abbrev S256 : Shape := ⟨1, ![256]⟩
abbrev S4948x1024 : Shape := ⟨2, ![4948, 1024]⟩
abbrev S512x1024 : Shape := ⟨2, ![512, 1024]⟩
abbrev S256x1024 : Shape := ⟨2, ![256, 1024]⟩
abbrev S64x1024 : Shape := ⟨2, ![64, 1024]⟩
abbrev S4x1024 : Shape := ⟨2, ![4, 1024]⟩
abbrev S16x1024 : Shape := ⟨2, ![16, 1024]⟩
abbrev S1024x1024 : Shape := ⟨2, ![1024, 1024]⟩
abbrev S_ : Shape := ⟨0, ![]⟩
abbrev S60x1024 : Shape := ⟨2, ![60, 1024]⟩
abbrev S112x1024 : Shape := ⟨2, ![112, 1024]⟩
abbrev S5120x1024 : Shape := ⟨2, ![5120, 1024]⟩
abbrev S112x256 : Shape := ⟨2, ![112, 256]⟩
abbrev S128x256 : Shape := ⟨2, ![128, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S4x64 : Shape := ⟨2, ![4, 64]⟩
abbrev S1x256 : Shape := ⟨2, ![1, 256]⟩
abbrev S128 : Shape := ⟨1, ![128]⟩
abbrev S1x128 : Shape := ⟨2, ![1, 128]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x384 : Shape := ⟨2, ![4096, 384]⟩
abbrev S16384x512 : Shape := ⟨2, ![16384, 512]⟩
abbrev S512x16384 : Shape := ⟨2, ![512, 16384]⟩
abbrev S4x256x4096 : Shape := ⟨3, ![4, 256, 4096]⟩
abbrev S4x16384x128 : Shape := ⟨3, ![4, 16384, 128]⟩
abbrev S4x80x16384 : Shape := ⟨3, ![4, 80, 16384]⟩
abbrev S16384x256 : Shape := ⟨2, ![16384, 256]⟩
abbrev S256x16384 : Shape := ⟨2, ![256, 16384]⟩
abbrev S4x64x4096 : Shape := ⟨3, ![4, 64, 4096]⟩
abbrev S16384x64 : Shape := ⟨2, ![16384, 64]⟩
abbrev S16384x128 : Shape := ⟨2, ![16384, 128]⟩
abbrev S8x16384 : Shape := ⟨2, ![8, 16384]⟩
abbrev S512x384 : Shape := ⟨2, ![512, 384]⟩
abbrev S1x256x512 : Shape := ⟨3, ![1, 256, 512]⟩
abbrev S4x512x128 : Shape := ⟨3, ![4, 512, 128]⟩
abbrev S4x80x512 : Shape := ⟨3, ![4, 80, 512]⟩
abbrev S512x256 : Shape := ⟨2, ![512, 256]⟩
abbrev S256x512 : Shape := ⟨2, ![256, 512]⟩
abbrev S1x64x512 : Shape := ⟨3, ![1, 64, 512]⟩
abbrev S512x64 : Shape := ⟨2, ![512, 64]⟩
abbrev S512x128 : Shape := ⟨2, ![512, 128]⟩
abbrev S8x512 : Shape := ⟨2, ![8, 512]⟩
abbrev S256x256 : Shape := ⟨2, ![256, 256]⟩
abbrev S1x512x128 : Shape := ⟨3, ![1, 512, 128]⟩
abbrev S64x512 : Shape := ⟨2, ![64, 512]⟩
abbrev S16x512 : Shape := ⟨2, ![16, 512]⟩
abbrev S80x512 : Shape := ⟨2, ![80, 512]⟩
abbrev S1x80x512 : Shape := ⟨3, ![1, 80, 512]⟩
abbrev S128x1024 : Shape := ⟨2, ![128, 1024]⟩
abbrev S128x512 : Shape := ⟨2, ![128, 512]⟩
abbrev S128x128 : Shape := ⟨2, ![128, 128]⟩

abbrev nBuf : Space → Nat
  | .hbm => 139
  | .vmem => 51
  | .smem => 0
  | _ => 0

abbrev hbmTy0_0 (i : Nat) : BufTy := match i % 128 with
  | 0 => ⟨S16384x1024, .f32⟩
  | 1 => ⟨S1024, .f32⟩
  | 2 => ⟨S1024x4948, .f32⟩
  | 3 => ⟨S64, .f32⟩
  | 4 => ⟨S64, .f32⟩
  | 5 => ⟨S64, .f32⟩
  | 6 => ⟨S16x256, .f32⟩
  | 7 => ⟨S256, .f32⟩
  | 8 => ⟨S4948x1024, .f32⟩
  | 9 => ⟨S512x1024, .f32⟩
  | 10 => ⟨S256x1024, .f32⟩
  | 11 => ⟨S256x1024, .f32⟩
  | 12 => ⟨S256x1024, .f32⟩
  | 13 => ⟨S64x1024, .f32⟩
  | 14 => ⟨S4x1024, .f32⟩
  | 15 => ⟨S256x1024, .f32⟩
  | 16 => ⟨S256x1024, .f32⟩
  | 17 => ⟨S512x1024, .f32⟩
  | 18 => ⟨S16x1024, .f32⟩
  | 19 => ⟨S512x1024, .f32⟩
  | 20 => ⟨S1024x1024, .f32⟩
  | 21 => ⟨S1024x1024, .f32⟩
  | 22 => ⟨S_, .f32⟩
  | 23 => ⟨S60x1024, .f32⟩
  | 24 => ⟨S_, .f32⟩
  | 25 => ⟨S112x1024, .f32⟩
  | 26 => ⟨S5120x1024, .f32⟩
  | 27 => ⟨S5120x1024, .bf16⟩
  | 28 => ⟨S_, .f32⟩
  | 29 => ⟨S112x256, .f32⟩
  | 30 => ⟨S128x256, .f32⟩
  | 31 => ⟨S128x256, .bf16⟩
  | 32 => ⟨S128x256, .f32⟩
  | 33 => ⟨S128x256, .f32⟩
  | 34 => ⟨S128x256, .bf16⟩
  | 35 => ⟨S512, .i32⟩
  | 36 => ⟨S_, .i32⟩
  | 37 => ⟨S_, .i32⟩
  | 38 => ⟨S512, .i32⟩
  | 39 => ⟨S512, .i32⟩
  | 40 => ⟨S512, .i32⟩
  | 41 => ⟨S_, .i32⟩
  | 42 => ⟨S512, .i32⟩
  | 43 => ⟨S512, .i1⟩
  | 44 => ⟨S512, .i32⟩
  | 45 => ⟨S512, .i32⟩
  | 46 => ⟨S_, .i32⟩
  | 47 => ⟨S512, .i32⟩
  | 48 => ⟨S512, .i1⟩
  | 49 => ⟨S512, .i1⟩
  | 50 => ⟨S_, .i32⟩
  | 51 => ⟨S512, .i32⟩
  | 52 => ⟨S512, .i32⟩
  | 53 => ⟨S512, .i32⟩
  | 54 => ⟨S512x1, .i32⟩
  | 55 => ⟨S1x512, .i32⟩
  | 56 => ⟨S512x512, .i32⟩
  | 57 => ⟨S512x512, .i32⟩
  | 58 => ⟨S512x512, .i1⟩
  | 59 => ⟨S512x512, .f32⟩
  | 60 => ⟨S_, .f32⟩
  | 61 => ⟨S512x512, .f32⟩
  | 62 => ⟨S512x512, .f32⟩
  | 63 => ⟨S512x512, .bf16⟩
  | 64 => ⟨S1x1024, .f32⟩
  | 65 => ⟨S1x64, .f32⟩
  | 66 => ⟨S8x64, .f32⟩
  | 67 => ⟨S512, .f32⟩
  | 68 => ⟨S1x512, .f32⟩
  | 69 => ⟨S1x64, .f32⟩
  | 70 => ⟨S4x64, .f32⟩
  | 71 => ⟨S256, .f32⟩
  | 72 => ⟨S1x256, .f32⟩
  | 73 => ⟨S_, .f32⟩
  | 74 => ⟨S64, .f32⟩
  | 75 => ⟨S128, .f32⟩
  | 76 => ⟨S1x128, .f32⟩
  | 77 => ⟨S1x256, .f32⟩
  | 78 => ⟨S4096, .i32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S4096, .f32⟩
  | 91 => ⟨S4096x1, .f32⟩
  | 92 => ⟨S1x8, .f32⟩
  | 93 => ⟨S4096x8, .f32⟩
  | 94 => ⟨S4096x8, .f32⟩
  | 95 => ⟨S4096x8, .f32⟩
  | 96 => ⟨S4096x8, .f32⟩
  | 97 => ⟨S4096x8, .f32⟩
  | 98 => ⟨S_, .f32⟩
  | 99 => ⟨S4096x48, .f32⟩
  | 100 => ⟨S4096x64, .f32⟩
  | 101 => ⟨S4096x8, .f32⟩
  | 102 => ⟨S_, .f32⟩
  | 103 => ⟨S4096x56, .f32⟩
  | 104 => ⟨S4096x64, .f32⟩
  | 105 => ⟨S_, .f32⟩
  | 106 => ⟨S4096x8, .f32⟩
  | 107 => ⟨S_, .f32⟩
  | 108 => ⟨S4096x48, .f32⟩
  | 109 => ⟨S4096x64, .f32⟩
  | 110 => ⟨S1x4096x1x64, .f32⟩
  | 111 => ⟨S1x4096x2x64, .f32⟩
  | 112 => ⟨S4096x128, .f32⟩
  | 113 => ⟨S1x4096x1x64, .f32⟩
  | 114 => ⟨S1x4096x2x64, .f32⟩
  | 115 => ⟨S4096x128, .f32⟩
  | 116 => ⟨S1x4096x1x64, .f32⟩
  | 117 => ⟨S1x4096x2x64, .f32⟩
  | 118 => ⟨S4096x128, .f32⟩
  | 119 => ⟨S4096x384, .f32⟩
  | 120 => ⟨S16384x512, .bf16⟩
  | 121 => ⟨S512x16384, .bf16⟩
  | 122 => ⟨S4x256x4096, .f32⟩
  | 123 => ⟨S4x256x4096, .f32⟩
  | 124 => ⟨S4x16384x128, .bf16⟩
  | 125 => ⟨S4x80x16384, .bf16⟩
  | 126 => ⟨S16384x256, .bf16⟩
  | 127 => ⟨S256x16384, .bf16⟩
  | _ => ⟨S16384x1024, .f32⟩

abbrev hbmTy0_1 (i : Nat) : BufTy := match i % 128 with
  | 0 => ⟨S4x64x4096, .f32⟩
  | 1 => ⟨S16384x64, .bf16⟩
  | 2 => ⟨S16384x128, .f32⟩
  | 3 => ⟨S8x16384, .f32⟩
  | 4 => ⟨S16384x256, .f32⟩
  | 5 => ⟨S16384x256, .f32⟩
  | 6 => ⟨S16384x512, .f32⟩
  | 7 => ⟨S16384x256, .f32⟩
  | 8 => ⟨S16384x512, .f32⟩
  | 9 => ⟨S16384x1024, .f32⟩
  | 10 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5120x1024, .bf16⟩
  | .local _ .vmem, ⟨4, _⟩ => ⟨S1x512, .f32⟩
  | .local _ .vmem, ⟨5, _⟩ => ⟨S1x256, .f32⟩
  | .local _ .vmem, ⟨6, _⟩ => ⟨S1x128, .f32⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S512x384, .f32⟩
  | .local _ .vmem, ⟨11, _⟩ => ⟨S512x384, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S4x512x128, .bf16⟩
  | .local _ .vmem, ⟨22, _⟩ => ⟨S4x512x128, .bf16⟩
  | .local _ .vmem, ⟨23, _⟩ => ⟨S4x80x512, .bf16⟩
  | .local _ .vmem, ⟨24, _⟩ => ⟨S4x80x512, .bf16⟩
  | .local _ .vmem, ⟨25, _⟩ => ⟨S512x256, .bf16⟩
  | .local _ .vmem, ⟨26, _⟩ => ⟨S512x256, .bf16⟩
  | .local _ .vmem, ⟨27, _⟩ => ⟨S256x512, .bf16⟩
  | .local _ .vmem, ⟨28, _⟩ => ⟨S256x512, .bf16⟩
  | .local _ .vmem, ⟨29, _⟩ => ⟨S1x64x512, .f32⟩
  | .local _ .vmem, ⟨30, _⟩ => ⟨S1x64x512, .f32⟩
  | .local _ .vmem, ⟨31, _⟩ => ⟨S512x64, .bf16⟩
  | .local _ .vmem, ⟨32, _⟩ => ⟨S512x64, .bf16⟩
  | .local _ .vmem, ⟨33, _⟩ => ⟨S512x128, .f32⟩
  | .local _ .vmem, ⟨34, _⟩ => ⟨S512x128, .f32⟩
  | .local _ .vmem, ⟨35, _⟩ => ⟨S8x512, .f32⟩
  | .local _ .vmem, ⟨36, _⟩ => ⟨S8x512, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x512, .f32⟩
  | .local _ .vmem, ⟨42, _⟩ => ⟨S512x512, .f32⟩
  | .local _ .vmem, ⟨43, _⟩ => ⟨S512x256, .f32⟩
  | .local _ .vmem, ⟨44, _⟩ => ⟨S512x256, .f32⟩
  | .local _ .vmem, ⟨45, _⟩ => ⟨S512x512, .f32⟩
  | .local _ .vmem, ⟨46, _⟩ => ⟨S512x512, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_4 : Ref sig .tc := ⟨.hbm, 81, rfl⟩
abbrev main_v51 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_7 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_cst_10 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83_0 : Ref sig .tc := ⟨.hbm, 120, rfl⟩
abbrev main_v83_1 : Ref sig .tc := ⟨.hbm, 121, rfl⟩
abbrev main_v83_2 : Ref sig .tc := ⟨.hbm, 122, rfl⟩
abbrev main_v83_3 : Ref sig .tc := ⟨.hbm, 123, rfl⟩
abbrev main_v83_4 : Ref sig .tc := ⟨.hbm, 124, rfl⟩
abbrev main_v83_5 : Ref sig .tc := ⟨.hbm, 125, rfl⟩
abbrev main_v83_6 : Ref sig .tc := ⟨.hbm, 126, rfl⟩
abbrev main_v83_7 : Ref sig .tc := ⟨.hbm, 127, rfl⟩
abbrev main_v83_8 : Ref sig .tc := ⟨.hbm, 128, rfl⟩
abbrev main_v83_9 : Ref sig .tc := ⟨.hbm, 129, rfl⟩
abbrev main_v83_10 : Ref sig .tc := ⟨.hbm, 130, rfl⟩
abbrev main_v83_11 : Ref sig .tc := ⟨.hbm, 131, rfl⟩
abbrev main_v83_12 : Ref sig .tc := ⟨.hbm, 132, rfl⟩
abbrev main_v83_13 : Ref sig .tc := ⟨.hbm, 133, rfl⟩
abbrev main_v83_14 : Ref sig .tc := ⟨.hbm, 134, rfl⟩
abbrev main_v83_15 : Ref sig .tc := ⟨.hbm, 135, rfl⟩
abbrev main_v83_16 : Ref sig .tc := ⟨.hbm, 136, rfl⟩
abbrev main_v83_17 : Ref sig .tc := ⟨.hbm, 137, rfl⟩
abbrev main_v83_18 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_stg26_0 : Ref sig .tc := ⟨.vmem, 43, rfl⟩
abbrev cc0_stg26_1 : Ref sig .tc := ⟨.vmem, 44, rfl⟩
abbrev cc0_stg27_0 : Ref sig .tc := ⟨.vmem, 45, rfl⟩
abbrev cc0_stg27_1 : Ref sig .tc := ⟨.vmem, 46, rfl⟩
abbrev cc0_stg28_0 : Ref sig .tc := ⟨.vmem, 47, rfl⟩
abbrev cc0_stg28_1 : Ref sig .tc := ⟨.vmem, 48, rfl⟩
abbrev cc0_stg29_0 : Ref sig .tc := ⟨.vmem, 49, rfl⟩
abbrev cc0_stg29_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44
abbrev cc0_sem27_0 : DmaSem sig := 45
abbrev cc0_sem27_1 : DmaSem sig := 46
abbrev cc0_sem28_0 : DmaSem sig := 47
abbrev cc0_sem28_1 : DmaSem sig := 48
abbrev cc0_sem29_0 : DmaSem sig := 49
abbrev cc0_sem29_1 : DmaSem sig := 50

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x80x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== ProjRefIdeal.lean ====
abbrev S16384x1024 : Shape := ⟨2, ![16384, 1024]⟩
abbrev S1024 : Shape := ⟨1, ![1024]⟩
abbrev S1024x4948 : Shape := ⟨2, ![1024, 4948]⟩
abbrev S64 : Shape := ⟨1, ![64]⟩
abbrev S16x256 : Shape := ⟨2, ![16, 256]⟩
abbrev S256 : Shape := ⟨1, ![256]⟩
abbrev S4096 : Shape := ⟨1, ![4096]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4948 : Shape := ⟨3, ![4, 4096, 4948]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x16 : Shape := ⟨3, ![4, 4096, 16]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x16 : Shape := ⟨4, ![4, 4096, 8, 16]⟩
abbrev S4x4096x8x8 : Shape := ⟨4, ![4, 4096, 8, 8]⟩
abbrev S4x4096x8x48 : Shape := ⟨4, ![4, 4096, 8, 48]⟩
abbrev S4x4096x4x64 : Shape := ⟨4, ![4, 4096, 4, 64]⟩
abbrev S4x4096x4x1 : Shape := ⟨4, ![4, 4096, 4, 1]⟩
abbrev S4x4096x4x16 : Shape := ⟨4, ![4, 4096, 4, 16]⟩
abbrev S4x4096x4x8 : Shape := ⟨4, ![4, 4096, 4, 8]⟩
abbrev S4x4096x4x48 : Shape := ⟨4, ![4, 4096, 4, 48]⟩
abbrev S1x1x64 : Shape := ⟨3, ![1, 1, 64]⟩
abbrev S4x4096x1x64 : Shape := ⟨4, ![4, 4096, 1, 64]⟩
abbrev S4x4096x1x16 : Shape := ⟨4, ![4, 4096, 1, 16]⟩
abbrev S4x4096x1x8 : Shape := ⟨4, ![4, 4096, 1, 8]⟩
abbrev S4x4096x1x48 : Shape := ⟨4, ![4, 4096, 1, 48]⟩
abbrev S1x1x256 : Shape := ⟨3, ![1, 1, 256]⟩
abbrev S16384x512 : Shape := ⟨2, ![16384, 512]⟩
abbrev S4x4x64x4096 : Shape := ⟨4, ![4, 4, 64, 4096]⟩
abbrev S4x256x4096 : Shape := ⟨3, ![4, 256, 4096]⟩
abbrev S16384x256 : Shape := ⟨2, ![16384, 256]⟩
abbrev S4x64x4096 : Shape := ⟨3, ![4, 64, 4096]⟩

abbrev nBuf : Space → Nat
  | .hbm => 287
  | .vmem => 0
  | .smem => 0
  | _ => 0

abbrev hbmTy0_0 (i : Nat) : BufTy := match i % 128 with
  | 0 => ⟨S16384x1024, .f32⟩
  | 1 => ⟨S1024, .f32⟩
  | 2 => ⟨S1024x4948, .f32⟩
  | 3 => ⟨S64, .f32⟩
  | 4 => ⟨S64, .f32⟩
  | 5 => ⟨S64, .f32⟩
  | 6 => ⟨S16x256, .f32⟩
  | 7 => ⟨S256, .f32⟩
  | 8 => ⟨S4096, .i32⟩
  | 9 => ⟨S4x4096x1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x4948, .f32⟩
  | 27 => ⟨S4x4096x512, .f32⟩
  | 28 => ⟨S4x4096x256, .f32⟩
  | 29 => ⟨S4x4096x256, .f32⟩
  | 30 => ⟨S4x4096x256, .f32⟩
  | 31 => ⟨S4x4096x64, .f32⟩
  | 32 => ⟨S4x4096x4, .f32⟩
  | 33 => ⟨S4x4096x256, .f32⟩
  | 34 => ⟨S4x4096x256, .f32⟩
  | 35 => ⟨S4x4096x512, .f32⟩
  | 36 => ⟨S4x4096x16, .f32⟩
  | 37 => ⟨S4x4096x512, .f32⟩
  | 38 => ⟨S4x4096x1024, .f32⟩
  | 39 => ⟨S4x4096x1024, .f32⟩
  | 40 => ⟨S4x4096x8x64, .f32⟩
  | 41 => ⟨S4x4096x8x64, .f32⟩
  | 42 => ⟨S_, .f32⟩
  | 43 => ⟨S4x4096x8, .f32⟩
  | 44 => ⟨S4x4096x8x1, .f32⟩
  | 45 => ⟨S_, .f32⟩
  | 46 => ⟨S4x4096x8x1, .f32⟩
  | 47 => ⟨S4x4096x8x1, .f32⟩
  | 48 => ⟨S_, .f32⟩
  | 49 => ⟨S4x4096x8x1, .f32⟩
  | 50 => ⟨S4x4096x8x1, .f32⟩
  | 51 => ⟨S4x4096x8x1, .f32⟩
  | 52 => ⟨S4x4096x8x64, .f32⟩
  | 53 => ⟨S4x4096x8x64, .f32⟩
  | 54 => ⟨S1x1x1x64, .f32⟩
  | 55 => ⟨S4x4096x8x64, .f32⟩
  | 56 => ⟨S4x4096x8x64, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S4096, .f32⟩
  | 69 => ⟨S4096x1, .f32⟩
  | 70 => ⟨S1x8, .f32⟩
  | 71 => ⟨S4096x8, .f32⟩
  | 72 => ⟨S4096x8, .f32⟩
  | 73 => ⟨S4096x8, .f32⟩
  | 74 => ⟨S4096x8, .f32⟩
  | 75 => ⟨S1x4096x1x8, .f32⟩
  | 76 => ⟨S4096x8, .f32⟩
  | 77 => ⟨S1x4096x1x8, .f32⟩
  | 78 => ⟨S4x4096x8x16, .f32⟩
  | 79 => ⟨S4x4096x8x8, .f32⟩
  | 80 => ⟨S4x4096x8x8, .f32⟩
  | 81 => ⟨S4x4096x8x8, .f32⟩
  | 82 => ⟨S4x4096x8x8, .f32⟩
  | 83 => ⟨S4x4096x8x8, .f32⟩
  | 84 => ⟨S4x4096x8x8, .f32⟩
  | 85 => ⟨S4x4096x8x8, .f32⟩
  | 86 => ⟨S4x4096x8x8, .f32⟩
  | 87 => ⟨S4x4096x8x8, .f32⟩
  | 88 => ⟨S4x4096x8x8, .f32⟩
  | 89 => ⟨S4x4096x8x8, .f32⟩
  | 90 => ⟨S4x4096x8x8, .f32⟩
  | 91 => ⟨S4x4096x8x16, .f32⟩
  | 92 => ⟨S4x4096x8x48, .f32⟩
  | 93 => ⟨S4x4096x8x64, .f32⟩
  | 94 => ⟨S4x4096x4x64, .f32⟩
  | 95 => ⟨S4x4096x4x64, .f32⟩
  | 96 => ⟨S_, .f32⟩
  | 97 => ⟨S4x4096x4, .f32⟩
  | 98 => ⟨S4x4096x4x1, .f32⟩
  | 99 => ⟨S_, .f32⟩
  | 100 => ⟨S4x4096x4x1, .f32⟩
  | 101 => ⟨S4x4096x4x1, .f32⟩
  | 102 => ⟨S_, .f32⟩
  | 103 => ⟨S4x4096x4x1, .f32⟩
  | 104 => ⟨S4x4096x4x1, .f32⟩
  | 105 => ⟨S4x4096x4x1, .f32⟩
  | 106 => ⟨S4x4096x4x64, .f32⟩
  | 107 => ⟨S4x4096x4x64, .f32⟩
  | 108 => ⟨S1x1x1x64, .f32⟩
  | 109 => ⟨S4x4096x4x64, .f32⟩
  | 110 => ⟨S4x4096x4x64, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S4096, .f32⟩
  | 123 => ⟨S4096x1, .f32⟩
  | 124 => ⟨S1x8, .f32⟩
  | 125 => ⟨S4096x8, .f32⟩
  | 126 => ⟨S4096x8, .f32⟩
  | 127 => ⟨S4096x8, .f32⟩
  | _ => ⟨S16384x1024, .f32⟩

abbrev hbmTy0_1 (i : Nat) : BufTy := match i % 128 with
  | 0 => ⟨S4096x8, .f32⟩
  | 1 => ⟨S1x4096x1x8, .f32⟩
  | 2 => ⟨S4096x8, .f32⟩
  | 3 => ⟨S1x4096x1x8, .f32⟩
  | 4 => ⟨S4x4096x4x16, .f32⟩
  | 5 => ⟨S4x4096x4x8, .f32⟩
  | 6 => ⟨S4x4096x4x8, .f32⟩
  | 7 => ⟨S4x4096x4x8, .f32⟩
  | 8 => ⟨S4x4096x4x8, .f32⟩
  | 9 => ⟨S4x4096x4x8, .f32⟩
  | 10 => ⟨S4x4096x4x8, .f32⟩
  | 11 => ⟨S4x4096x4x8, .f32⟩
  | 12 => ⟨S4x4096x4x8, .f32⟩
  | 13 => ⟨S4x4096x4x8, .f32⟩
  | 14 => ⟨S4x4096x4x8, .f32⟩
  | 15 => ⟨S4x4096x4x8, .f32⟩
  | 16 => ⟨S4x4096x4x8, .f32⟩
  | 17 => ⟨S4x4096x4x16, .f32⟩
  | 18 => ⟨S4x4096x4x48, .f32⟩
  | 19 => ⟨S4x4096x4x64, .f32⟩
  | 20 => ⟨S4x4096x4x64, .f32⟩
  | 21 => ⟨S4x4096x4x64, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S4096, .f32⟩
  | 34 => ⟨S4096x1, .f32⟩
  | 35 => ⟨S1x8, .f32⟩
  | 36 => ⟨S4096x8, .f32⟩
  | 37 => ⟨S4096x8, .f32⟩
  | 38 => ⟨S4096x8, .f32⟩
  | 39 => ⟨S4096x8, .f32⟩
  | 40 => ⟨S1x4096x1x8, .f32⟩
  | 41 => ⟨S4096x8, .f32⟩
  | 42 => ⟨S1x4096x1x8, .f32⟩
  | 43 => ⟨S4x4096x4x16, .f32⟩
  | 44 => ⟨S4x4096x4x8, .f32⟩
  | 45 => ⟨S4x4096x4x8, .f32⟩
  | 46 => ⟨S4x4096x4x8, .f32⟩
  | 47 => ⟨S4x4096x4x8, .f32⟩
  | 48 => ⟨S4x4096x4x8, .f32⟩
  | 49 => ⟨S4x4096x4x8, .f32⟩
  | 50 => ⟨S4x4096x4x8, .f32⟩
  | 51 => ⟨S4x4096x4x8, .f32⟩
  | 52 => ⟨S4x4096x4x8, .f32⟩
  | 53 => ⟨S4x4096x4x8, .f32⟩
  | 54 => ⟨S4x4096x4x8, .f32⟩
  | 55 => ⟨S4x4096x4x8, .f32⟩
  | 56 => ⟨S4x4096x4x16, .f32⟩
  | 57 => ⟨S4x4096x4x48, .f32⟩
  | 58 => ⟨S4x4096x4x64, .f32⟩
  | 59 => ⟨S4x4096x64, .f32⟩
  | 60 => ⟨S_, .f32⟩
  | 61 => ⟨S4x4096, .f32⟩
  | 62 => ⟨S4x4096x1, .f32⟩
  | 63 => ⟨S_, .f32⟩
  | 64 => ⟨S4x4096x1, .f32⟩
  | 65 => ⟨S4x4096x1, .f32⟩
  | 66 => ⟨S_, .f32⟩
  | 67 => ⟨S4x4096x1, .f32⟩
  | 68 => ⟨S4x4096x1, .f32⟩
  | 69 => ⟨S4x4096x1, .f32⟩
  | 70 => ⟨S4x4096x64, .f32⟩
  | 71 => ⟨S4x4096x64, .f32⟩
  | 72 => ⟨S1x1x64, .f32⟩
  | 73 => ⟨S4x4096x64, .f32⟩
  | 74 => ⟨S4x4096x64, .f32⟩
  | 75 => ⟨S4x4096x1x64, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S4096, .f32⟩
  | 88 => ⟨S4096x1, .f32⟩
  | 89 => ⟨S1x8, .f32⟩
  | 90 => ⟨S4096x8, .f32⟩
  | 91 => ⟨S4096x8, .f32⟩
  | 92 => ⟨S4096x8, .f32⟩
  | 93 => ⟨S4096x8, .f32⟩
  | 94 => ⟨S1x4096x1x8, .f32⟩
  | 95 => ⟨S4096x8, .f32⟩
  | 96 => ⟨S1x4096x1x8, .f32⟩
  | 97 => ⟨S4x4096x1x16, .f32⟩
  | 98 => ⟨S4x4096x1x8, .f32⟩
  | 99 => ⟨S4x4096x1x8, .f32⟩
  | 100 => ⟨S4x4096x1x8, .f32⟩
  | 101 => ⟨S4x4096x1x8, .f32⟩
  | 102 => ⟨S4x4096x1x8, .f32⟩
  | 103 => ⟨S4x4096x1x8, .f32⟩
  | 104 => ⟨S4x4096x1x8, .f32⟩
  | 105 => ⟨S4x4096x1x8, .f32⟩
  | 106 => ⟨S4x4096x1x8, .f32⟩
  | 107 => ⟨S4x4096x1x8, .f32⟩
  | 108 => ⟨S4x4096x1x8, .f32⟩
  | 109 => ⟨S4x4096x1x8, .f32⟩
  | 110 => ⟨S4x4096x1x16, .f32⟩
  | 111 => ⟨S4x4096x1x48, .f32⟩
  | 112 => ⟨S4x4096x1x64, .f32⟩
  | 113 => ⟨S4x4096x64, .f32⟩
  | 114 => ⟨S_, .f32⟩
  | 115 => ⟨S4x4096x256, .f32⟩
  | 116 => ⟨S4x4096x256, .f32⟩
  | 117 => ⟨S4x4096x256, .f32⟩
  | 118 => ⟨S1x1x256, .f32⟩
  | 119 => ⟨S4x4096x256, .f32⟩
  | 120 => ⟨S4x4096x256, .f32⟩
  | 121 => ⟨S4x4096x256, .f32⟩
  | 122 => ⟨S_, .f32⟩
  | 123 => ⟨S4x4096x256, .f32⟩
  | 124 => ⟨S4x4096x256, .f32⟩
  | 125 => ⟨S4x4096x256, .f32⟩
  | 126 => ⟨S4x4096x256, .f32⟩
  | 127 => ⟨S4x4096x256, .i1⟩
  | _ => ⟨S16384x1024, .f32⟩

abbrev hbmTy0_2 (i : Nat) : BufTy := match i % 128 with
  | 0 => ⟨S4x4096x256, .f32⟩
  | 1 => ⟨S4x4096x256, .f32⟩
  | 2 => ⟨S4x4096x256, .f32⟩
  | 3 => ⟨S4x4096x256, .f32⟩
  | 4 => ⟨S4x4096x256, .f32⟩
  | 5 => ⟨S4x4096x256, .f32⟩
  | 6 => ⟨S4x4096x256, .f32⟩
  | 7 => ⟨S4x4096x256, .f32⟩
  | 8 => ⟨S4x4096x256, .f32⟩
  | 9 => ⟨S_, .f32⟩
  | 10 => ⟨S4x4096x256, .f32⟩
  | 11 => ⟨S4x4096x256, .f32⟩
  | 12 => ⟨S_, .f32⟩
  | 13 => ⟨S4x4096x8x64, .f32⟩
  | 14 => ⟨S4x4096x8x64, .f32⟩
  | 15 => ⟨S16384x512, .f32⟩
  | 16 => ⟨S16384x512, .bf16⟩
  | 17 => ⟨S4x4x64x4096, .f32⟩
  | 18 => ⟨S4x256x4096, .f32⟩
  | 19 => ⟨S4x4x64x4096, .f32⟩
  | 20 => ⟨S4x256x4096, .f32⟩
  | 21 => ⟨S16384x256, .f32⟩
  | 22 => ⟨S16384x256, .bf16⟩
  | 23 => ⟨S4x64x4096, .f32⟩
  | 24 => ⟨S16384x256, .f32⟩
  | 25 => ⟨S16384x256, .f32⟩
  | 26 => ⟨S16384x512, .f32⟩
  | 27 => ⟨S16384x256, .f32⟩
  | 28 => ⟨S16384x512, .f32⟩
  | 29 => ⟨S16384x1024, .f32⟩
  | 30 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_14 : Ref sig .tc := ⟨.hbm, 152, rfl⟩
abbrev main_v129 : Ref sig .tc := ⟨.hbm, 153, rfl⟩
abbrev main_v130 : Ref sig .tc := ⟨.hbm, 154, rfl⟩
abbrev main_cst_15 : Ref sig .tc := ⟨.hbm, 155, rfl⟩
abbrev main_v131 : Ref sig .tc := ⟨.hbm, 156, rfl⟩
abbrev main_v132 : Ref sig .tc := ⟨.hbm, 157, rfl⟩
abbrev main_cst_16 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_cst_17 : Ref sig .tc := ⟨.hbm, 188, rfl⟩
abbrev main_v162 : Ref sig .tc := ⟨.hbm, 189, rfl⟩
abbrev main_v163 : Ref sig .tc := ⟨.hbm, 190, rfl⟩
abbrev main_cst_18 : Ref sig .tc := ⟨.hbm, 191, rfl⟩
abbrev main_v164 : Ref sig .tc := ⟨.hbm, 192, rfl⟩
abbrev main_v165 : Ref sig .tc := ⟨.hbm, 193, rfl⟩
abbrev main_cst_19 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_cst_20 : Ref sig .tc := ⟨.hbm, 206, rfl⟩
abbrev main_v177 : Ref sig .tc := ⟨.hbm, 207, rfl⟩
abbrev main_v178 : Ref sig .tc := ⟨.hbm, 208, rfl⟩
abbrev main_cst_21 : Ref sig .tc := ⟨.hbm, 209, rfl⟩
abbrev main_v179 : Ref sig .tc := ⟨.hbm, 210, rfl⟩
abbrev main_v180 : Ref sig .tc := ⟨.hbm, 211, rfl⟩
abbrev main_cst_22 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_cst_23 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_call0_v0 : Ref sig .tc := ⟨.hbm, 249, rfl⟩
abbrev main_call0_call0_cst : Ref sig .tc := ⟨.hbm, 250, rfl⟩
abbrev main_call0_call0_v0 : Ref sig .tc := ⟨.hbm, 251, rfl⟩
abbrev main_call0_call0_v1 : Ref sig .tc := ⟨.hbm, 252, rfl⟩
abbrev main_call0_call0_v2 : Ref sig .tc := ⟨.hbm, 253, rfl⟩
abbrev main_call0_call0_v3 : Ref sig .tc := ⟨.hbm, 254, rfl⟩
abbrev main_call0_call0_v4 : Ref sig .tc := ⟨.hbm, 255, rfl⟩
abbrev main_call0_call0_v5 : Ref sig .tc := ⟨.hbm, 256, rfl⟩
abbrev main_call0_call0_v6 : Ref sig .tc := ⟨.hbm, 257, rfl⟩
abbrev main_call0_call0_v7 : Ref sig .tc := ⟨.hbm, 258, rfl⟩
abbrev main_call0_call0_v8 : Ref sig .tc := ⟨.hbm, 259, rfl⟩
abbrev main_call0_call0_v9 : Ref sig .tc := ⟨.hbm, 260, rfl⟩
abbrev main_call0_call0_v10 : Ref sig .tc := ⟨.hbm, 261, rfl⟩
abbrev main_call0_call0_v11 : Ref sig .tc := ⟨.hbm, 262, rfl⟩
abbrev main_call0_v1 : Ref sig .tc := ⟨.hbm, 263, rfl⟩
abbrev main_v216 : Ref sig .tc := ⟨.hbm, 264, rfl⟩
abbrev main_cst_24 : Ref sig .tc := ⟨.hbm, 265, rfl⟩
abbrev main_v217 : Ref sig .tc := ⟨.hbm, 266, rfl⟩
abbrev main_v218 : Ref sig .tc := ⟨.hbm, 267, rfl⟩
abbrev main_cst_25 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩

abbrev nD : Nat := 1
abbrev τ : Topo := Topo.v7x

variable {F : FTy → Type} [FloatOps F]
-- ==== FfnS.lean ====
abbrev S1024x1024 : Shape := ⟨2, ![1024, 1024]⟩
abbrev S1024x5632 : Shape := ⟨2, ![1024, 5632]⟩
abbrev S2816x1024 : Shape := ⟨2, ![2816, 1024]⟩
abbrev S1024x2816 : Shape := ⟨2, ![1024, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 10
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 2], ![false, false]⟩

def k0_mult1 (i : grid0.Coords) : BitVec 32 :=
  let arg1 : BitVec 32 := BitVec.ofNat 32 (i 1).val
  let c1408_i32 : BitVec 32 := 1408#32
  let v3 : BitVec 32 := Scalar.muli arg1 c1408_i32
  v3
def k0_off1 (i : grid0.Coords) : Fin 2 → Nat :=
  let c0_2 : Index := 0#32
  let arg1 : BitVec 32 := BitVec.ofNat 32 (i 1).val
  let c1408_i32 : BitVec 32 := 1408#32
  let v3 : BitVec 32 := Scalar.muli arg1 c1408_i32
  let v4 : BitVec 32 := v3
  let v6 : Index := Scalar.indexCast v4
  ![0, v6.toNat]
def k0_off2 (i : grid0.Coords) : Fin 2 → Nat :=
  let arg1 : BitVec 32 := BitVec.ofNat 32 (i 1).val
  let c1408_i32 : BitVec 32 := 1408#32
  let v3 : BitVec 32 := Scalar.muli arg1 c1408_i32
  let v4 : BitVec 32 := v3
  let v25 : Index := Scalar.indexCast v4
  let c0_10 : Index := 0#32
  ![v25.toNat, 0]
def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnSRefIdeal.lean ====
abbrev S1024x1024 : Shape := ⟨2, ![1024, 1024]⟩
abbrev S1024x5632 : Shape := ⟨2, ![1024, 5632]⟩
abbrev S2816x1024 : Shape := ⟨2, ![2816, 1024]⟩
abbrev S1024x2816 : Shape := ⟨2, ![1024, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S1024x5632, .f32⟩
  | .hbm, ⟨6, _⟩ => ⟨S1024x2816, .f32⟩
  | .hbm, ⟨7, _⟩ => ⟨S1024x2816, .f32⟩
  | .hbm, ⟨8, _⟩ => ⟨S1024x2816, .f32⟩
  | .hbm, ⟨9, _⟩ => ⟨S1024x2816, .f32⟩
  | .hbm, ⟨10, _⟩ => ⟨S_, .f32⟩
  | .hbm, ⟨11, _⟩ => ⟨S1024x2816, .f32⟩
  | .hbm, ⟨12, _⟩ => ⟨S1024x2816, .f32⟩
  | .hbm, ⟨13, _⟩ => ⟨S_, .f32⟩
  | .hbm, ⟨14, _⟩ => ⟨S1024x2816, .f32⟩
  | .hbm, ⟨15, _⟩ => ⟨S1024x2816, .f32⟩
  | .hbm, ⟨16, _⟩ => ⟨S1024x2816, .f32⟩
  | .hbm, ⟨17, _⟩ => ⟨S1024x2816, .f32⟩
  | .hbm, ⟨18, _⟩ => ⟨S1024x1024, .f32⟩
  | .hbm, ⟨19, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== MergeS.lean ====
abbrev S1024x1024 : Shape := ⟨2, ![1024, 1024]⟩
abbrev S1024x512 : Shape := ⟨2, ![1024, 512]⟩
abbrev S128 : Shape := ⟨1, ![128]⟩
abbrev S512x1024 : Shape := ⟨2, ![512, 1024]⟩
abbrev S1024 : Shape := ⟨1, ![1024]⟩
abbrev S1x128 : Shape := ⟨2, ![1, 128]⟩
abbrev S1x1024 : Shape := ⟨2, ![1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .f32⟩
  | .hbm, ⟨3, _⟩ => ⟨S1024x512, .f32⟩
  | .hbm, ⟨4, _⟩ => ⟨S1024x1024, .f32⟩
  | .hbm, ⟨5, _⟩ => ⟨S1024x1024, .f32⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1x128, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1024x1024, .f32⟩
  | .hbm, ⟨17, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeSRefIdeal.lean ====
abbrev S1024x1024 : Shape := ⟨2, ![1024, 1024]⟩
abbrev S1024x512 : Shape := ⟨2, ![1024, 512]⟩
abbrev S128 : Shape := ⟨1, ![128]⟩
abbrev S512x1024 : Shape := ⟨2, ![512, 1024]⟩
abbrev S1024 : Shape := ⟨1, ![1024]⟩
abbrev S1024x4x128 : Shape := ⟨3, ![1024, 4, 128]⟩
abbrev S_ : Shape := ⟨0, ![]⟩
abbrev S1024x4 : Shape := ⟨2, ![1024, 4]⟩
abbrev S1024x4x1 : Shape := ⟨3, ![1024, 4, 1]⟩
abbrev S1x1x128 : Shape := ⟨3, ![1, 1, 128]⟩
abbrev S1024x1 : Shape := ⟨2, ![1024, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .f32⟩
  | .hbm, ⟨3, _⟩ => ⟨S1024x512, .f32⟩
  | .hbm, ⟨4, _⟩ => ⟨S1024x1024, .f32⟩
  | .hbm, ⟨5, _⟩ => ⟨S1024x1024, .f32⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4x128, .f32⟩
  | .hbm, ⟨12, _⟩ => ⟨S1024x4x128, .f32⟩
  | .hbm, ⟨13, _⟩ => ⟨S_, .f32⟩
  | .hbm, ⟨14, _⟩ => ⟨S1024x4, .f32⟩
  | .hbm, ⟨15, _⟩ => ⟨S1024x4x1, .f32⟩
  | .hbm, ⟨16, _⟩ => ⟨S_, .f32⟩
  | .hbm, ⟨17, _⟩ => ⟨S1024x4x1, .f32⟩
  | .hbm, ⟨18, _⟩ => ⟨S1024x4x1, .f32⟩
  | .hbm, ⟨19, _⟩ => ⟨S_, .f32⟩
  | .hbm, ⟨20, _⟩ => ⟨S1024x4x1, .f32⟩
  | .hbm, ⟨21, _⟩ => ⟨S1024x4x1, .f32⟩
  | .hbm, ⟨22, _⟩ => ⟨S1024x4x1, .f32⟩
  | .hbm, ⟨23, _⟩ => ⟨S1024x4x128, .f32⟩
  | .hbm, ⟨24, _⟩ => ⟨S1024x4x128, .f32⟩
  | .hbm, ⟨25, _⟩ => ⟨S1x1x128, .f32⟩
  | .hbm, ⟨26, _⟩ => ⟨S1024x4x128, .f32⟩
  | .hbm, ⟨27, _⟩ => ⟨S1024x4x128, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x512, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S_, .f32⟩
  | .hbm, ⟨65, _⟩ => ⟨S1024, .f32⟩
  | .hbm, ⟨66, _⟩ => ⟨S1024x1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x1, .f32⟩
  | .hbm, ⟨74, _⟩ => ⟨S1024x1024, .f32⟩
  | .hbm, ⟨75, _⟩ => ⟨S1024x1024, .f32⟩
  | .hbm, ⟨76, _⟩ => ⟨S1x1024, .f32⟩
  | .hbm, ⟨77, _⟩ => ⟨S1024x1024, .f32⟩
  | .hbm, ⟨78, _⟩ => ⟨S1024x1024, .f32⟩
  | .hbm, ⟨79, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Proof.Gla.Heads.lean ====
module

public import proofs.«01_k».proof.Proof.Gen.GlaIdeal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

/-! ## The gated linear attention call: one head of one sequence, and the body as 32 of them

The body handles eight sequences of four heads, written out one after the other. Here ONE head is
written with its number as a parameter, and the body's stores are stated to be the 32 instances. -/

namespace Cert.GlaIdeal.Hand

open Cert.GlaIdeal Cert.GlaIdeal.Gen

section
variable {F : FTy → Type} [FloatOps F]

theorem sl_col (h : Fin 4) : S8x256.Slices ![0, 64 * h.val] S8x64 := by revert h; decide
theorem sl_end (h : Fin 4) : S1x256.Slices ![0, 64 * h.val] S1x64 := by revert h; decide
theorem sl_val (h : Fin 4) : S8x512.Slices ![0, 128 * h.val] S8x128 := by revert h; decide

/-- The end decay of head `h` as a column: row 7 of the cumulated log decays, turned by the masked
row sums of a 64×64 square, then the exponential. -/
def headDec (h : Fin 4) (la : Vec F S1x8x256 .f32) : FVec F S64x1 .f32 :=
  exp (shapeCast S64x1 (multiReduction .add [1] S64
    (select k0_pay4 (broadcastTo S64x64 (shapeCast S1x64 (extractStridedSlice S1x64 ![0, 64 * h.val] (k0_pay6 la) (sl_end h)) shapeCasts_S1x64_S1x64) broadcasts_S1x64_S64x64)
      (broadcast S64x64 (Scalar.ofBits .f32 0x00000000#32)))
    0x00000000#32 reduces_S64x64_S64 (.inl rfl) rfl) shapeCasts_S64_S64x1)

/-- The products within the chunk of head `h`: the masked square of decayed queries and keys times the values. -/
def headIntra (h : Fin 4) (q k : Vec F S1x8x256 .f32) (v : Vec F S1x8x512 .f32) (la : Vec F S1x8x256 .f32) : FVec F S8x128 .f32 :=
  matmul dot_S8x8_S8x128_S8x128_1_0_0_1_n_n none
    (truncf .bf16 (select k0_pay3
      (matmul dot_S8x64_S8x64_S8x8_1_1_0_0_n_n none
        (extractStridedSlice S8x64 ![0, 64 * h.val] (k0_pay12 (k0_pay5 la) (k0_pay7 la) (k0_pay8 q)) (sl_col h))
        (extractStridedSlice S8x64 ![0, 64 * h.val] (k0_pay13 (k0_pay5 la) (k0_pay7 la) (k0_pay9 k)) (sl_col h))
        (constant S8x8 .f32 0x00000000#32))
      (broadcast S8x8 (Scalar.ofBits .f32 0x00000000#32))) bitsLt_bf16_f32)
    (extractStridedSlice S8x128 ![0, 128 * h.val] (k0_pay10 v) (sl_val h))
    (constant S8x128 .f32 0x00000000#32)

/-- What the chunk adds to the state of head `h`: decayed keys times values. -/
def headUpd (h : Fin 4) (k : Vec F S1x8x256 .f32) (v : Vec F S1x8x512 .f32) (la : Vec F S1x8x256 .f32) : FVec F S64x128 .f32 :=
  matmul dot_S8x64_S8x128_S64x128_0_0_1_1_n_n none
    (extractStridedSlice S8x64 ![0, 64 * h.val] (k0_pay14 (k0_pay5 la) (k0_pay6 la) (k0_pay9 k)) (sl_col h))
    (extractStridedSlice S8x128 ![0, 128 * h.val] (k0_pay10 v) (sl_val h))
    (constant S64x128 .f32 0x00000000#32)

/-- The block of outputs of head `h` from the state `st` before the chunk. -/
def headO (h : Fin 4) (q k : Vec F S1x8x256 .f32) (v : Vec F S1x8x512 .f32) (la : Vec F S1x8x256 .f32) (st : Vec F S1x1x64x128 .f32) : FVec F S1x8x128 .f32 :=
  k0_pay34 (extractStridedSlice S8x64 ![0, 64 * h.val] (k0_pay11 (k0_pay5 la) (k0_pay8 q)) (sl_col h)) (headIntra h q k v la) st

/-- The state of head `h` after the chunk. -/
def headS (h : Fin 4) (k : Vec F S1x8x256 .f32) (v : Vec F S1x8x512 .f32) (la : Vec F S1x8x256 .f32) (st : Vec F S1x1x64x128 .f32) : FVec F S1x1x64x128 .f32 :=
  k0_pay35 (headDec h la) (headUpd h k v la) st

theorem inb_row (n : Fin 32) : ∀ a, (![n.val / 4, 0, 0] : Fin 3 → Nat) a + S1x8x256.size a ≤ S8x8x256.size a := by revert n; decide
theorem inb_val (n : Fin 32) : ∀ a, (![n.val / 4, 0, 0] : Fin 3 → Nat) a + S1x8x512.size a ≤ S8x8x512.size a := by revert n; decide
theorem inb_out (n : Fin 32) : ∀ a, (![n.val / 4, 0, 128 * (n.val % 4)] : Fin 3 → Nat) a + S1x8x128.size a ≤ S8x8x512.size a := by revert n; decide
theorem inb_st (n : Fin 32) : ∀ a, (![n.val / 4, n.val % 4, 0, 0] : Fin 4 → Nat) a + S1x1x64x128.size a ≤ S8x4x64x128.size a := by revert n; decide
theorem inb_all : ∀ a, (![0, 0, 0, 0] : Fin 4 → Nat) a + S8x4x64x128.size a ≤ S8x4x64x128.size a := by decide

def rRow (n : Fin 32) : Rect S8x8x256 := Rect.unit (s := S8x8x256) ![n.val / 4, 0, 0] S1x8x256.size (inb_row n)
def rVal (n : Fin 32) : Rect S8x8x512 := Rect.unit (s := S8x8x512) ![n.val / 4, 0, 0] S1x8x512.size (inb_val n)
def rOut (n : Fin 32) : Rect S8x8x512 := Rect.unit (s := S8x8x512) ![n.val / 4, 0, 128 * (n.val % 4)] S1x8x128.size (inb_out n)
def rSt (n : Fin 32) : Rect S8x4x64x128 := Rect.unit (s := S8x4x64x128) ![n.val / 4, n.val % 4, 0, 0] S1x1x64x128.size (inb_st n)
def rAll : Rect S8x4x64x128 := Rect.unit (s := S8x4x64x128) ![0, 0, 0, 0] S8x4x64x128.size inb_all

def hd (n : Fin 32) : Fin 4 := ⟨n.val % 4, by omega⟩

section
variable (a2 : Memref sig .tc .vmem S8x8x256 .f32) (h2 : a2.IsWhole) (a3 : Memref sig .tc .vmem S8x8x256 .f32) (h3 : a3.IsWhole)
  (a4 : Memref sig .tc .vmem S8x8x512 .f32) (h4 : a4.IsWhole) (a5 : Memref sig .tc .vmem S8x8x256 .f32) (h5 : a5.IsWhole)
  (a6 : Memref sig .tc .vmem S8x4x64x128 .f32) (h6 : a6.IsWhole) (a9 : Memref sig .tc .vmem S8x4x64x128 .f32)
  (x0 x1 : Vec F S8x8x256 .f32) (x2 : Vec F S8x8x512 .f32) (x3 : Vec F S8x8x256 .f32) (x4 : Vec F S8x4x64x128 .f32)

/-- The rows of sequence `n / 4` of a block, as the body loads them. -/
def ldRow (a : Memref sig .tc .vmem S8x8x256 .f32) (h : a.IsWhole) (x : Vec F S8x8x256 .f32) (n : Fin 32) : Vec F S1x8x256 .f32 :=
  View.readAt (Elt F) a.view (rRow n).toLoadRect (h.unread x)
def ldVal (n : Fin 32) : Vec F S1x8x512 .f32 := View.readAt (Elt F) a4.view (rVal n).toLoadRect (h4.unread x2)

/-- The scratch's stores before step `n`, the last one first. -/
def scr : (n : Nat) → n ≤ 32 → List (View.Piece (Elt F) S8x4x64x128 .f32)
  | 0, _ => [⟨rAll, k0_pay2 (View.readAt (Elt F) a6.view rAll.toLoadRect (h6.unread x4))⟩]
  | n + 1, hn =>
    ⟨rSt ⟨n, hn⟩, headS (hd ⟨n, hn⟩) (ldRow a3 h3 x1 ⟨n, hn⟩) (ldVal a4 h4 x2 ⟨n, hn⟩) (ldRow a5 h5 x3 ⟨n, hn⟩)
      (a9.view.readCov (scr n (Nat.le_of_succ_le hn)) (rSt ⟨n, hn⟩).toLoadRect)⟩ :: scr n (Nat.le_of_succ_le hn)

/-- The stores of the outputs up to step `n`, the last one first. -/
def outs : (n : Nat) → n ≤ 32 → List (View.Piece (Elt F) S8x8x512 .f32)
  | 0, _ => []
  | n + 1, hn =>
    ⟨rOut ⟨n, hn⟩, headO (hd ⟨n, hn⟩) (ldRow a2 h2 x0 ⟨n, hn⟩) (ldRow a3 h3 x1 ⟨n, hn⟩) (ldVal a4 h4 x2 ⟨n, hn⟩) (ldRow a5 h5 x3 ⟨n, hn⟩)
      (a9.view.readCov (scr a3 h3 a4 h4 a5 h5 a6 h6 a9 x1 x2 x3 x4 n (Nat.le_of_succ_le hn)) (rSt ⟨n, hn⟩).toLoadRect)⟩ :: outs n (Nat.le_of_succ_le hn)

set_option maxHeartbeats 4000000 in
/-- The body's stores to the output block are the 32 heads' outputs. -/
theorem run_out (c : Dev nD) (i : grid0.Coords) (a7 h7 a8 h8 h9) (hc0 : cond0_0 i) :
    (kernelRun0_A c i a2 h2 a3 h3 a4 h4 a5 h5 a6 h6 a7 h7 a8 h8 a9 h9 hc0 x0 x1 x2 x3 x4).1
      = outs a2 h2 a3 h3 a4 h4 a5 h5 a6 h6 a9 x0 x1 x2 x3 x4 32 (Nat.le_refl _) := by
  sl_kernel_rfl

set_option maxHeartbeats 4000000 in
/-- The body's store to the state block is the whole scratch after the 32 heads. -/
theorem run_st (c : Dev nD) (i : grid0.Coords) (a7 h7 a8 h8 h9) (hc0 : cond0_0 i) :
    (kernelRun0_A c i a2 h2 a3 h3 a4 h4 a5 h5 a6 h6 a7 h7 a8 h8 a9 h9 hc0 x0 x1 x2 x3 x4).2.1
      = [⟨rAll, a9.view.readCov (scr a3 h3 a4 h4 a5 h5 a6 h6 a9 x1 x2 x3 x4 32 (Nat.le_refl _)) rAll.toLoadRect⟩] := by
  sl_kernel_rfl
end
end
end Cert.GlaIdeal.Hand
end
-- ==== Proof.Gla.Blocks.lean ====
module

public import proofs.«01_k».proof.Proof.Gla.Heads
public import Idealize.ShloMosaic.Lib.WholeRead

@[expose] public section

set_option maxRecDepth 16384

noncomputable section

open Idealize.ShloMosaic Idealize.ShloMosaic.TcCoe Idealize.SL.Sem

/-! ## The gated linear attention call: what its blocks hold after the 32 heads -/

namespace Cert.GlaIdeal.Hand

open Cert.GlaIdeal Cert.GlaIdeal.Gen

section
variable {F : FTy → Type} [FloatOps F]

/-- Two heads' states lie apart. -/
theorem st_disjoint {n m : Fin 32} (h : n ≠ m) : Disjoint (rSt n).set (rSt m).set := by
  have hv : n.val ≠ m.val := fun e => h (Fin.ext e)
  by_cases h0 : n.val / 4 = m.val / 4
  · refine Rect.unit_disjoint (1 : Fin 4) ?_
    show n.val % 4 + 1 ≤ m.val % 4 ∨ m.val % 4 + 1 ≤ n.val % 4
    omega
  · refine Rect.unit_disjoint (0 : Fin 4) ?_
    show n.val / 4 + 1 ≤ m.val / 4 ∨ m.val / 4 + 1 ≤ n.val / 4
    omega

/-- Two heads' outputs lie apart. -/
theorem out_disjoint {n m : Fin 32} (h : n ≠ m) : Disjoint (rOut n).set (rOut m).set := by
  have hv : n.val ≠ m.val := fun e => h (Fin.ext e)
  by_cases h0 : n.val / 4 = m.val / 4
  · refine Rect.unit_disjoint (2 : Fin 3) ?_
    show 128 * (n.val % 4) + 128 ≤ 128 * (m.val % 4) ∨ 128 * (m.val % 4) + 128 ≤ 128 * (n.val % 4)
    omega
  · refine Rect.unit_disjoint (0 : Fin 3) ?_
    show n.val / 4 + 1 ≤ m.val / 4 ∨ m.val / 4 + 1 ≤ n.val / 4
    omega

theorem st_not_mem {n m : Fin 32} (h : n ≠ m) (y : (rSt m).shape.Idx) : (rSt m).emb y ∉ (rSt n).set :=
  Finset.disjoint_right.mp (st_disjoint h) ((rSt m).toLoadRect.idx_mem y)

theorem out_not_mem {n m : Fin 32} (h : n ≠ m) (y : (rOut m).shape.Idx) : (rOut m).emb y ∉ (rOut n).set :=
  Finset.disjoint_right.mp (out_disjoint h) ((rOut m).toLoadRect.idx_mem y)

theorem hz4 : (![0, 0, 0, 0] : Fin 4 → Nat) = fun _ => 0 := funext fun a => by fin_cases a <;> rfl

theorem rAll_idx (y : S8x4x64x128.Idx) : rAll.toLoadRect.idx y = y := by
  funext a; apply Fin.ext
  show (![0, 0, 0, 0] : Fin 4 → Nat) a + 1 * (y a : Nat) = y a
  rw [hz4]
  show 0 + 1 * (y a : Nat) = y a
  omega

section
variable (a2 : Memref sig .tc .vmem S8x8x256 .f32) (h2 : a2.IsWhole) (a3 : Memref sig .tc .vmem S8x8x256 .f32) (h3 : a3.IsWhole)
  (a4 : Memref sig .tc .vmem S8x8x512 .f32) (h4 : a4.IsWhole) (a5 : Memref sig .tc .vmem S8x8x256 .f32) (h5 : a5.IsWhole)
  (a6 : Memref sig .tc .vmem S8x4x64x128 .f32) (h6 : a6.IsWhole) (a9 : Memref sig .tc .vmem S8x4x64x128 .f32)
  (x0 x1 : Vec F S8x8x256 .f32) (x2 : Vec F S8x8x512 .f32) (x3 : Vec F S8x8x256 .f32) (x4 : Vec F S8x4x64x128 .f32)

theorem ldRow_eq (a : Memref sig .tc .vmem S8x8x256 .f32) (h : a.IsWhole) (x : Vec F S8x8x256 .f32) (n : Fin 32) :
    ldRow a h x n = View.ld x (rRow n) := funext fun y => h.readAt_unread x (rRow n).toLoadRect y

theorem ldVal_eq (n : Fin 32) : ldVal a4 h4 x2 n = View.ld x2 (rVal n) := funext fun y => h4.readAt_unread x2 (rVal n).toLoadRect y

/-- Before its own step the scratch holds, at a head's place, the state the head was given. -/
theorem scr_before (n : Nat) (hn : n ≤ 32) (j : Fin 32) (hj : n ≤ j.val) (y : (rSt j).shape.Idx) :
    View.canon (scr a3 h3 a4 h4 a5 h5 a6 h6 a9 x1 x2 x3 x4 n hn) ((rSt j).emb y) = x4 ((rSt j).emb y) := by
  induction n with
  | zero =>
    refine (congrFun (View.canon_unit_zero hz4 inb_all _) _).trans ?_
    unfold k0_pay2
    refine (congrFun (shapeCast_self (s := S8x4x64x128) (View.readAt (Elt F) a6.view rAll.toLoadRect (h6.unread x4)) shapeCasts_S8x4x64x128_S8x4x64x128) _).trans ?_
    exact (h6.readAt_unread x4 rAll.toLoadRect _).trans (congrArg x4 (rAll_idx _))
  | succ n ih =>
    have e : (⟨n, hn⟩ : Fin 32) ≠ j := fun e => by have h := congrArg Fin.val e; change n = j.val at h; omega
    exact (View.canon_cons_of_not_mem (⟨rSt ⟨n, hn⟩, _⟩ : View.Piece (Elt F) S8x4x64x128 .f32) _ (st_not_mem e y)).trans (ih _ (by omega))

theorem scr_read (n : Nat) (hn : n ≤ 32) (j : Fin 32) (hj : n ≤ j.val) :
    a9.view.readCov (scr a3 h3 a4 h4 a5 h5 a6 h6 a9 x1 x2 x3 x4 n hn) (rSt j).toLoadRect = View.ld x4 (rSt j) := by
  rw [View.readCov_eq_canon']
  exact funext fun y => scr_before _ _ _ _ _ _ _ _ _ _ _ _ _ n hn j hj y

theorem headO_congr (h : Fin 4) {q q' k k' : Vec F S1x8x256 .f32} {v v' : Vec F S1x8x512 .f32} {la la' : Vec F S1x8x256 .f32}
    {st st' : Vec F S1x1x64x128 .f32} (e1 : q = q') (e2 : k = k') (e3 : v = v') (e4 : la = la') (e5 : st = st') :
    headO h q k v la st = headO h q' k' v' la' st' := by subst e1 e2 e3 e4 e5; rfl

theorem headS_congr (h : Fin 4) {k k' : Vec F S1x8x256 .f32} {v v' : Vec F S1x8x512 .f32} {la la' : Vec F S1x8x256 .f32}
    {st st' : Vec F S1x1x64x128 .f32} (e2 : k = k') (e3 : v = v') (e4 : la = la') (e5 : st = st') :
    headS h k v la st = headS h k' v' la' st' := by subst e2 e3 e4 e5; rfl

/-- What the outputs' stores leave at a head's place. -/
theorem outs_at (n : Nat) (hn : n ≤ 32) (j : Fin 32) (hj : j.val < n) (y : (rOut j).shape.Idx) :
    View.canon (outs a2 h2 a3 h3 a4 h4 a5 h5 a6 h6 a9 x0 x1 x2 x3 x4 n hn) ((rOut j).emb y)
      = headO (hd j) (View.ld x0 (rRow j)) (View.ld x1 (rRow j)) (View.ld x2 (rVal j)) (View.ld x3 (rRow j)) (View.ld x4 (rSt j)) y := by
  induction n with
  | zero => exact absurd hj (by omega)
  | succ n ih =>
    by_cases e : j = ⟨n, hn⟩
    · subst e
      unfold outs
      exact (View.canon_cons_emb (rOut ⟨n, hn⟩) _ _ y).trans (congrFun (headO_congr _ (ldRow_eq a2 h2 x0 _) (ldRow_eq a3 h3 x1 _) (ldVal_eq a4 h4 x2 _)
        (ldRow_eq a5 h5 x3 _) (scr_read a3 h3 a4 h4 a5 h5 a6 h6 a9 x1 x2 x3 x4 n _ ⟨n, hn⟩ (Nat.le_refl n))) y)
    · have hv : j.val ≠ n := fun h => e (Fin.ext h)
      unfold outs
      exact (View.canon_cons_of_not_mem (⟨rOut ⟨n, hn⟩, _⟩ : View.Piece (Elt F) S8x8x512 .f32) _ (out_not_mem (Ne.symm e) y)).trans (ih _ (by omega))

/-- What the scratch's stores leave at a head's place. -/
theorem scr_at (n : Nat) (hn : n ≤ 32) (j : Fin 32) (hj : j.val < n) (y : (rSt j).shape.Idx) :
    View.canon (scr a3 h3 a4 h4 a5 h5 a6 h6 a9 x1 x2 x3 x4 n hn) ((rSt j).emb y)
      = headS (hd j) (View.ld x1 (rRow j)) (View.ld x2 (rVal j)) (View.ld x3 (rRow j)) (View.ld x4 (rSt j)) y := by
  induction n with
  | zero => exact absurd hj (by omega)
  | succ n ih =>
    by_cases e : j = ⟨n, hn⟩
    · subst e
      unfold scr
      exact (View.canon_cons_emb (rSt ⟨n, hn⟩) _ _ y).trans (congrFun (headS_congr _ (ldRow_eq a3 h3 x1 _) (ldVal_eq a4 h4 x2 _)
        (ldRow_eq a5 h5 x3 _) (scr_read a3 h3 a4 h4 a5 h5 a6 h6 a9 x1 x2 x3 x4 n _ ⟨n, hn⟩ (Nat.le_refl n))) y)
    · have hv : j.val ≠ n := fun h => e (Fin.ext h)
      unfold scr
      exact (View.canon_cons_of_not_mem (⟨rSt ⟨n, hn⟩, _⟩ : View.Piece (Elt F) S8x4x64x128 .f32) _ (st_not_mem (Ne.symm e) y)).trans (ih _ (by omega))

/-- The output block the body leaves, at a head's place. -/
theorem out5_at (c : Dev nD) (i : grid0.Coords) (a7 h7 a8 h8 h9) (hc0 : cond0_0 i) (j : Fin 32) (y : (rOut j).shape.Idx) :
    out0_A_5 c i a2 h2 a3 h3 a4 h4 a5 h5 a6 h6 a7 h7 a8 h8 a9 h9 hc0 x0 x1 x2 x3 x4 ((rOut j).emb y)
      = headO (hd j) (View.ld x0 (rRow j)) (View.ld x1 (rRow j)) (View.ld x2 (rVal j)) (View.ld x3 (rRow j)) (View.ld x4 (rSt j)) y := by
  unfold out0_A_5
  rw [View.read_writes_junk_eq_canon, run_out]
  exact outs_at _ _ _ _ _ _ _ _ _ _ _ _ _ _ _ _ 32 _ j j.isLt y

/-- The state block the body leaves, at a head's place. -/
theorem out6_at (c : Dev nD) (i : grid0.Coords) (a7 h7 a8 h8 h9) (hc0 : cond0_0 i) (j : Fin 32) (y : (rSt j).shape.Idx) :
    out0_A_6 c i a2 h2 a3 h3 a4 h4 a5 h5 a6 h6 a7 h7 a8 h8 a9 h9 hc0 x0 x1 x2 x3 x4 ((rSt j).emb y)
      = headS (hd j) (View.ld x1 (rRow j)) (View.ld x2 (rVal j)) (View.ld x3 (rRow j)) (View.ld x4 (rSt j)) y := by
  unfold out0_A_6
  rw [View.read_writes_junk_eq_canon, run_st, View.readCov_eq_canon']
  refine (congrFun (View.canon_unit_zero hz4 inb_all _) _).trans ?_
  exact (congrArg (View.canon _) (rAll_idx _)).trans (scr_at _ _ _ _ _ _ _ _ _ _ _ _ _ 32 _ j j.isLt y)
end
end
end Cert.GlaIdeal.Hand
end
-- ==== Proof.Gla.Real.lean ====
module

public import proofs.«01_k».proof.Proof.Gla.Blocks

@[expose] public section
set_option maxRecDepth 16384
noncomputable section
open Idealize.ShloMosaic Idealize.ShloMosaic.TcCoe Idealize.SL.Sem

/-! ## The gated linear attention call: one head's arithmetic over the reals -/

namespace Cert.Proof.Gla

/-- One output of a head: the queries decayed from the chunk's start times the state before it, plus the
masked products within the chunk. `c t d` is the running sum of the log decays. -/
def headOut (c : Fin 8 → Fin 64 → EReal) (q k : Fin 8 → Fin 64 → EReal) (v : Fin 8 → EReal) (st : Fin 64 → EReal) (t : Fin 8) : EReal :=
  (∑ d, q t d * Ideal.exp (c t d) * st d) + ∑ s, (∑ d, q t d * k s d * Ideal.exp (if s ≤ t then c t d - c s d else ⊥)) * v s

/-- One entry of a head's state after the chunk. -/
def headState (c : Fin 8 → EReal) (k v : Fin 8 → EReal) (st : EReal) : EReal :=
  Ideal.exp (c 7) * st + ∑ s, k s * Ideal.exp (c 7 - c s) * v s

/-- The running sum of a column of log decays. -/
def cum (la : Fin 8 → EReal) (t : Fin 8) : EReal := ∑ u, if u ≤ t then la u else 0

theorem cum_real {la : Fin 8 → EReal} (h : ∀ t, ∃ r : ℝ, la t = r) (t : Fin 8) : ∃ r : ℝ, cum la t = r := by
  refine Finset.sum_induction _ (fun x : EReal => ∃ r : ℝ, x = r) ?_ ⟨0, rfl⟩ fun u _ => ?_
  · rintro _ _ ⟨a, rfl⟩ ⟨b, rfl⟩
    exact ⟨a + b, (EReal.coe_add a b).symm⟩
  · split_ifs
    · exact h u
    · exact ⟨0, rfl⟩

theorem sge_iff (t s : Fin 8) : IntOp.cmpi CmpIPredicate.sge (BitVec.ofNat 32 t.val) (BitVec.ofNat 32 s.val) = if s ≤ t then 1#1 else 0#1 := by
  revert t s; decide
theorem eq_iff (t s : Fin 64) : IntOp.cmpi CmpIPredicate.eq (BitVec.ofNat 32 t.val) (BitVec.ofNat 32 s.val) = if s = t then 1#1 else 0#1 := by
  revert t s; decide +kernel

theorem select_ite {α : Type} (p : Prop) [Decidable p] (a b : α) : Scalar.select (if p then 1#1 else 0#1) a b = if p then a else b := by
  unfold Scalar.select
  by_cases h : p
  · rw [if_pos h, if_pos h]; rfl
  · rw [if_neg h, if_neg h]; rfl

/-- Splitting a decay at the chunk's middle row changes nothing where the running sums are real. -/
theorem split_decay {x y m : EReal} (hx : ∃ r : ℝ, x = r) (hy : ∃ r : ℝ, y = r) (hm : ∃ r : ℝ, m = r) (q k : EReal) :
    q * Ideal.exp (x - m) * (k * Ideal.exp (m - y)) = q * k * Ideal.exp (x - y) := by
  obtain ⟨x, rfl⟩ := hx
  obtain ⟨y, rfl⟩ := hy
  obtain ⟨m, rfl⟩ := hm
  rw [← EReal.coe_sub, ← EReal.coe_sub, ← EReal.coe_sub, Ideal.exp_coe, Ideal.exp_coe, Ideal.exp_coe, mul_mul_mul_comm, ← EReal.coe_mul, ← Real.exp_add,
    show x - m + (m - y) = x - y by ring]
end Cert.Proof.Gla

namespace Cert.GlaIdeal.Hand
open Cert.GlaIdeal Cert.GlaIdeal.Gen Cert.Proof.Gla

variable (h : Fin 4) (q k : Vec Ideal S1x8x256 .f32) (v : Vec Ideal S1x8x512 .f32) (la : Vec Ideal S1x8x256 .f32) (st : Vec Ideal S1x1x64x128 .f32)

/-- A head's column of a 256-wide row, and of a 512-wide row. -/
def col (h : Fin 4) (d : Fin 64) : Fin 256 := ⟨64 * h.val + d.val, by omega⟩
def vcol (h : Fin 4) (e : Fin 128) : Fin 512 := ⟨128 * h.val + e.val, by omega⟩

/-- The kernel's running sum, taken by three products with a triangle of ones, is the plain one: the parts
left over by the first rounding are zero. -/
theorem cum_apply (hla : ∀ i, ∃ r : ℝ, la i = r) (t : Fin 8) (j : Fin 256) :
    k0_pay5 la (ix2 t j) = cum (fun u => la (ix3 0 u j)) t := by
  have hz (x : Fin 8) : la (ix3 0 x j) - la (ix3 0 x j) = (0 : EReal) := by
    obtain ⟨r, hr⟩ := hla (ix3 0 x j)
    rw [hr, ← EReal.coe_sub, sub_self]; rfl
  pointwise [k0_pay5, k0_pay3]
  simp only [hz, sge_iff, select_ite, sub_zero, ite_self, Finset.sum_const_zero, add_zero]
  rfl

theorem headO_apply (hla : ∀ i, ∃ r : ℝ, la i = r) (t : Fin 8) (e : Fin 128) :
    headO h q k v la st (ix3 0 t e)
      = headOut (fun t d => cum (fun u => la (ix3 0 u (col h d))) t) (fun t d => q (ix3 0 t (col h d))) (fun t d => k (ix3 0 t (col h d)))
          (fun t => v (ix3 0 t (vcol h e))) (fun d => st (ix4 0 0 d e)) t := by
  have hc (j) (t) : ∃ r : ℝ, cum (fun u => la (ix3 0 u j)) t = r := cum_real (fun u => hla _) t
  pointwise [headO, headIntra, k0_pay34, k0_pay33, k0_pay3, k0_pay12, k0_pay13, k0_pay11, k0_pay10, k0_pay9, k0_pay8, k0_pay7]
  simp only [cum_apply la hla, sge_iff, select_ite]
  unfold headOut
  refine congrArg₂ (HAdd.hAdd (α := EReal) (β := EReal)) rfl (Finset.sum_congr rfl fun s _ => ?_)
  by_cases hs : s ≤ t
  · simp only [if_pos hs]
    exact congrArg₂ (HMul.hMul (α := EReal) (β := EReal)) (Finset.sum_congr rfl fun d _ => split_decay (hc _ _) (hc _ _) (hc _ _) _ _) rfl
  · simp only [if_neg hs, Ideal.exp_bot, mul_zero, Finset.sum_const_zero, zero_mul]

theorem headS_apply (hla : ∀ i, ∃ r : ℝ, la i = r) (d : Fin 64) (e : Fin 128) :
    headS h k v la st (ix4 0 0 d e)
      = headState (cum fun u => la (ix3 0 u (col h d))) (fun t => k (ix3 0 t (col h d))) (fun t => v (ix3 0 t (vcol h e))) (st (ix4 0 0 d e)) := by
  pointwise [headS, headUpd, headDec, k0_pay35, k0_pay33, k0_pay4, k0_pay14, k0_pay10, k0_pay9, k0_pay8, k0_pay6]
  simp only [cum_apply la hla, eq_iff, select_ite, Finset.sum_ite_eq', Finset.mem_univ, if_true]
  unfold headState
  exact congrArg₂ (HAdd.hAdd (α := EReal) (β := EReal)) (mul_comm _ _) rfl

end Cert.GlaIdeal.Hand
end
-- ==== Proof.Gla.Kernel.lean ====
module

public import proofs.«01_k».proof.Proof.Gla.Real

@[expose] public section
set_option maxRecDepth 16384
noncomputable section
open Idealize.ShloMosaic Idealize.ShloMosaic.TcCoe Idealize.SL.Sem
open Idealize.ShloMosaic.Pipeline (Dat)

/-! ## The gated linear attention call: what its two result arrays hold -/

namespace Cert.GlaIdeal.Hand
open Cert.GlaIdeal Cert.GlaIdeal.Gen Cert.Proof.Gla

section
variable (x0 x1 : FVec Ideal S128x8x4x64 .f32) (x2 : FVec Ideal S128x8x4x128 .f32) (x3 : FVec Ideal S128x8x4x64 .f32) (x4 : FVec Ideal S128x4x64x128 .f32)

/-- The output of sequence `b` at token `t`, head `h`, place `e`, of the argument arrays. -/
def outVal (b : Fin 128) (t : Fin 8) (h : Fin 4) (e : Fin 128) : EReal :=
  headOut (fun t d => cum (fun u => x3 (ix4 b u h d)) t) (fun t d => x0 (ix4 b t h d)) (fun t d => x1 (ix4 b t h d))
    (fun t => x2 (ix4 b t h e)) (fun d => x4 (ix4 b h d e)) t

/-- The state of sequence `b`, head `h` after its tokens, of the argument arrays. -/
def stVal (b : Fin 128) (h : Fin 4) (d : Fin 64) (e : Fin 128) : EReal :=
  headState (cum fun u => x3 (ix4 b u h d)) (fun t => x1 (ix4 b t h d)) (fun t => x2 (ix4 b t h e)) (x4 (ix4 b h d e))

def out1 (i : S128x8x512.Idx) : EReal :=
  outVal x0 x1 x2 x3 x4 (i 0) (i 1) ⟨(i 2).val / 128, by have := (i 2).isLt; change (i 2).val < 512 at this; omega⟩ ⟨(i 2).val % 128, by omega⟩
def out2 (i : S128x4x64x128.Idx) : EReal := stVal x1 x2 x3 x4 (i 0) (i 1) (i 2) (i 3)

theorem out1_at (b : Fin 128) (t : Fin 8) (h : Fin 4) (e : Fin 128) : out1 x0 x1 x2 x3 x4 (ix3 b t (vcol h e)) = outVal x0 x1 x2 x3 x4 b t h e := by
  show outVal x0 x1 x2 x3 x4 b t ⟨(128 * h.val + e.val) / 128, _⟩ ⟨(128 * h.val + e.val) % 128, _⟩ = _
  congr 1 <;> exact Fin.ext (by show _ = _; simp only []; omega)
end

variable (m : (ℓ : Loc nD τ sig) → Buf (Elt Ideal) ℓ) (ρ : Dev nD → PrngReg)

theorem V_v1 (c : Dev nD) (b : Fin 128) (t : Fin 8) (h : Fin 4) (d : Fin 64) : V m c main_v1 (ix3 b t (col h d)) = m (c.tc.loc main_arg0) (ix4 b t h d) := by
  entry_read
  pointwise [col]
theorem V_v3 (c : Dev nD) (b : Fin 128) (t : Fin 8) (h : Fin 4) (d : Fin 64) : V m c main_v3 (ix3 b t (col h d)) = m (c.tc.loc main_arg1) (ix4 b t h d) := by
  entry_read
  pointwise [col]
theorem V_v5 (c : Dev nD) (b : Fin 128) (t : Fin 8) (h : Fin 4) (e : Fin 128) : V m c main_v5 (ix3 b t (vcol h e)) = m (c.tc.loc main_arg2) (ix4 b t h e) := by
  entry_read
  pointwise [vcol]
theorem V_v7 (c : Dev nD) (b : Fin 128) (t : Fin 8) (h : Fin 4) (d : Fin 64) : V m c main_v7 (ix3 b t (col h d)) = m (c.tc.loc main_arg3) (ix4 b t h d) := by
  entry_read
  pointwise [col]

/-- At grid point `t` every window is on its `t`-th eight sequences. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![t.val, 0, 0] ∧ win0_6.index t = ![t.val, 0, 0, 0] :=
  (by decide +kernel : ∀ t : Fin grid0.N, _)

section
variable (c : Dev nD) (t : Fin cfg0.N) (s : Fin 8) (R : Fin 128) (hR : R.val = t.val * 8 + s.val)
include hR
theorem blk0 (u : Fin 8) (h : Fin 4) (d : Fin 64) : (iblk m c 0 t : Vec Ideal S8x8x256 .f32) (ix3 s u (col h d)) = m (c.tc.loc main_arg0) (ix4 R u h d) := by
  refine Eq.trans ?_ (V_v1 m c R u h d)
  blk_ext [iblk, (idx t).1]
theorem blk1 (u : Fin 8) (h : Fin 4) (d : Fin 64) : (iblk m c 1 t : Vec Ideal S8x8x256 .f32) (ix3 s u (col h d)) = m (c.tc.loc main_arg1) (ix4 R u h d) := by
  refine Eq.trans ?_ (V_v3 m c R u h d)
  blk_ext [iblk, (idx t).2.1]
theorem blk2 (u : Fin 8) (h : Fin 4) (e : Fin 128) : (iblk m c 2 t : Vec Ideal S8x8x512 .f32) (ix3 s u (vcol h e)) = m (c.tc.loc main_arg2) (ix4 R u h e) := by
  refine Eq.trans ?_ (V_v5 m c R u h e)
  blk_ext [iblk, (idx t).2.2.1]
theorem blk3 (u : Fin 8) (h : Fin 4) (d : Fin 64) : (iblk m c 3 t : Vec Ideal S8x8x256 .f32) (ix3 s u (col h d)) = m (c.tc.loc main_arg3) (ix4 R u h d) := by
  refine Eq.trans ?_ (V_v7 m c R u h d)
  blk_ext [iblk, (idx t).2.2.2.1]
theorem blk4 (h : Fin 4) (d : Fin 64) (e : Fin 128) : (iblk m c 4 t : Vec Ideal S8x4x64x128 .f32) (ix4 s h d e) = m (c.tc.loc main_arg4) (ix4 R h d e) := by
  blk_ext! [iblk, V_main_arg4, (idx t).2.2.2.2.1]
end

/-- The step of sequence `s`, head `h`. -/
def step (s : Fin 8) (h : Fin 4) : Fin 32 := ⟨4 * s.val + h.val, by omega⟩
theorem hd_step (s : Fin 8) (h : Fin 4) : hd (step s h) = h := Fin.ext (by show (4 * s.val + h.val) % 4 = h.val; omega)
theorem row_step (x : Vec Ideal S8x8x256 .f32) (s : Fin 8) (h : Fin 4) (u : Fin 8) (j : Fin 256) :
    (View.ld (Val := Elt Ideal) (e' := .f32) x (rRow (step s h)) : Vec Ideal S1x8x256 .f32) (ix3 0 u j) = x (ix3 s u j) := by
  refine View.ld_unit_apply_of (Val := Elt Ideal) (e := .f32) x _ _ _ _ _ fun a => ?_
  match a with
  | ⟨0, _⟩ => show s.val = (4 * s.val + h.val) / 4 + 0; omega
  | ⟨1, _⟩ => show u.val = 0 + u.val; omega
  | ⟨2, _⟩ => show j.val = 0 + j.val; omega
theorem val_step (x : Vec Ideal S8x8x512 .f32) (s : Fin 8) (h : Fin 4) (u : Fin 8) (j : Fin 512) :
    (View.ld (Val := Elt Ideal) (e' := .f32) x (rVal (step s h)) : Vec Ideal S1x8x512 .f32) (ix3 0 u j) = x (ix3 s u j) := by
  refine View.ld_unit_apply_of (Val := Elt Ideal) (e := .f32) x _ _ _ _ _ fun a => ?_
  match a with
  | ⟨0, _⟩ => show s.val = (4 * s.val + h.val) / 4 + 0; omega
  | ⟨1, _⟩ => show u.val = 0 + u.val; omega
  | ⟨2, _⟩ => show j.val = 0 + j.val; omega
theorem st_step (x : Vec Ideal S8x4x64x128 .f32) (s : Fin 8) (h : Fin 4) (d : Fin 64) (e : Fin 128) :
    (View.ld (Val := Elt Ideal) (e' := .f32) x (rSt (step s h)) : Vec Ideal S1x1x64x128 .f32) (ix4 0 0 d e) = x (ix4 s h d e) := by
  refine View.ld_unit_apply_of (Val := Elt Ideal) (e := .f32) x _ _ _ _ _ fun a => ?_
  match a with
  | ⟨0, _⟩ => show s.val = (4 * s.val + h.val) / 4 + 0; omega
  | ⟨1, _⟩ => show h.val = (4 * s.val + h.val) % 4 + 0; omega
  | ⟨2, _⟩ => show d.val = 0 + d.val; omega
  | ⟨3, _⟩ => show e.val = 0 + e.val; omega
theorem out_emb (s : Fin 8) (h : Fin 4) (u : Fin 8) (e : Fin 128) : (rOut (step s h)).emb (ix3 (0 : Fin 1) u e) = (ix3 s u (vcol h e) : S8x8x512.Idx) := by
  funext a; apply Fin.ext
  match a with
  | ⟨0, _⟩ => show (4 * s.val + h.val) / 4 + 1 * 0 = s.val; omega
  | ⟨1, _⟩ => show 0 + 1 * u.val = u.val; omega
  | ⟨2, _⟩ => show 128 * ((4 * s.val + h.val) % 4) + 1 * e.val = 128 * h.val + e.val; omega
theorem st_emb (s : Fin 8) (h : Fin 4) (d : Fin 64) (e : Fin 128) : (rSt (step s h)).emb (ix4 (0 : Fin 1) (0 : Fin 1) d e) = (ix4 s h d e : S8x4x64x128.Idx) := by
  funext a; apply Fin.ext
  match a with
  | ⟨0, _⟩ => show (4 * s.val + h.val) / 4 + 1 * 0 = s.val; omega
  | ⟨1, _⟩ => show (4 * s.val + h.val) % 4 + 1 * 0 = h.val; omega
  | ⟨2, _⟩ => show 0 + 1 * d.val = d.val; omega
  | ⟨3, _⟩ => show 0 + 1 * e.val = e.val; omega

theorem headOut_congr {c c' q q' k k' : Fin 8 → Fin 64 → EReal} {v v' : Fin 8 → EReal} {st st' : Fin 64 → EReal}
    (hc : ∀ t d, c t d = c' t d) (hq : ∀ t d, q t d = q' t d) (hk : ∀ t d, k t d = k' t d) (hv : ∀ t, v t = v' t) (hs : ∀ d, st d = st' d) (t : Fin 8) :
    headOut c q k v st t = headOut c' q' k' v' st' t := by
  obtain rfl : c = c' := funext fun t => funext (hc t)
  obtain rfl : q = q' := funext fun t => funext (hq t)
  obtain rfl : k = k' := funext fun t => funext (hk t)
  obtain rfl : v = v' := funext hv
  obtain rfl : st = st' := funext hs
  rfl
theorem headState_congr {c c' k k' v v' : Fin 8 → EReal} {st st' : EReal}
    (hc : ∀ t, c t = c' t) (hk : ∀ t, k t = k' t) (hv : ∀ t, v t = v' t) (hs : st = st') : headState c k v st = headState c' k' v' st' := by
  obtain rfl : c = c' := funext hc
  obtain rfl : k = k' := funext hk
  obtain rfl : v = v' := funext hv
  rw [hs]

/-- Every column of a row is some head's. -/
theorem exists_col (j : Fin 256) : ∃ h d, j = col h d :=
  ⟨⟨j.val / 64, by omega⟩, ⟨j.val % 64, by omega⟩, Fin.ext (by show j.val = 64 * (j.val / 64) + j.val % 64; omega)⟩
theorem exists_vcol (j : Fin 512) : ∃ h e, j = vcol h e :=
  ⟨⟨j.val / 128, by omega⟩, ⟨j.val % 128, by omega⟩, Fin.ext (by show j.val = 128 * (j.val / 128) + j.val % 128; omega)⟩

/-- Every entry of the log decays is a real number. -/
def AllReal (x : S128x8x4x64.Idx → EReal) : Prop := ∀ i, ∃ r : ℝ, x i = r

variable (hla : ∀ c : Dev nD, AllReal (m (c.tc.loc main_arg3)))
include hla

theorem ld_real (c : Dev nD) (t : Fin cfg0.N) (s : Fin 8) (h : Fin 4) (i : S1x8x256.Idx) :
    ∃ r : ℝ, (View.ld (Val := Elt Ideal) (e' := .f32) (iblk m c 3 t : Vec Ideal S8x8x256 .f32) (rRow (step s h)) : Vec Ideal S1x8x256 .f32) i = r := by
  have hN : t.val < 16 := lt_of_lt_of_eq t.isLt (show cfg0.N = 16 from N_0)
  obtain ⟨u, j, rfl⟩ : ∃ (u : Fin 8) (j : Fin 256), i = ix3 0 u j := ⟨i 1, i 2, (eq_ix3 (n0 := 1) (n1 := 8) (n2 := 256) i).trans (congrArg (fun z : Fin 1 => (ix3 z (i 1 : Fin 8) (i 2 : Fin 256) : S1x8x256.Idx)) (Subsingleton.elim _ _))⟩
  obtain ⟨h', d, rfl⟩ := exists_col j
  rw [row_step, blk3 m c t s ⟨t.val * 8 + s.val, by omega⟩ rfl]
  exact hla c _

set_option maxHeartbeats 1000000 in
/-- The first result array holds the outputs. -/
theorem final1 (c : Dev nD) : (dats m 0 c).arrAt 5 cfg0.N = out1 (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  have hN : t.val < 16 := lt_of_lt_of_eq t.isLt (show cfg0.N = 16 from N_0)
  blk_simp
  rw [after0_5]
  obtain ⟨s, u, j, rfl⟩ : ∃ (s : Fin 8) (u : Fin 8) (j : Fin 512), y = ix3 s u j := ⟨y 0, y 1, y 2, eq_ix3 (n0 := 8) (n1 := 8) (n2 := 512) y⟩
  obtain ⟨h, e, rfl⟩ := exists_vcol j
  have he : ((View.whole main_v8_0).slice (win0_5.rect t)).emb (ix3 s u (vcol h e)) = ix3 ⟨t.val * 8 + s.val, by omega⟩ u (vcol h e) := by
    blk_ext [(idx t).2.2.2.2.2.1]
  refine Eq.trans ?_ (congrArg _ he.symm)
  rw [out1_at]
  refine (congrArg (outsAt0 m c t).1 (out_emb s h u e).symm).trans ?_
  unfold outsAt0
  dsimp only
  refine (out5_at (F := Ideal) (hc0 := hcond0_0 t) (j := step s h) ..).trans ?_
  refine (headO_apply _ _ _ _ _ _ (ld_real m hla c t s h) u e).trans ?_
  rw [hd_step]
  refine Eq.trans ?_ (headOut_congr
    (fun t' d => congrArg (cum · t') (funext fun u' => (row_step _ s h u' (col h d)).trans (blk3 m c t s ⟨t.val * 8 + s.val, by omega⟩ rfl u' h d)))
    (fun t' d => (row_step _ s h t' (col h d)).trans (blk0 m c t s ⟨t.val * 8 + s.val, by omega⟩ rfl t' h d))
    (fun t' d => (row_step _ s h t' (col h d)).trans (blk1 m c t s ⟨t.val * 8 + s.val, by omega⟩ rfl t' h d))
    (fun t' => (val_step _ s h t' (vcol h e)).trans (blk2 m c t s ⟨t.val * 8 + s.val, by omega⟩ rfl t' h e))
    (fun d => (st_step _ s h d e).trans (blk4 m c t s ⟨t.val * 8 + s.val, by omega⟩ rfl h d e)) u)
  rfl

set_option maxHeartbeats 1000000 in
/-- The second holds the states. -/
theorem final2 (c : Dev nD) : (dats m 0 c).arrAt 6 cfg0.N = out2 (m (c.tc.loc main_arg1)) (m (c.tc.loc main_arg2)) (m (c.tc.loc main_arg3)) (m (c.tc.loc main_arg4)) := by
  refine (dats m 0 c).arrAt_eq_of_covers 6 _ (by decide +kernel) fun t hf y => ?_
  have hN : t.val < 16 := lt_of_lt_of_eq t.isLt (show cfg0.N = 16 from N_0)
  blk_simp
  rw [after0_6]
  obtain ⟨s, h, d, e, rfl⟩ : ∃ (s : Fin 8) (h : Fin 4) (d : Fin 64) (e : Fin 128), y = ix4 s h d e := ⟨y 0, y 1, y 2, y 3, eq_ix4 (n0 := 8) (n1 := 4) (n2 := 64) (n3 := 128) y⟩
  have he : ((View.whole main_v8_1).slice (win0_6.rect t)).emb (ix4 s h d e) = ix4 ⟨t.val * 8 + s.val, by omega⟩ h d e := by
    blk_ext [(idx t).2.2.2.2.2.2]
  refine Eq.trans ?_ (congrArg _ he.symm)
  refine (congrArg (outsAt0 m c t).2 (st_emb s h d e).symm).trans ?_
  unfold outsAt0
  dsimp only
  refine (out6_at (F := Ideal) (hc0 := hcond0_0 t) (j := step s h) ..).trans ?_
  refine (headS_apply _ _ _ _ _ (ld_real m hla c t s h) d e).trans ?_
  rw [hd_step]
  refine Eq.trans ?_ (headState_congr
    (fun t' => congrArg (cum · t') (funext fun u' => (row_step _ s h u' (col h d)).trans (blk3 m c t s ⟨t.val * 8 + s.val, by omega⟩ rfl u' h d)))
    (fun t' => (row_step _ s h t' (col h d)).trans (blk1 m c t s ⟨t.val * 8 + s.val, by omega⟩ rfl t' h d))
    (fun t' => (val_step _ s h t' (vcol h e)).trans (blk2 m c t s ⟨t.val * 8 + s.val, by omega⟩ rfl t' h e))
    ((st_step _ s h d e).trans (blk4 m c t s ⟨t.val * 8 + s.val, by omega⟩ rfl h d e)))
  rfl

/-- The call's run: its results at the recurrence's values of the arguments, the arguments unchanged. -/
theorem run : θ_run defs (onTc (τ := τ) (main (F := Ideal))) ⟨m, fun _ => 0, ρ⟩ fun r => ∀ c : Dev nD,
      r.2.mem (c.tc.loc main_v8_0) = out1 (m (c.tc.loc main_arg0)) (m (c.tc.loc main_arg1)) (m (c.tc.loc main_arg2)) (m (c.tc.loc main_arg3)) (m (c.tc.loc main_arg4))
      ∧ r.2.mem (c.tc.loc main_v8_1) = out2 (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final1 m hla c), (h c).2.1.trans (final2 m hla c), (h c).2.2⟩) (Value.run_blocks m ρ)

end Cert.GlaIdeal.Hand
end
-- ==== Proof.Gla.Cumsum.lean ====
module

public import proofs.«01_k».proof.Proof.Gen.GlaRefIdeal.Run
public import proofs.«01_k».proof.Proof.Gen.GlaRefIdeal.Read
public import Idealize.ShloMosaic.Lib.Pipeline.ValueKit
public import Idealize.ShloMosaic.Lib.Pipeline.Value
public import Idealize.ShloMosaic.Lib.Pointwise

@[expose] public section
set_option maxRecDepth 16384
noncomputable section
open Idealize.ShloMosaic Idealize.ShloMosaic.TcCoe Idealize.SL.Sem

/-! ## The running sum over a chunk's eight tokens, as the reference's host code takes it -/

namespace Cert.GlaRefIdeal.Hand
open Cert.GlaRefIdeal Cert.GlaRefIdeal.Read

/-- Adding the entries of a list one after the other is adding their sum. -/
theorem foldl_plus {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window of eight ending at token `t`, its places before the first token zero, sums the tokens up to `t`. -/
theorem window_sum (y : Fin 8 → EReal) (t : Fin 8) :
    (∑ n : Fin 8, if h : 7 ≤ t.val + n.val then y ⟨t.val + n.val - 7, by omega⟩ else 0) = ∑ u : Fin 8, if u ≤ t then y u else 0 := by
  fin_cases t <;> simp [Fin.sum_univ_succ] <;> rfl

abbrev W : Shape := ⟨4, ![1, 1, 8, 1]⟩
theorem numelW : W.numel = 8 := by decide +kernel
theorem symmW (n : Fin 8) : (W.rowMajor.symm (n.cast numelW.symm)) = ix4 0 0 n 0 := by
  revert n; decide +kernel

/-- The reference's running sum at a token. -/
theorem cum_value (x3 : FVec Ideal S128x8x4x64 .f32) (b : Fin 128) (t : Fin 8) (h : Fin 4) (d : Fin 64) :
    val_main_v6 (F := Ideal) x3 (ix4 b h t d) = ∑ u : Fin 8, if u ≤ t then x3 (ix4 b u h d) else 0 := by
  rw [← window_sum (fun u => x3 (ix4 b u h d)) t]
  unfold val_main_v6 Host.reduceWindowAdd
  rw [Ideal.hostReduceWindowAdd_def]
  unfold Ideal.hostReduceWindowAdd Host.reduceWindow
  refine (foldl_plus _ _ _).trans ?_
  have hv : val_main_call1_call0_v0 (F := Ideal) (Shape.Idx.first Gen.h_S_) = (0 : EReal) := by
    rw [show Shape.Idx.first Gen.h_S_ = ix0 from funext fun a => a.elim0]
    pointwise [val_main_call1_call0_v0, val_main_call1_call0_cst]
  rw [hv, zero_add, ← Fin.sum_univ_def]
  refine (Fintype.sum_equiv (finCongr numelW.symm) _ _ fun n => ?_).symm
  have hw (a : Fin 4) : (W.rowMajor.symm (finCongr numelW.symm n) a).val = (ix4 (0 : Fin 1) (0 : Fin 1) n (0 : Fin 1) a).val :=
    congrArg (fun i : W.Idx => (i a).val) (symmW n)
  have h0 : (W.rowMajor.symm (finCongr numelW.symm n) (0 : Fin 4)).val = 0 := hw 0
  have h1 : (W.rowMajor.symm (finCongr numelW.symm n) (1 : Fin 4)).val = 0 := hw 1
  have h2 : (W.rowMajor.symm (finCongr numelW.symm n) (2 : Fin 4)).val = n.val := hw 2
  have h3 : (W.rowMajor.symm (finCongr numelW.symm n) (3 : Fin 4)).val = 0 := hw 3
  have hb := b.isLt
  have hh := h.isLt
  have ht := t.isLt
  have hd := d.isLt
  by_cases hn : 7 ≤ t.val + n.val
  · rw [dif_pos hn]
    refine Eq.trans ?_ (dif_pos (?_ : ∀ a : Fin 4, _)).symm
    rotate_left
    · intro a
      match a with
      | ⟨0, _⟩ =>
        show 0 ≤ b.val * 1 + (W.rowMajor.symm (finCongr numelW.symm n) (0 : Fin 4)).val ∧ b.val * 1 + (W.rowMajor.symm (finCongr numelW.symm n) (0 : Fin 4)).val - 0 < 128
        omega
      | ⟨1, _⟩ =>
        show 0 ≤ h.val * 1 + (W.rowMajor.symm (finCongr numelW.symm n) (1 : Fin 4)).val ∧ h.val * 1 + (W.rowMajor.symm (finCongr numelW.symm n) (1 : Fin 4)).val - 0 < 4
        omega
      | ⟨2, _⟩ =>
        show 7 ≤ t.val * 1 + (W.rowMajor.symm (finCongr numelW.symm n) (2 : Fin 4)).val ∧ t.val * 1 + (W.rowMajor.symm (finCongr numelW.symm n) (2 : Fin 4)).val - 7 < 8
        omega
      | ⟨3, _⟩ =>
        show 0 ≤ d.val * 1 + (W.rowMajor.symm (finCongr numelW.symm n) (3 : Fin 4)).val ∧ d.val * 1 + (W.rowMajor.symm (finCongr numelW.symm n) (3 : Fin 4)).val - 0 < 64
        omega
    · refine Eq.trans (b := val_main_v3 (F := Ideal) x3 (ix4 b h ⟨t.val + n.val - 7, by omega⟩ d)) ?_ (congrArg (val_main_v3 (F := Ideal) x3) ?_)
      · pointwise [val_main_v3]
      · funext a
        apply Fin.ext
        match a with
        | ⟨0, _⟩ =>
          show b.val = b.val * 1 + (W.rowMajor.symm (finCongr numelW.symm n) (0 : Fin 4)).val - 0
          omega
        | ⟨1, _⟩ =>
          show h.val = h.val * 1 + (W.rowMajor.symm (finCongr numelW.symm n) (1 : Fin 4)).val - 0
          omega
        | ⟨2, _⟩ =>
          show t.val + n.val - 7 = t.val * 1 + (W.rowMajor.symm (finCongr numelW.symm n) (2 : Fin 4)).val - 7
          omega
        | ⟨3, _⟩ =>
          show d.val = d.val * 1 + (W.rowMajor.symm (finCongr numelW.symm n) (3 : Fin 4)).val - 0
          omega
  · rw [dif_neg hn]
    refine Eq.trans ?_ (dif_neg (fun hall => ?_)).symm
    · rfl
    · have h7 : 7 ≤ t.val * 1 + (W.rowMajor.symm (finCongr numelW.symm n) (2 : Fin 4)).val := (hall (2 : Fin 4)).1
      omega
end Cert.GlaRefIdeal.Hand
end
-- ==== Proof.Gla.Claim.lean ====
module

public import proofs.«01_k».proof.Defs
public import proofs.«01_k».proof.Proof.Gla.Kernel
public import proofs.«01_k».proof.Proof.Gla.Cumsum
public import proofs.«01_k».proof.Proof.Gen.Pre_decay_finite

@[expose] public section
set_option maxRecDepth 16384
noncomputable section
open Idealize.ShloMosaic Idealize.ShloMosaic.TcCoe Idealize.SL.Sem

/-! ## The gated linear attention claim -/

namespace Cert.GlaRefIdeal.Hand
open Cert.GlaRefIdeal Cert.GlaRefIdeal.Read Cert.Proof.Gla

theorem sge0_iff (t s : Fin 8) : IntOp.cmpi CmpIPredicate.sge (IntOp.addi (BitVec.ofNat 32 t.val) 0#32) (BitVec.ofNat 32 s.val) = if s ≤ t then 1#1 else 0#1 := by
  revert t s; decide

theorem neg_inf : Ideal.ofBits FTy.f32 4286578688#32 = ⊥ := by decide +kernel

/-- What the host reference computes as its outputs. -/
theorem value1 (x0 x1 x2 x3 x4) : val_main_v40 (F := Ideal) x0 x1 x2 x3 x4 = Cert.GlaIdeal.Hand.out1 x0 x1 x2 x3 x4 := by
  funext i
  obtain ⟨b, t, j, rfl⟩ : ∃ (b : Fin 128) (t : Fin 8) (j : Fin 512), i = ix3 b t j := ⟨i 0, i 1, i 2, eq_ix3 (n0 := 128) (n1 := 8) (n2 := 512) i⟩
  obtain ⟨h, e, rfl⟩ := Cert.GlaIdeal.Hand.exists_vcol j
  rw [Cert.GlaIdeal.Hand.out1_at]
  unfold Cert.GlaIdeal.Hand.vcol
  pointwise [val_main_v40, val_main_v39, val_main_v26, val_main_v25, val_main_v24, val_main_cst_0, val_main_v23, val_main_v22, val_main_v21, val_main_v20, val_main_v19, val_main_v18, val_main_v17, val_main_v16, val_main_call2_v2, val_main_call2_v1, val_main_call2_v0, val_main_cst, val_main_v15, val_main_v14, val_main_v13, val_main_v12, val_main_v11, val_main_v10, val_main_v9, val_main_v8, val_main_v7, val_main_v0, val_main_v1, val_main_v2, val_main_v5, val_main_v4, val_main_c, val_main_call0_v0, val_main_call0_v1, val_main_call0_v2, val_main_call0_v3, val_main_call0_v4, val_main_call0_v5, val_main_call0_c, val_main_call0_c_0]
  have hi : (id (constant (F := Ideal) S_ FTy.f32 4286578688#32) ix0 : EReal) = ⊥ := neg_inf
  simp only [cum_value, sge0_iff, select_ite, hi]
  rfl

/-- What it computes as its states. -/
theorem value2 (x1 x2 x3 x4) : val_main_v38 (F := Ideal) x1 x2 x3 x4 = Cert.GlaIdeal.Hand.out2 x1 x2 x3 x4 := by
  funext i
  obtain ⟨b, h, d, e, rfl⟩ : ∃ (b : Fin 128) (h : Fin 4) (d : Fin 64) (e : Fin 128), i = ix4 b h d e := ⟨i 0, i 1, i 2, i 3, eq_ix4 (n0 := 128) (n1 := 4) (n2 := 64) (n3 := 128) i⟩
  pointwise [val_main_v38, val_main_v37, val_main_v36, val_main_v35, val_main_v34, val_main_v33, val_main_v32, val_main_v31, val_main_v30, val_main_v29, val_main_v28, val_main_v27, val_main_v1, val_main_v2]
  simp only [cum_value]
  rfl

end Cert.GlaRefIdeal.Hand

namespace Cert.Proof.Gla

theorem pos_inf : Ideal.ofBits FTy.f32 2139095040#32 = ⊤ := by decide +kernel

/-- The precondition makes every log decay a real number. -/
theorem decay_real (x0 x1 x2 x3 x4)
    (h : letI := Cert.Pre_decay_finite.Gen.facts; Cert.Pre_decay_finite.fn (F := Ideal) x0 x1 x2 x3 x4 = fun _ => 1#1) : Cert.GlaIdeal.Hand.AllReal x3 := by
  intro i
  have hi := congrFun h i
  idx_vars i
  revert hi
  pointwise [Cert.Pre_decay_finite.fn]
  rw [pos_inf]
  generalize x3 (ix4 i0 i1 i2 i3) = a
  intro hi
  have hlt : (max a (-a) : EReal) < ⊤ := by
    by_contra hn
    rw [show decide (FloatOps.absf (F := Ideal) (φ := FTy.f32) a < (⊤ : EReal)) = false from decide_eq_false hn] at hi
    exact absurd hi (by decide)
  induction a using EReal.rec with
  | bot => exact absurd hlt (by simp)
  | top => exact absurd hlt (by simp)
  | coe r => exact ⟨r, rfl⟩

/-- Where the log decays are finite, the kernel's results and the reference's are the same functions of the arguments. -/
theorem algebraic : Cert.algebraic_GlaIdeal_GlaRefIdeal_pre_decay_finite (hGlaIdeal := Cert.GlaIdeal.Gen.facts) (hGlaRefIdeal := Cert.GlaRefIdeal.Gen.facts) (hPre_decay_finite := Cert.Pre_decay_finite.Gen.facts) := by
  intro m ρ m' ρ' hp h
  refine ⟨_, _, GlaIdeal.Hand.run m ρ (fun c => decay_real _ _ _ _ _ (hp c)), (θ_run Cert.GlaRefIdeal.defs _ _).mono (fun r hr c => ⟨(hr c).1.trans ?_, (hr c).2.1.trans ?_, (hr c).2.2⟩) (Cert.GlaRefIdeal.Value.run (F := Ideal) m' ρ')⟩
  · refine (Cert.GlaRefIdeal.Read.val_main_v40_eq _ _ _ _ _).trans ?_
    rw [Cert.GlaRefIdeal.Hand.value1, (h c).1, (h c).2.1, (h c).2.2.1, (h c).2.2.2.1, (h c).2.2.2.2]
  · refine (Cert.GlaRefIdeal.Read.val_main_v38_eq _ _ _ _).trans ?_
    rw [Cert.GlaRefIdeal.Hand.value2, (h c).2.1, (h c).2.2.1, (h c).2.2.2.1, (h c).2.2.2.2]

end Cert.Proof.Gla
end
-- ==== Proof.Ffn.Kernel.lean ====
module

public import proofs.«01_k».proof.Proof.Gen.FfnIdeal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The feed-forward call: what its result array holds -/

namespace Cert.FfnIdeal.Hand

open Cert.FfnIdeal Cert.FfnIdeal.Gen

theorem hz : (![0, 0] : Fin 2 → Nat) = fun _ => 0 := funext fun a => by fin_cases a <;> rfl

section
variable {F : FTy → Type} [FloatOps F]

/-- The first half of a row block's hidden columns: the carried scratch ends at zero plus that half's product. -/
theorem sout_A (c : Dev nD) (i : grid0.Coords) (a2 h2 a3 h3 a4 h4 a5 h5 a6 h6 a7 h7 a8 h8) (hc0 : cond0_0 i) (hc1 : ¬cond0_1 i)
    (x0 : Vec F S512x1024 .bf16) (x1 : Vec F S512x1024 .f32) (x2 : Vec F S1024x2816 .bf16) (x3 : Vec F S1024x2816 .bf16) (x4 : Vec F S2816x1024 .bf16) :
    sout0_A_0 c i a2 h2 a3 h3 a4 h4 a5 h5 a6 h6 a7 h7 a8 h8 hc0 hc1 x0 x1 x2 x3 x4
      = k0_pay3 x0 (View.ld x2 (Rect.unit (s := S1024x2816) (k0_off1 i) S1024x1408.size (k0_off1_inb i))) (View.ld x3 (Rect.unit (s := S1024x2816) (k0_off1 i) S1024x1408.size (k0_off1_inb i))) (k0_pay2 (F := F)) (View.ld x4 (Rect.unit (s := S2816x1024) (k0_off2 i) S1408x1024.size (k0_off2_inb i))) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, h2.read_unread, h4.read_unread, h5.read_unread, h6.read_unread, View.ld_unit_zero (S := S512x1024) hz]

/-- The second half: the block written is the residual plus what the scratch held plus that half's product. -/
theorem out_B (c : Dev nD) (i : grid0.Coords) (a2 h2 a3 h3 a4 h4 a5 h5 a6 h6 a7 h7 a8 h8) (hc0 : ¬cond0_0 i) (hc1 : cond0_1 i)
    (x0 : Vec F S512x1024 .bf16) (x1 : Vec F S512x1024 .f32) (x2 : Vec F S1024x2816 .bf16) (x3 : Vec F S1024x2816 .bf16) (x4 : Vec F S2816x1024 .bf16) (xs : Vec F S512x1024 .f32) :
    out0_B_5 c i a2 h2 a3 h3 a4 h4 a5 h5 a6 h6 a7 h7 a8 h8 hc0 hc1 x0 x1 x2 x3 x4 xs
      = k0_pay1 x1 (k0_pay3 x0 (View.ld x2 (Rect.unit (s := S1024x2816) (k0_off1 i) S1024x1408.size (k0_off1_inb i))) (View.ld x3 (Rect.unit (s := S1024x2816) (k0_off1 i) S1024x1408.size (k0_off1_inb i))) xs (View.ld x4 (Rect.unit (s := S2816x1024) (k0_off2 i) S1408x1024.size (k0_off2_inb i)))) := by
  unfold out0_B_5
  rw [View.read_writes_eq_canon _ _ _ (cover0_B_5 c i a2 h2 a3 h3 a4 h4 a5 h5 a6 h6 a7 h7 a8 h8 hc0 hc1 x0 x1 x2 x3 x4 xs)]
  unfold kernelRun0_B
  dsimp only
  sl_unfold_words
  rw [View.canon_unit_zero hz, View.readCov_unit_zero (S := S512x1024) _ hz]
  simp only [View.readAt_eq_ld, h2.read_unread, h3.read_unread, h4.read_unread, h5.read_unread, h6.read_unread, h8.read_unread, View.ld_unit_zero (S := S512x1024) hz]
end

/-- One gated hidden unit from the row's product with its gate column and its up column. -/
def gated (g u : EReal) : EReal := g * Ideal.div 1 (1 + Ideal.exp (-g)) * u

/-- Hidden unit `j` of row `r`, of the whole arrays of `n` tokens. -/
def hidden {n : ℕ} (X : (⟨2, ![n, 1024]⟩ : Shape).Idx → EReal) (W : S1024x5632.Idx → EReal) (r : Fin n) (j : Fin 2816) : EReal :=
  gated (∑ k : Fin 1024, X (ix2 r k) * W (ix2 k ⟨j.val, by omega⟩)) (∑ k : Fin 1024, X (ix2 r k) * W (ix2 k ⟨2816 + j.val, by omega⟩))

/-- The layer's output: the residual plus the hidden row times the down matrix. -/
def out {n : ℕ} (X : (⟨2, ![n, 1024]⟩ : Shape).Idx → EReal) (Y : (⟨2, ![n, 1024]⟩ : Shape).Idx → EReal) (W : S1024x5632.Idx → EReal) (D : S2816x1024.Idx → EReal)
    (i : (⟨2, ![n, 1024]⟩ : Shape).Idx) : EReal :=
  Y i + ∑ j : Fin 2816, hidden X W (i 0) j * D (ix2 j (i 1))

/-- One grid point's product at an index: the accumulator plus the sum over that half's 1408 hidden units. -/
theorem pay3_apply (x0 : Vec Ideal S512x1024 .bf16) (g : Vec Ideal S1024x1408 .bf16) (u : Vec Ideal S1024x1408 .bf16) (a : Vec Ideal S512x1024 .f32) (d : Vec Ideal S1408x1024 .bf16) (j0 : Fin 512) (j1 : Fin 1024) :
    k0_pay3 x0 g u a d (ix2 j0 j1) = a (ix2 j0 j1) + ∑ x : Fin 1408,
      gated (∑ k : Fin 1024, x0 (ix2 j0 k) * g (ix2 k x)) (∑ k : Fin 1024, x0 (ix2 j0 k) * u (ix2 k x)) * d (ix2 x j1) := by
  pointwise [k0_pay3]
  simp only [gated, zero_sub]

variable (m : (ℓ : Loc nD τ sig) → Buf (Elt Ideal) ℓ) (ρ : Dev nD → PrngReg)

theorem V_v1 (c : Dev nD) (k : Fin 1024) (j : Fin 2816) :
    V m c main_v1 (ix2 k j) = m (c.tc.loc main_arg2) (ix2 k ⟨j.val, by omega⟩) := by
  entry_read
  pointwise
theorem V_v3 (c : Dev nD) (k : Fin 1024) (j : Fin 2816) :
    V m c main_v3 (ix2 k j) = m (c.tc.loc main_arg2) (ix2 k ⟨2816 + j.val, by omega⟩) := by
  entry_read
  pointwise
theorem V_v4 (c : Dev nD) (j : Fin 2816) (k : Fin 1024) :
    V m c main_v4 (ix2 j k) = m (c.tc.loc main_arg3) (ix2 j k) := by
  entry_read
  pointwise

theorem off1 : ∀ t : Fin cfg0.N, k0_off1 (grid0.coords t) = ![0, t.val % 2 * 1408] :=
  (by decide +kernel : ∀ t : Fin grid0.N, _)
theorem off2 : ∀ t : Fin cfg0.N, k0_off2 (grid0.coords t) = ![t.val % 2 * 1408, 0] :=
  (by decide +kernel : ∀ t : Fin grid0.N, _)
theorem idx : ∀ t : Fin cfg0.N, win0_0.index t = ![t.val / 2, 0] ∧ win0_1.index t = ![t.val / 2, 0] ∧ win0_2.index t = ![0, 0]
    ∧ win0_3.index t = ![0, 0] ∧ win0_4.index t = ![0, 0] ∧ win0_5.index t = ![t.val / 2, 0] :=
  (by decide +kernel : ∀ t : Fin grid0.N, _)

theorem blk0 (c : Dev nD) (t : Fin cfg0.N) (r : Fin 512) (k : Fin 1024) (R : Fin 16384) (hR : R.val = t.val / 2 * 512 + r.val) :
    (iblk m c 0 t : Vec Ideal S512x1024 .bf16) (ix2 r k) = m (c.tc.loc main_arg0) (ix2 R k) := by
  blk_ext! [iblk, V_main_arg0, (idx t).1]
theorem blk1 (c : Dev nD) (t : Fin cfg0.N) (r : Fin 512) (k : Fin 1024) (R : Fin 16384) (hR : R.val = t.val / 2 * 512 + r.val) :
    (iblk m c 1 t : Vec Ideal S512x1024 .f32) (ix2 r k) = m (c.tc.loc main_arg1) (ix2 R k) := by
  blk_ext! [iblk, V_main_arg1, (idx t).2.1]
/-- The gate columns loaded at a point are that half of the gate matrix … -/
theorem ld_gate (c : Dev nD) (t : Fin cfg0.N) (k : Fin 1024) (j : Fin 1408) (J : Fin 2816) (hJ : J.val = t.val % 2 * 1408 + j.val) :
    (View.ld (iblk m c 2 t : Vec Ideal S1024x2816 .bf16) (Rect.unit (s := S1024x2816) (k0_off1 (grid0.coords t)) S1024x1408.size (k0_off1_inb (grid0.coords t)))) (ix2 k j) = V m c main_v1 (ix2 k J) := by
  refine (View.ld_unit_apply_of _ _ _ _ _ (ix2 k J) (fun a => ?_)).trans ?_
  · match a with
    | ⟨0, _⟩ => show k.val = k0_off1 (grid0.coords t) 0 + k.val; have := congrFun (off1 t) 0; have h : k0_off1 (grid0.coords t) 0 = 0 := this; omega
    | ⟨1, _⟩ => show J.val = k0_off1 (grid0.coords t) 1 + j.val; have := congrFun (off1 t) 1; have h : k0_off1 (grid0.coords t) 1 = t.val % 2 * 1408 := this; omega
  · blk_ext [iblk, (idx t).2.2.1]
/-- … the up columns that half of the up matrix … -/
theorem ld_up (c : Dev nD) (t : Fin cfg0.N) (k : Fin 1024) (j : Fin 1408) (J : Fin 2816) (hJ : J.val = t.val % 2 * 1408 + j.val) :
    (View.ld (iblk m c 3 t : Vec Ideal S1024x2816 .bf16) (Rect.unit (s := S1024x2816) (k0_off1 (grid0.coords t)) S1024x1408.size (k0_off1_inb (grid0.coords t)))) (ix2 k j) = V m c main_v3 (ix2 k J) := by
  refine (View.ld_unit_apply_of _ _ _ _ _ (ix2 k J) (fun a => ?_)).trans ?_
  · match a with
    | ⟨0, _⟩ => show k.val = k0_off1 (grid0.coords t) 0 + k.val; have := congrFun (off1 t) 0; have h : k0_off1 (grid0.coords t) 0 = 0 := this; omega
    | ⟨1, _⟩ => show J.val = k0_off1 (grid0.coords t) 1 + j.val; have := congrFun (off1 t) 1; have h : k0_off1 (grid0.coords t) 1 = t.val % 2 * 1408 := this; omega
  · blk_ext [iblk, (idx t).2.2.2.1]
/-- … and the down rows that half of the down matrix. -/
theorem ld_down (c : Dev nD) (t : Fin cfg0.N) (j : Fin 1408) (k : Fin 1024) (J : Fin 2816) (hJ : J.val = t.val % 2 * 1408 + j.val) :
    (View.ld (iblk m c 4 t : Vec Ideal S2816x1024 .bf16) (Rect.unit (s := S2816x1024) (k0_off2 (grid0.coords t)) S1408x1024.size (k0_off2_inb (grid0.coords t)))) (ix2 j k) = V m c main_v4 (ix2 J k) := by
  refine (View.ld_unit_apply_of _ _ _ _ _ (ix2 J k) (fun a => ?_)).trans ?_
  · match a with
    | ⟨0, _⟩ => show J.val = k0_off2 (grid0.coords t) 0 + j.val; have := congrFun (off2 t) 0; have h : k0_off2 (grid0.coords t) 0 = t.val % 2 * 1408 := this; omega
    | ⟨1, _⟩ => show k.val = k0_off2 (grid0.coords t) 1 + k.val; have := congrFun (off2 t) 1; have h : k0_off2 (grid0.coords t) 1 = 0 := this; omega
  · blk_ext [iblk, (idx t).2.2.2.2.1]

/-- What a grid point adds to its accumulator, over the argument arrays. -/
theorem point (c : Dev nD) (t : Fin cfg0.N) (a : Vec Ideal S512x1024 .f32) (r : Fin 512) (d : Fin 1024) (R : Fin 16384)
    (hR : R.val = t.val / 2 * 512 + r.val) (p : Fin 2) (hp : p.val = t.val % 2) :
    k0_pay3 (iblk m c 0 t : Vec Ideal S512x1024 .bf16)
      (View.ld (iblk m c 2 t : Vec Ideal S1024x2816 .bf16) (Rect.unit (s := S1024x2816) (k0_off1 (grid0.coords t)) S1024x1408.size (k0_off1_inb (grid0.coords t))))
      (View.ld (iblk m c 3 t : Vec Ideal S1024x2816 .bf16) (Rect.unit (s := S1024x2816) (k0_off1 (grid0.coords t)) S1024x1408.size (k0_off1_inb (grid0.coords t)))) a
      (View.ld (iblk m c 4 t : Vec Ideal S2816x1024 .bf16) (Rect.unit (s := S2816x1024) (k0_off2 (grid0.coords t)) S1408x1024.size (k0_off2_inb (grid0.coords t)))) (ix2 r d)
    = a (ix2 r d) + ∑ x : Fin 1408, hidden (m (c.tc.loc main_arg0)) (m (c.tc.loc main_arg2)) R ⟨p.val * 1408 + x.val, by omega⟩
        * m (c.tc.loc main_arg3) (ix2 ⟨p.val * 1408 + x.val, by omega⟩ d) := by
  rw [pay3_apply]
  refine congrArg (a (ix2 r d) + ·) (Finset.sum_congr rfl fun x _ => ?_)
  rw [ld_down m c t x d ⟨p.val * 1408 + x.val, by omega⟩ (by show p.val * 1408 + x.val = _; omega), V_v4]
  refine congrArg (· * _) ?_
  unfold hidden
  congr 1 <;> refine Finset.sum_congr rfl fun k _ => ?_
  · rw [blk0 m c t r k R hR, ld_gate m c t k x ⟨p.val * 1408 + x.val, by omega⟩ (by show p.val * 1408 + x.val = _; omega), V_v1]
  · rw [blk0 m c t r k R hR, ld_up m c t k x ⟨p.val * 1408 + x.val, by omega⟩ (by show p.val * 1408 + x.val = _; omega), V_v3]

/-- The two halves' sums, added to the residual one after the other, are the layer's output. -/
theorem halves {n : ℕ} (hn : Vec Ideal ⟨2, ![n, 1024]⟩ .bf16) (x1 : Vec Ideal ⟨2, ![n, 1024]⟩ .f32) (w : Vec Ideal S1024x5632 .f32) (wd : Vec Ideal S2816x1024 .f32) (R : Fin n) (d : Fin 1024) :
    (x1 (ix2 R d) : EReal) + ((∑ x : Fin 1408, hidden hn w R ⟨(0 : Fin 2).val * 1408 + x.val, by have := x.isLt; show 0 * 1408 + x.val < 2816; omega⟩
        * wd (ix2 ⟨(0 : Fin 2).val * 1408 + x.val, by have := x.isLt; show 0 * 1408 + x.val < 2816; omega⟩ d))
      + ∑ x : Fin 1408, hidden hn w R ⟨(1 : Fin 2).val * 1408 + x.val, by have := x.isLt; show 1 * 1408 + x.val < 2816; omega⟩
        * wd (ix2 ⟨(1 : Fin 2).val * 1408 + x.val, by have := x.isLt; show 1 * 1408 + x.val < 2816; omega⟩ d))
    = out hn x1 w wd (ix2 R d) := by
  refine congrArg (HAdd.hAdd (α := EReal) (β := EReal) (x1 (ix2 R d))) ?_
  refine Eq.trans ?_ (Fin.sum_univ_add (a := 1408) (b := 1408) (fun j : Fin 2816 => (hidden hn w R j : EReal) * wd (ix2 j d))).symm
  refine congrArg₂ (HAdd.hAdd (α := EReal) (β := EReal)) (Finset.sum_congr rfl fun x _ => ?_) (Finset.sum_congr rfl fun x _ => ?_)
  · have e : (⟨(0 : Fin 2).val * 1408 + x.val, by have := x.isLt; show 0 * 1408 + x.val < 2816; omega⟩ : Fin 2816) = Fin.castAdd 1408 x := Fin.ext (by show 0 * 1408 + x.val = x.val; omega)
    rw [e]
  · have e : (⟨(1 : Fin 2).val * 1408 + x.val, by have := x.isLt; show 1 * 1408 + x.val < 2816; omega⟩ : Fin 2816) = Fin.natAdd 1408 x := Fin.ext (by show 1 * 1408 + x.val = 1408 + x.val; omega)
    rw [e]

set_option maxHeartbeats 1000000 in
/-- The result array holds the layer's output, of the arguments. -/
theorem final (c : Dev nD) : (dats m 0 c).arrAt 5 cfg0.N = out (m (c.tc.loc main_arg0)) (m (c.tc.loc main_arg1)) (m (c.tc.loc main_arg2)) (m (c.tc.loc main_arg3)) := by
  refine (dats m 0 c).arrAt_eq_of_covers 5 _ (by decide +kernel) fun t hf y => ?_
  have h1 : t.val % 2 = 1 := (flush0_5 t).mp hf
  have hN : t.val < 64 := lt_of_lt_of_eq t.isLt (show cfg0.N = 64 from N_0)
  blk_simp
  rw [after0_5, outsAt0_B m c t (by omega) h1]
  dsimp only
  rw [out_B]
  have hA := outsAt0_A m c ⟨t.val - 1, Nat.lt_of_le_of_lt (Nat.sub_le _ _) t.isLt⟩ (by show (t.val - 1) % 2 = 0; omega) (by show ¬ (t.val - 1) % 2 = 1; omega)
  dsimp only at hA
  rw [hA]
  dsimp only
  rw [sout_A]
  have hz0 : ∀ r d, k0_pay2 (F := Ideal) (ix2 r d) = 0 := fun r d => by pointwise [k0_pay2]
  have key : ∀ (r : Fin 512) (d : Fin 1024) (R : Fin 16384), R.val = t.val / 2 * 512 + r.val →
      k0_pay1 (iblk m c 1 t : Vec Ideal S512x1024 .f32) (k0_pay3 (iblk m c 0 t : Vec Ideal S512x1024 .bf16) _ _ (k0_pay3 (iblk m c 0 ⟨t.val - 1, Nat.lt_of_le_of_lt (Nat.sub_le _ _) t.isLt⟩ : Vec Ideal S512x1024 .bf16) _ _ (k0_pay2 (F := Ideal)) _) _) (ix2 r d)
        = out (m (c.tc.loc main_arg0)) (m (c.tc.loc main_arg1)) (m (c.tc.loc main_arg2)) (m (c.tc.loc main_arg3)) (ix2 R d) := fun r d R hR => by
    pointwise [k0_pay1]
    rw [point m c t _ r d R hR 1 (by show 1 = _; omega), point m c ⟨t.val - 1, Nat.lt_of_le_of_lt (Nat.sub_le _ _) t.isLt⟩ _ r d R (by show R.val = (t.val - 1) / 2 * 512 + _; omega) 0 (by show 0 = (t.val - 1) % 2; omega), hz0, blk1 m c t r d R hR, zero_add]
    exact halves _ _ _ _ R d
  obtain ⟨r, d, rfl⟩ : ∃ (r : Fin 512) (d : Fin 1024), y = ix2 r d := ⟨y 0, y 1, eq_ix2 (n0 := 512) (n1 := 1024) y⟩
  have he : ((View.whole main_v5).slice (win0_5.rect t)).emb (ix2 r d) = ix2 ⟨t.val / 2 * 512 + r.val, by omega⟩ d := by
    blk_ext [(idx t).2.2.2.2.2]
  exact (key r d _ rfl).trans (congrArg _ he.symm)

/-- The call's run: its result array at the layer's output of the arguments, the arguments unchanged. -/
theorem run : θ_run defs (onTc (τ := τ) (main (F := Ideal))) ⟨m, fun _ => 0, ρ⟩ fun r => ∀ c : Dev nD,
      r.2.mem (c.tc.loc main_v5) = out (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final m c), (h c).2⟩) (Value.run_blocks m ρ)

end Cert.FfnIdeal.Hand
end
-- ==== Proof.Ffn.Claim.lean ====
module

public import proofs.«01_k».proof.Defs
public import proofs.«01_k».proof.Proof.Ffn.Kernel
public import proofs.«01_k».proof.Proof.Gen.FfnRefIdeal.Run
public import proofs.«01_k».proof.Proof.Gen.FfnRefIdeal.Read

@[expose] public section

set_option maxRecDepth 16384

noncomputable section

open Idealize.ShloMosaic Idealize.ShloMosaic.TcCoe Idealize.SL.Sem

/-! ## The feed-forward claim -/

namespace Cert.FfnRefIdeal.Hand

open Cert.FfnRefIdeal Cert.FfnRefIdeal.Read

/-- What the host reference computes, index by index: the layer's output. -/
theorem value (x0 x1 x2 x3) : val_main_v7 (F := Ideal) x0 x1 x2 x3 = Cert.FfnIdeal.Hand.out x0 x1 x2 x3 := by
  funext i
  idx_vars i
  pointwise [val_main_v7, val_main_v6, val_main_v5, val_main_v4, val_main_v3, val_main_v2, val_main_v1, val_main_v0, val_main_call0_v0,
    val_main_call0_v1, val_main_call0_cst, val_main_call0_v2, val_main_call0_v3, val_main_call0_cst_0, val_main_call0_v4, val_main_call0_v5]
  rfl

end Cert.FfnRefIdeal.Hand

namespace Cert.Proof.Ffn

/-- The kernel's result and the reference's are the same function of the arguments. -/
theorem algebraic : Cert.algebraic_FfnIdeal_FfnRefIdeal (hFfnIdeal := Cert.FfnIdeal.Gen.facts) (hFfnRefIdeal := Cert.FfnRefIdeal.Gen.facts) := by
  intro m ρ m' ρ' _ h
  refine ⟨_, FfnIdeal.Hand.run m ρ, (θ_run Cert.FfnRefIdeal.defs _ _).mono (fun r hr c => ⟨(hr c).1.trans ?_, (hr c).2⟩) (Cert.FfnRefIdeal.Value.run (F := Ideal) m' ρ')⟩
  refine (Cert.FfnRefIdeal.Read.val_main_v7_eq _ _ _ _).trans ?_
  rw [Cert.FfnRefIdeal.Hand.value, (h c).1, (h c).2.1, (h c).2.2.1, (h c).2.2.2]

end Cert.Proof.Ffn
end
-- ==== Proof.Merge.Rows.lean ====
module

public import proofs.«01_k».proof.Proof.Gen.MergeIdeal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

/-! ## The gated merge, one token at a time

The call works row by row: what it gives for a token depends on that token's rows alone. -/

namespace Cert.MergeIdeal.Hand

open Cert.MergeIdeal Cert.MergeIdeal.Gen

/-- The logistic function. -/
def sigm (x : EReal) : EReal := Ideal.div 1 (1 + Ideal.exp (-x))

/-- The normalised and gated recurrence output of a token: column `e` over the root mean square of its head of 128 columns,
    times the head's weight, times `silu` of the gate. -/
def headed (f : Fin 512 → EReal) (w : Fin 128 → EReal) (g : Fin 512 → EReal) (e : Fin 512) : EReal :=
  f e * Ideal.rsqrt (Ideal.div (∑ x : Fin 128, f ⟨e.val / 128 * 128 + x.val, by omega⟩ * f ⟨e.val / 128 * 128 + x.val, by omega⟩) (Ideal.ofBits FTy.f32 1124073472#32)
      + Ideal.ofBits FTy.f32 897988541#32) * w ⟨e.val % 128, by omega⟩ * (g e * sigm (g e))

/-- A token's row after the merge: the residual plus the two gated branches through the output matrix. -/
def merged (x : Fin 1024 → EReal) (o : Fin 512 → EReal) (s : Fin 512 → EReal) (a b : Fin 1024 → EReal)
    (WA WB : S512x1024.Idx → EReal) (WO : S1024x1024.Idx → EReal) (d : Fin 1024) : EReal :=
  x d + ∑ k : Fin 1024, (sigm (a k) * (∑ j : Fin 512, o j * WA (ix2 j k)) + sigm (b k) * ∑ j : Fin 512, s j * WB (ix2 j k)) * WO (ix2 k d)

/-- A row of 1024 over its root mean square, times the weights. -/
def normed (y : Fin 1024 → EReal) (w : Fin 1024 → EReal) (d : Fin 1024) : EReal :=
  y d * Ideal.rsqrt (Ideal.div (∑ k : Fin 1024, y k * y k) (Ideal.ofBits FTy.f32 1149239296#32) + Ideal.ofBits FTy.f32 897988541#32) * w d

/-- `headed` read inside head `h`, whose 128 columns are `f'`. -/
theorem headed_of (f : Fin 512 → EReal) (w : Fin 128 → EReal) (g : Fin 512 → EReal) (e : Fin 512) (h : Nat) (hh : e.val / 128 = h)
    (f' : Fin 128 → EReal) (hf : ∀ (x : Fin 128) (i : Fin 512), i.val = h * 128 + x.val → f i = f' x) (e' : Fin 128) (he : e'.val = e.val % 128) :
    f' e' * Ideal.rsqrt (Ideal.div (∑ x : Fin 128, f' x * f' x) (Ideal.ofBits FTy.f32 1124073472#32) + Ideal.ofBits FTy.f32 897988541#32)
      * w e' * (g e * Ideal.div 1 (1 + Ideal.exp (0 - g e))) = headed f w g e := by
  unfold headed sigm
  have h1 : f e = f' e' := hf e' e (by omega)
  have h2 : e' = ⟨e.val % 128, by omega⟩ := Fin.ext he
  have h3 : ∀ x : Fin 128, f ⟨e.val / 128 * 128 + x.val, by omega⟩ = f' x := fun x => hf x _ (by show e.val / 128 * 128 + x.val = _; rw [hh])
  simp only [h3, h1, h2, zero_sub]

/-- The body's gated recurrence rows. -/
theorem pay5_apply (v0 v1 : Vec Ideal S512x512 .f32) (w : Vec Ideal S1x128 .f32) (r e : Fin 512) :
    k0_pay5 v0 v1 (k0_pay1 v0 w) (k0_pay2 v0 w) (k0_pay3 v0) (k0_pay4 v0) w w (ix2 r e)
      = headed (fun x => v0 (ix2 r x)) (fun x => w (ix2 0 x)) (fun x => v1 (ix2 r x)) e := by
  pointwise [k0_pay5, k0_pay1, k0_pay2, k0_pay3, k0_pay4]
  by_cases h1 : e.val < 128
  · rw [dif_pos h1]
    exact headed_of (fun x => v0 (ix2 r x)) (fun x => w (ix2 0 x)) (fun x => v1 (ix2 r x)) e 0 (by omega) (fun x => v0 (ix2 r ⟨x.val, by omega⟩))
      (fun x i hi => congrArg (fun j => v0 (ix2 r j)) (Fin.ext (by show i.val = x.val; omega))) ⟨e.val, by omega⟩ (by show e.val = _; omega)
  rw [dif_neg h1]
  by_cases h2 : e.val - 128 < 128
  · rw [dif_pos h2]
    exact headed_of (fun x => v0 (ix2 r x)) (fun x => w (ix2 0 x)) (fun x => v1 (ix2 r x)) e 1 (by omega) (fun x => v0 (ix2 r ⟨128 + x.val, by omega⟩))
      (fun x i hi => congrArg (fun j => v0 (ix2 r j)) (Fin.ext (by show i.val = 128 + x.val; omega))) ⟨e.val - 128, by omega⟩ (by show e.val - 128 = _; omega)
  rw [dif_neg h2]
  by_cases h3 : e.val - 128 - 128 < 128
  · rw [dif_pos h3]
    exact headed_of (fun x => v0 (ix2 r x)) (fun x => w (ix2 0 x)) (fun x => v1 (ix2 r x)) e 2 (by omega) (fun x => v0 (ix2 r ⟨256 + x.val, by omega⟩))
      (fun x i hi => congrArg (fun j => v0 (ix2 r j)) (Fin.ext (by show i.val = 256 + x.val; omega))) ⟨e.val - 128 - 128, by omega⟩ (by show e.val - 128 - 128 = _; omega)
  rw [dif_neg h3]
  exact headed_of (fun x => v0 (ix2 r x)) (fun x => w (ix2 0 x)) (fun x => v1 (ix2 r x)) e 3 (by omega) (fun x => v0 (ix2 r ⟨384 + x.val, by omega⟩))
      (fun x i hi => congrArg (fun j => v0 (ix2 r j)) (Fin.ext (by show i.val = 384 + x.val; omega))) ⟨e.val - 128 - 128 - 128, by omega⟩ (by show e.val - 128 - 128 - 128 = _; omega)

/-- The body's merged rows. -/
theorem pay8_apply (g : FVec Ideal S512x512 .f32) (a : Vec Ideal S512x1024 .f32) (o : Vec Ideal S512x512 .bf16) (wa : Vec Ideal S512x1024 .bf16) (b : Vec Ideal S512x1024 .f32)
    (wb : Vec Ideal S512x1024 .bf16) (x : Vec Ideal S512x1024 .f32) (wo : Vec Ideal S1024x1024 .bf16) (r : Fin 512) (d : Fin 1024) :
    k0_pay8 g (k0_pay6 a) o (k0_pay7 wa) b wb x wo (ix2 r d)
      = merged (fun k => x (ix2 r k)) (fun k => o (ix2 r k)) (fun k => g (ix2 r k)) (fun k => a (ix2 r k)) (fun k => b (ix2 r k)) wa wb wo d := by
  pointwise [k0_pay8, k0_pay6, k0_pay7]
  simp only [merged, sigm, zero_sub]

/-- The body's normalised rows. -/
theorem pay9_apply (g : FVec Ideal S512x512 .f32) (a : FVec Ideal S512x1024 .f32) (o : Vec Ideal S512x512 .bf16) (wa : FVec Ideal S512x1024 .bf16) (b : Vec Ideal S512x1024 .f32)
    (wb : Vec Ideal S512x1024 .bf16) (x : Vec Ideal S512x1024 .f32) (wo : Vec Ideal S1024x1024 .bf16) (w : Vec Ideal S1x1024 .f32) (r : Fin 512) (d : Fin 1024) :
    k0_pay9 g a o wa b wb x wo w (ix2 r d) = normed (fun k => k0_pay8 g a o wa b wb x wo (ix2 r k)) (fun k => w (ix2 0 k)) d := by
  pointwise [k0_pay9]
  rfl

end Cert.MergeIdeal.Hand
end
-- ==== Proof.Merge.Kernel.lean ====
module

public import proofs.«01_k».proof.Proof.Merge.Rows

@[expose] public section

set_option maxRecDepth 16384

noncomputable section

open Idealize.ShloMosaic Idealize.ShloMosaic.TcCoe Idealize.SL.Sem
open Idealize.ShloMosaic.Pipeline (Dat)

/-! ## The gated merge: what its two result arrays hold -/

namespace Cert.MergeIdeal.Hand

open Cert.MergeIdeal Cert.MergeIdeal.Gen

theorem hz : (![0, 0] : Fin 2 → Nat) = fun _ => 0 := funext fun a => by fin_cases a <;> rfl

section
variable {n : ℕ} (x0 : (⟨2, ![n, 1024]⟩ : Shape).Idx → EReal) (x1 x2 x3 : (⟨2, ![n, 512]⟩ : Shape).Idx → EReal) (x4 x5 : (⟨2, ![n, 1024]⟩ : Shape).Idx → EReal) (x6 : S128.Idx → EReal)
  (x7 x8 : S512x1024.Idx → EReal) (x9 : S1024x1024.Idx → EReal) (x10 : S1024.Idx → EReal)

/-- Token `R`'s row after the merge, of the argument arrays. -/
def row (R : Fin n) : Fin 1024 → EReal :=
  merged (fun k => x0 (ix2 R k)) (fun k => x1 (ix2 R k)) (headed (fun k => x2 (ix2 R k)) (fun k => x6 (ix1 k)) (fun k => x3 (ix2 R k)))
    (fun k => x4 (ix2 R k)) (fun k => x5 (ix2 R k)) x7 x8 x9

/-- The merged activations. -/
def out1 (i : (⟨2, ![n, 1024]⟩ : Shape).Idx) : EReal := row x0 x1 x2 x3 x4 x5 x6 x7 x8 x9 (i 0) (i 1)

/-- The normalised activations the feed-forward call takes. -/
def out2 (i : (⟨2, ![n, 1024]⟩ : Shape).Idx) : EReal := normed (row x0 x1 x2 x3 x4 x5 x6 x7 x8 x9 (i 0)) (fun k => x10 (ix1 k)) (i 1)
end

variable (m : (ℓ : Loc nD τ sig) → Buf (Elt Ideal) ℓ) (ρ : Dev nD → PrngReg)

theorem V_v0 (c : Dev nD) (k : Fin 128) : V m c main_v0 (ix2 0 k) = m (c.tc.loc main_arg6) (ix1 k) := by
  entry_read
  pointwise
theorem V_v1 (c : Dev nD) (j : Fin 512) (k : Fin 1024) : V m c main_v1 (ix2 j k) = m (c.tc.loc main_arg7) (ix2 j k) := by
  entry_read
  pointwise
theorem V_v2 (c : Dev nD) (j : Fin 512) (k : Fin 1024) : V m c main_v2 (ix2 j k) = m (c.tc.loc main_arg8) (ix2 j k) := by
  entry_read
  pointwise
theorem V_v3 (c : Dev nD) (j : Fin 1024) (k : Fin 1024) : V m c main_v3 (ix2 j k) = m (c.tc.loc main_arg9) (ix2 j k) := by
  entry_read
  pointwise
theorem V_v4 (c : Dev nD) (k : Fin 1024) : V m c main_v4 (ix2 0 k) = m (c.tc.loc main_arg10) (ix1 k) := by
  entry_read
  pointwise

/-- Which block each window is on at grid point `t`: the token arrays on their `t`-th 512 rows, the weights whole. -/
theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0])
    ∧ (win0_6.index t = ![0, 0] ∧ win0_7.index t = ![0, 0] ∧ win0_8.index t = ![0, 0] ∧ win0_9.index t = ![0, 0] ∧ win0_10.index t = ![0, 0])
    ∧ win0_11.index t = ![t.val, 0] ∧ win0_12.index t = ![t.val, 0] :=
  (by decide +kernel : ∀ t : Fin grid0.N, _)

section
variable (c : Dev nD) (t : Fin cfg0.N) (r : Fin 512) (R : Fin 16384) (hR : R.val = t.val * 512 + r.val)
include hR
theorem blk0 (k : Fin 1024) : (iblk m c 0 t : Vec Ideal S512x1024 .f32) (ix2 r k) = m (c.tc.loc main_arg0) (ix2 R k) := by
  blk_ext! [iblk, V_main_arg0, (idx t).1.1]
theorem blk1 (k : Fin 512) : (iblk m c 1 t : Vec Ideal S512x512 .bf16) (ix2 r k) = m (c.tc.loc main_arg1) (ix2 R k) := by
  blk_ext! [iblk, V_main_arg1, (idx t).1.2.1]
theorem blk2 (k : Fin 512) : (iblk m c 2 t : Vec Ideal S512x512 .f32) (ix2 r k) = m (c.tc.loc main_arg2) (ix2 R k) := by
  blk_ext! [iblk, V_main_arg2, (idx t).1.2.2.1]
theorem blk3 (k : Fin 512) : (iblk m c 3 t : Vec Ideal S512x512 .f32) (ix2 r k) = m (c.tc.loc main_arg3) (ix2 R k) := by
  blk_ext! [iblk, V_main_arg3, (idx t).1.2.2.2.1]
theorem blk4 (k : Fin 1024) : (iblk m c 4 t : Vec Ideal S512x1024 .f32) (ix2 r k) = m (c.tc.loc main_arg4) (ix2 R k) := by
  blk_ext! [iblk, V_main_arg4, (idx t).1.2.2.2.2.1]
theorem blk5 (k : Fin 1024) : (iblk m c 5 t : Vec Ideal S512x1024 .f32) (ix2 r k) = m (c.tc.loc main_arg5) (ix2 R k) := by
  blk_ext! [iblk, V_main_arg5, (idx t).1.2.2.2.2.2]
end

section
variable (c : Dev nD) (t : Fin cfg0.N)
theorem blk6 (k : Fin 128) : (iblk m c 6 t : Vec Ideal S1x128 .f32) (ix2 0 k) = m (c.tc.loc main_arg6) (ix1 k) := by
  refine Eq.trans ?_ (V_v0 m c k)
  blk_ext [iblk, (idx t).2.1.1]
theorem blk7 : (iblk m c 7 t : Vec Ideal S512x1024 .bf16) = m (c.tc.loc main_arg7) := by
  funext i; idx_vars i
  refine Eq.trans ?_ (V_v1 m c _ _)
  blk_ext [iblk, (idx t).2.1.2.1]
theorem blk8 : (iblk m c 8 t : Vec Ideal S512x1024 .bf16) = m (c.tc.loc main_arg8) := by
  funext i; idx_vars i
  refine Eq.trans ?_ (V_v2 m c _ _)
  blk_ext [iblk, (idx t).2.1.2.2.1]
theorem blk9 : (iblk m c 9 t : Vec Ideal S1024x1024 .bf16) = m (c.tc.loc main_arg9) := by
  funext i; idx_vars i
  refine Eq.trans ?_ (V_v3 m c _ _)
  blk_ext [iblk, (idx t).2.1.2.2.2.1]
theorem blk10 (k : Fin 1024) : (iblk m c 10 t : Vec Ideal S1x1024 .f32) (ix2 0 k) = m (c.tc.loc main_arg10) (ix1 k) := by
  refine Eq.trans ?_ (V_v4 m c k)
  blk_ext [iblk, (idx t).2.1.2.2.2.2]
end

/-- One row of the merged block a grid point computes, over the argument arrays. -/
theorem block_row (c : Dev nD) (t : Fin cfg0.N) (r : Fin 512) (R : Fin 16384) (hR : R.val = t.val * 512 + r.val) (d : Fin 1024) :
    k0_pay8 (k0_pay5 (iblk m c 2 t : Vec Ideal S512x512 .f32) (iblk m c 3 t : Vec Ideal S512x512 .f32) (k0_pay1 (iblk m c 2 t : Vec Ideal S512x512 .f32) (iblk m c 6 t : Vec Ideal S1x128 .f32))
        (k0_pay2 (iblk m c 2 t : Vec Ideal S512x512 .f32) (iblk m c 6 t : Vec Ideal S1x128 .f32)) (k0_pay3 (iblk m c 2 t : Vec Ideal S512x512 .f32)) (k0_pay4 (iblk m c 2 t : Vec Ideal S512x512 .f32))
        (iblk m c 6 t : Vec Ideal S1x128 .f32) (iblk m c 6 t : Vec Ideal S1x128 .f32))
      (k0_pay6 (iblk m c 4 t : Vec Ideal S512x1024 .f32)) (iblk m c 1 t : Vec Ideal S512x512 .bf16) (k0_pay7 (iblk m c 7 t : Vec Ideal S512x1024 .bf16))
      (iblk m c 5 t : Vec Ideal S512x1024 .f32) (iblk m c 8 t : Vec Ideal S512x1024 .bf16) (iblk m c 0 t : Vec Ideal S512x1024 .f32) (iblk m c 9 t : Vec Ideal S1024x1024 .bf16) (ix2 r d)
    = row (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) R d := by
  rw [pay8_apply]
  have e0 := funext fun k => blk0 m c t r R hR k
  have e1 := funext fun k => blk1 m c t r R hR k
  have e2 := funext fun k => blk2 m c t r R hR k
  have e3 := funext fun k => blk3 m c t r R hR k
  have e4 := funext fun k => blk4 m c t r R hR k
  have e5 := funext fun k => blk5 m c t r R hR k
  have e6 := funext fun k => blk6 m c t k
  have eh := funext fun k => pay5_apply (iblk m c 2 t : Vec Ideal S512x512 .f32) (iblk m c 3 t : Vec Ideal S512x512 .f32) (iblk m c 6 t : Vec Ideal S1x128 .f32) r k
  rw [e2, e3, e6] at eh
  rw [e0, e1, eh, e4, e5, blk7, blk8, blk9]
  rfl

set_option maxHeartbeats 1000000 in
/-- The first result array holds the merged activations. -/
theorem final1 (c : Dev nD) : (dats m 0 c).arrAt 11 cfg0.N = out1 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) := by
  refine (dats m 0 c).arrAt_eq_of_covers 11 _ (by decide +kernel) fun t hf y => ?_
  have hN : t.val < 32 := lt_of_lt_of_eq t.isLt (show cfg0.N = 32 from N_0)
  blk_simp
  rw [after0_11]
  unfold_out out0_11
  rw [View.canon_unit_zero hz]
  simp only [View.ld_unit_zero (S := S512x1024) hz, View.ld_unit_zero (S := S512x512) hz, View.ld_unit_zero (S := S1x128) hz, View.ld_unit_zero (S := S1024x1024) hz]
  obtain ⟨r, d, rfl⟩ : ∃ (r : Fin 512) (d : Fin 1024), y = ix2 r d := ⟨y 0, y 1, eq_ix2 (n0 := 512) (n1 := 1024) y⟩
  have he : ((View.whole main_v5_0).slice (win0_11.rect t)).emb (ix2 r d) = ix2 ⟨t.val * 512 + r.val, by omega⟩ d := by
    blk_ext [(idx t).2.2.1]
  refine Eq.trans ?_ (congrArg _ he.symm)
  exact block_row m c t r ⟨t.val * 512 + r.val, by omega⟩ rfl d

/-- The second holds them normalised. -/
theorem final2 (c : Dev nD) : (dats m 0 c).arrAt 12 cfg0.N = out2 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) (m (c.tc.loc main_arg10)) := by
  refine (dats m 0 c).arrAt_eq_of_covers 12 _ (by decide +kernel) fun t hf y => ?_
  have hN : t.val < 32 := lt_of_lt_of_eq t.isLt (show cfg0.N = 32 from N_0)
  blk_simp
  rw [after0_12]
  unfold_out out0_12
  rw [View.canon_unit_zero hz]
  simp only [View.ld_unit_zero (S := S512x1024) hz, View.ld_unit_zero (S := S512x512) hz, View.ld_unit_zero (S := S1x128) hz, View.ld_unit_zero (S := S1024x1024) hz, View.ld_unit_zero (S := S1x1024) hz]
  obtain ⟨r, d, rfl⟩ : ∃ (r : Fin 512) (d : Fin 1024), y = ix2 r d := ⟨y 0, y 1, eq_ix2 (n0 := 512) (n1 := 1024) y⟩
  have he : ((View.whole main_v5_1).slice (win0_12.rect t)).emb (ix2 r d) = ix2 ⟨t.val * 512 + r.val, by omega⟩ d := by
    blk_ext [(idx t).2.2.2]
  refine Eq.trans ?_ (congrArg _ he.symm)
  refine (pay9_apply _ _ _ _ _ _ _ _ _ r d).trans ?_
  have e1 := funext fun k => block_row m c t r ⟨t.val * 512 + r.val, by omega⟩ rfl k
  have e2 := funext fun k => blk10 m c t k
  rw [e1, e2]
  rfl

/-- The call's run: its result arrays at the merge of the arguments, the arguments unchanged. -/
theorem run : θ_run defs (onTc (τ := τ) (main (F := Ideal))) ⟨m, fun _ => 0, ρ⟩ fun r => ∀ c : Dev nD,
      r.2.mem (c.tc.loc main_v5_0) = out1 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9))
      ∧ r.2.mem (c.tc.loc main_v5_1) = out2 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) (m (c.tc.loc main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) :=
  (θ_run defs _ _).mono (fun r h c => ⟨(h c).1.trans (final1 m c), (h c).2.1.trans (final2 m c), (h c).2.2⟩) (Value.run_blocks m ρ)

end Cert.MergeIdeal.Hand
end
-- ==== Proof.Merge.Claim.lean ====
module

public import proofs.«01_k».proof.Defs
public import proofs.«01_k».proof.Proof.Merge.Kernel
public import proofs.«01_k».proof.Proof.Gen.MergeRefIdeal.Run
public import proofs.«01_k».proof.Proof.Gen.MergeRefIdeal.Read

@[expose] public section

set_option maxRecDepth 16384

noncomputable section

open Idealize.ShloMosaic Idealize.ShloMosaic.TcCoe Idealize.SL.Sem

/-! ## The gated merge's claim -/

namespace Cert.MergeRefIdeal.Hand

open Cert.MergeRefIdeal Cert.MergeRefIdeal.Read
open Cert.MergeIdeal.Hand (headed merged normed row out1 out2)

/-- The reference's normalised and gated recurrence rows. -/
theorem gated_value (x2 x3 x6) (r : Fin 16384) (e : Fin 512) :
    val_main_v16 (F := Ideal) x2 x3 x6 (ix2 r e) = headed (fun k => x2 (ix2 r k)) (fun k => x6 (ix1 k)) (fun k => x3 (ix2 r k)) e := by
  pointwise [val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0, val_main_call0_v5, val_main_call0_v4, val_main_call0_cst_0, val_main_call0_v3, val_main_call0_v2, val_main_call0_cst, val_main_call0_v1, val_main_call0_v0]
  rfl

/-- The reference's merged rows. -/
theorem row_value (x0 x1 x2 x3 x4 x5 x6 x7 x8 x9) (r : Fin 16384) (d : Fin 1024) :
    val_main_v36 (F := Ideal) x0 x1 x2 x3 x4 x5 x6 x7 x8 x9 (ix2 r d) = row x0 x1 x2 x3 x4 x5 x6 x7 x8 x9 r d := by
  pointwise [val_main_v36, val_main_v35, val_main_v34, val_main_v33, val_main_v32, val_main_v31, val_main_v30, val_main_cst_5, val_main_v29, val_main_v28, val_main_cst_4, val_main_v27, val_main_v26, val_main_v25, val_main_v24, val_main_v23, val_main_v22, val_main_v21, val_main_cst_3, val_main_v20, val_main_v19, val_main_cst_2, val_main_v18, val_main_v17]
  simp only [gated_value]
  rfl

/-- The reference's first result. -/
theorem value1 (x0 x1 x2 x3 x4 x5 x6 x7 x8 x9) :
    val_main_v36 (F := Ideal) x0 x1 x2 x3 x4 x5 x6 x7 x8 x9 = out1 x0 x1 x2 x3 x4 x5 x6 x7 x8 x9 := by
  funext i
  idx_vars i
  exact row_value x0 x1 x2 x3 x4 x5 x6 x7 x8 x9 _ _

/-- The reference's second result. -/
theorem value2 (x0 x1 x2 x3 x4 x5 x6 x7 x8 x9 x10) :
    val_main_v50 (F := Ideal) x0 x1 x2 x3 x4 x5 x6 x7 x8 x9 x10 = out2 x0 x1 x2 x3 x4 x5 x6 x7 x8 x9 x10 := by
  funext i
  idx_vars i
  pointwise [val_main_v50, val_main_v49, val_main_v48, val_main_v47, val_main_v46, val_main_v45, val_main_v44, val_main_v43, val_main_v42, val_main_cst_8, val_main_v41, val_main_v40, val_main_cst_7, val_main_v39, val_main_v38, val_main_cst_6, val_main_v37]
  simp only [row_value]
  rfl

end Cert.MergeRefIdeal.Hand

namespace Cert.Proof.Merge

/-- The kernel's two results and the reference's are the same functions of the arguments. -/
theorem algebraic : Cert.algebraic_MergeIdeal_MergeRefIdeal (hMergeIdeal := Cert.MergeIdeal.Gen.facts) (hMergeRefIdeal := Cert.MergeRefIdeal.Gen.facts) := by
  intro m ρ m' ρ' _ h
  refine ⟨_, _, MergeIdeal.Hand.run m ρ, (θ_run Cert.MergeRefIdeal.defs _ _).mono (fun r hr c => ⟨(hr c).1.trans ?_, (hr c).2.1.trans ?_, (hr c).2.2⟩) (Cert.MergeRefIdeal.Value.run (F := Ideal) m' ρ')⟩
  · refine (Cert.MergeRefIdeal.Read.val_main_v36_eq _ _ _ _ _ _ _ _ _ _).trans ?_
    rw [Cert.MergeRefIdeal.Hand.value1, (h c).1, (h c).2.1, (h c).2.2.1, (h c).2.2.2.1, (h c).2.2.2.2.1, (h c).2.2.2.2.2.1, (h c).2.2.2.2.2.2.1, (h c).2.2.2.2.2.2.2.1,
      (h c).2.2.2.2.2.2.2.2.1, (h c).2.2.2.2.2.2.2.2.2.1]
  · refine (Cert.MergeRefIdeal.Read.val_main_v50_eq _ _).trans ?_
    rw [Cert.MergeRefIdeal.Hand.value2, (h c).1, (h c).2.1, (h c).2.2.1, (h c).2.2.2.1, (h c).2.2.2.2.1, (h c).2.2.2.2.2.1, (h c).2.2.2.2.2.2.1, (h c).2.2.2.2.2.2.2.1,
      (h c).2.2.2.2.2.2.2.2.1, (h c).2.2.2.2.2.2.2.2.2.1, (h c).2.2.2.2.2.2.2.2.2.2]

end Cert.Proof.Merge
end
-- ==== Proof.Proj.Frame.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjIdeal.Hand

open Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x384 := Rect.unit (s := S512x384) ![0, 0] S512x128.size inb_S512x384_S512x128_0_0
abbrev r0_3 : Rect S512x384 := Rect.unit (s := S512x384) ![0, 128] S512x128.size inb_S512x384_S512x128_0_128
abbrev r0_4 : Rect S512x384 := Rect.unit (s := S512x384) ![0, 256] S512x128.size inb_S512x384_S512x128_0_256
abbrev r0_5 : Rect S5120x1024 := Rect.unit (s := S5120x1024) ![0, 0] S512x1024.size inb_S5120x1024_S512x1024_0_0
abbrev r0_6 : Rect S512x512 := Rect.unit (s := S512x512) ![0, 0] S512x512.size inb_S512x512_S512x512_0_0
abbrev r0_7 : Rect S1x512 := Rect.unit (s := S1x512) ![0, 0] S1x512.size inb_S1x512_S1x512_0_0
abbrev r0_8 : Rect S5120x1024 := Rect.unit (s := S5120x1024) ![512, 0] S256x1024.size inb_S5120x1024_S256x1024_512_0
abbrev r0_9 : Rect S512x512 := Rect.unit (s := S512x512) ![0, 0] S256x256.size inb_S512x512_S256x256_0_0
abbrev r0_10 : Rect S1x256 := Rect.unit (s := S1x256) ![0, 0] S1x256.size inb_S1x256_S1x256_0_0
abbrev r0_11 : Rect S1x256x512 := Rect.unit (s := S1x256x512) ![0, 0, 0] S1x256x512.size inb_S1x256x512_S1x256x512_0_0_0
abbrev r0_12 : Rect S4x512x128 := Rect.unit (s := S4x512x128) ![0, 0, 0] S1x512x128.size inb_S4x512x128_S1x512x128_0_0_0
abbrev r0_13 : Rect S4x512x128 := Rect.unit (s := S4x512x128) ![1, 0, 0] S1x512x128.size inb_S4x512x128_S1x512x128_1_0_0
abbrev r0_14 : Rect S4x512x128 := Rect.unit (s := S4x512x128) ![2, 0, 0] S1x512x128.size inb_S4x512x128_S1x512x128_2_0_0
abbrev r0_15 : Rect S4x512x128 := Rect.unit (s := S4x512x128) ![3, 0, 0] S1x512x128.size inb_S4x512x128_S1x512x128_3_0_0
abbrev r0_16 : Rect S5120x1024 := Rect.unit (s := S5120x1024) ![768, 0] S256x1024.size inb_S5120x1024_S256x1024_768_0
abbrev r0_17 : Rect S4x80x512 := Rect.unit (s := S4x80x512) ![0, 0, 0] S1x80x512.size inb_S4x80x512_S1x80x512_0_0_0
abbrev r0_18 : Rect S4x80x512 := Rect.unit (s := S4x80x512) ![1, 0, 0] S1x80x512.size inb_S4x80x512_S1x80x512_1_0_0
abbrev r0_19 : Rect S4x80x512 := Rect.unit (s := S4x80x512) ![2, 0, 0] S1x80x512.size inb_S4x80x512_S1x80x512_2_0_0
abbrev r0_20 : Rect S4x80x512 := Rect.unit (s := S4x80x512) ![3, 0, 0] S1x80x512.size inb_S4x80x512_S1x80x512_3_0_0
abbrev r0_21 : Rect S5120x1024 := Rect.unit (s := S5120x1024) ![1024, 0] S256x1024.size inb_S5120x1024_S256x1024_1024_0
abbrev r0_22 : Rect S512x256 := Rect.unit (s := S512x256) ![0, 0] S512x256.size inb_S512x256_S512x256_0_0
abbrev r0_23 : Rect S256x512 := Rect.unit (s := S256x512) ![0, 0] S256x512.size inb_S256x512_S256x512_0_0
abbrev r0_24 : Rect S5120x1024 := Rect.unit (s := S5120x1024) ![1280, 0] S128x1024.size inb_S5120x1024_S128x1024_1280_0
abbrev r0_25 : Rect S512x128 := Rect.unit (s := S512x128) ![0, 0] S512x128.size inb_S512x128_S512x128_0_0
abbrev r0_26 : Rect S8x512 := Rect.unit (s := S8x512) ![0, 0] S8x512.size inb_S8x512_S8x512_0_0
abbrev r0_27 : Rect S512x512 := Rect.unit (s := S512x512) ![0, 0] S128x128.size inb_S512x512_S128x128_0_0
abbrev r0_28 : Rect S1x128 := Rect.unit (s := S1x128) ![0, 0] S1x128.size inb_S1x128_S1x128_0_0
abbrev r0_29 : Rect S1x64x512 := Rect.unit (s := S1x64x512) ![0, 0, 0] S1x64x512.size inb_S1x64x512_S1x64x512_0_0_0
abbrev r0_30 : Rect S512x64 := Rect.unit (s := S512x64) ![0, 0] S512x64.size inb_S512x64_S512x64_0_0
abbrev r0_31 : Rect S5120x1024 := Rect.unit (s := S5120x1024) ![1408, 0] S256x1024.size inb_S5120x1024_S256x1024_1408_0
abbrev r0_32 : Rect S5120x1024 := Rect.unit (s := S5120x1024) ![1664, 0] S256x1024.size inb_S5120x1024_S256x1024_1664_0
abbrev r0_33 : Rect S5120x1024 := Rect.unit (s := S5120x1024) ![1920, 0] S512x1024.size inb_S5120x1024_S512x1024_1920_0
abbrev r0_34 : Rect S5120x1024 := Rect.unit (s := S5120x1024) ![2432, 0] S128x1024.size inb_S5120x1024_S128x1024_2432_0
abbrev r0_35 : Rect S128x256 := Rect.unit (s := S128x256) ![0, 0] S128x256.size inb_S128x256_S128x256_0_0
abbrev r0_36 : Rect S5120x1024 := Rect.unit (s := S5120x1024) ![2560, 0] S512x1024.size inb_S5120x1024_S512x1024_2560_0
abbrev r0_37 : Rect S5120x1024 := Rect.unit (s := S5120x1024) ![3072, 0] S1024x1024.size inb_S5120x1024_S1024x1024_3072_0
abbrev r0_38 : Rect S5120x1024 := Rect.unit (s := S5120x1024) ![4096, 0] S1024x1024.size inb_S5120x1024_S1024x1024_4096_0

/-! ## What the body leaves in each output window's buffer -/

/-! ### Values of the body that the stores' payloads, spelt out, would write more than once

    Each is a vector the body binds (often a part call's result), stated over the input windows' blocks and
    numbered on from the skeleton's payload functions (`k0_pay49` …, after `k0_pay48`), so that
    `out0_W` and the values after it name it instead of spelling it out (`unfold_out out0_W` opens a canon
    with them, `unfold_payloads` opens them with the payloads); the comment after each is the printed function's
    name for the value (a count appended where that name is bound again). -/

def k0_pay49 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x1024 .bf16 :=
  k0_pay2 (View.ld x0 r0_0) (View.ld x1 r0_1) -- `v15`
def k0_pay50 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x128 .f32 :=
  k0_pay3 (View.ld x9 r0_2) -- `v17`
def k0_pay51 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x128 .f32 :=
  k0_pay4 (View.ld x9 r0_3) -- `v19`
def k0_pay52 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x128 .f32 :=
  k0_pay5 (View.ld x9 r0_4) -- `v21`
def k0_pay53 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x512 .f32 :=
  k0_pay6 (View.ld x0 r0_0) (View.ld x1 r0_1) (View.ld x2 r0_5) -- `v24`
def k0_pay54 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x512 .f32 :=
  k0_pay7 (View.ld x0 r0_0) (View.ld x1 r0_1) (View.ld x2 r0_5) (View.ld x10 r0_6) -- `v37`
def k0_pay55 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x256 .f32 :=
  k0_pay11 (k0_pay49 x0 x1 x2 x3 x4 x5 x6 x7 x8 x9 x10) (View.ld x2 r0_8) (View.ld x10 r0_9) -- `v76`
def k0_pay56 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x128 .f32 :=
  k0_pay30 (k0_pay49 x0 x1 x2 x3 x4 x5 x6 x7 x8 x9 x10) (View.ld x2 r0_24) -- `v180`
def k0_pay57 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x128 .f32 :=
  k0_pay35 (k0_pay50 x0 x1 x2 x3 x4 x5 x6 x7 x8 x9 x10) (k0_pay51 x0 x1 x2 x3 x4 x5 x6 x7 x8 x9 x10) (k0_pay56 x0 x1 x2 x3 x4 x5 x6 x7 x8 x9 x10) (View.ld x10 r0_27) (View.ld x5 r0_28) -- `v227`
def k0_pay58 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : FVec F S512x128 .f32 :=
  k0_pay36 (k0_pay52 x0 x1 x2 x3 x4 x5 x6 x7 x8 x9 x10) (k0_pay56 x0 x1 x2 x3 x4 x5 x6 x7 x8 x9 x10) (View.ld x10 r0_27) (View.ld x5 r0_28) -- `v229`

/-- Window 11's staging buffer after the body, from the input windows' blocks: its 1 store as pieces, LAST
    FIRST (Lib/Pipeline/FrameBody.lean `View.canon`; the payloads are the skeleton's and the values stated above). -/
def out0_11 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x512 .bf16 :=
  View.canon [⟨r0_6, k0_pay9 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (View.ld x3 r0_7)⟩]

/-- Its stores tile the buffer (checked by evaluation), so they cover it. -/
theorem cover0_11 (p0 : Vec F S512x512 .bf16) (y : S512x512.Idx) :
    ∃ pc ∈ ([⟨r0_6, p0⟩] : List (View.Piece (Elt F) S512x512 .bf16)), y ∈ pc.1.set :=
  View.cover_of_tiled [⟨r0_6, p0⟩] S512x512.size (by rfl) y

/-- Window 12's staging buffer after the body, from the input windows' blocks: its 1 store as pieces, LAST
    FIRST (Lib/Pipeline/FrameBody.lean `View.canon`; the payloads are the skeleton's and the values stated above). -/
def out0_12 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x512 .bf16 :=
  View.canon [⟨r0_6, k0_pay10 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (View.ld x3 r0_7)⟩]

/-- Its stores tile the buffer (checked by evaluation), so they cover it. -/
theorem cover0_12 (p0 : Vec F S512x512 .bf16) (y : S512x512.Idx) :
    ∃ pc ∈ ([⟨r0_6, p0⟩] : List (View.Piece (Elt F) S512x512 .bf16)), y ∈ pc.1.set :=
  View.cover_of_tiled [⟨r0_6, p0⟩] S512x512.size (by rfl) y

/-- Window 13's staging buffer after the body, from the input windows' blocks: its 1 store as pieces, LAST
    FIRST (Lib/Pipeline/FrameBody.lean `View.canon`; the payloads are the skeleton's and the values stated above). -/
def out0_13 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S1x256x512 .f32 :=
  View.canon [⟨r0_11, k0_pay13 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay55 x0 x1 x2 x3 x4 x5 x6 x7 x8 x9 x10) (View.ld x4 r0_10)⟩]

/-- Its stores tile the buffer (checked by evaluation), so they cover it. -/
theorem cover0_13 (p0 : Vec F S1x256x512 .f32) (y : S1x256x512.Idx) :
    ∃ pc ∈ ([⟨r0_11, p0⟩] : List (View.Piece (Elt F) S1x256x512 .f32)), y ∈ pc.1.set :=
  View.cover_of_tiled [⟨r0_11, p0⟩] S1x256x512.size (by rfl) y

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S1x256x512 .f32 :=
  View.canon [⟨r0_11, k0_pay21 (k0_pay49 x0 x1 x2 x3 x4 x5 x6 x7 x8 x9 x10) (View.ld x2 r0_16)⟩]

/-- Its stores tile the buffer (checked by evaluation), so they cover it. -/
theorem cover0_14 (p0 : Vec F S1x256x512 .f32) (y : S1x256x512.Idx) :
    ∃ pc ∈ ([⟨r0_11, p0⟩] : List (View.Piece (Elt F) S1x256x512 .f32)), y ∈ pc.1.set :=
  View.cover_of_tiled [⟨r0_11, p0⟩] S1x256x512.size (by rfl) y

/-- Window 15's staging buffer after the body, from the input windows' blocks: its 4 stores as pieces, LAST
    FIRST (Lib/Pipeline/FrameBody.lean `View.canon`; the payloads are the skeleton's and the values stated above). -/
def out0_15 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S4x512x128 .bf16 :=
  View.canon [⟨r0_15, k0_pay19 (k0_pay12 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay55 x0 x1 x2 x3 x4 x5 x6 x7 x8 x9 x10) (View.ld x4 r0_10)) (k0_pay14 (F := F))⟩,
    ⟨r0_14, k0_pay18 (k0_pay17 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay55 x0 x1 x2 x3 x4 x5 x6 x7 x8 x9 x10) (View.ld x4 r0_10))⟩,
    ⟨r0_13, k0_pay16 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay55 x0 x1 x2 x3 x4 x5 x6 x7 x8 x9 x10) (View.ld x4 r0_10)⟩,
    ⟨r0_12, k0_pay15 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay55 x0 x1 x2 x3 x4 x5 x6 x7 x8 x9 x10) (View.ld x4 r0_10)⟩]

/-- Its stores tile the buffer (checked by evaluation), so they cover it. -/
theorem cover0_15 (p0 : Vec F S1x512x128 .bf16) (p1 : Vec F S1x512x128 .bf16) (p2 : Vec F S1x512x128 .bf16) (p3 : Vec F S1x512x128 .bf16) (y : S4x512x128.Idx) :
    ∃ pc ∈ ([⟨r0_15, p0⟩, ⟨r0_14, p1⟩, ⟨r0_13, p2⟩, ⟨r0_12, p3⟩] : List (View.Piece (Elt F) S4x512x128 .bf16)), y ∈ pc.1.set :=
  View.cover_of_tiled [⟨r0_15, p0⟩, ⟨r0_14, p1⟩, ⟨r0_13, p2⟩, ⟨r0_12, p3⟩] S1x512x128.size (by rfl) y

/-- Window 16's staging buffer after the body, from the input windows' blocks: its 4 stores as pieces, LAST
    FIRST (Lib/Pipeline/FrameBody.lean `View.canon`; the payloads are the skeleton's and the values stated above). -/
def out0_16 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S4x80x512 .bf16 :=
  View.canon [⟨r0_20, k0_pay26 (k0_pay20 (k0_pay49 x0 x1 x2 x3 x4 x5 x6 x7 x8 x9 x10) (View.ld x2 r0_16))⟩,
    ⟨r0_19, k0_pay25 (k0_pay24 (k0_pay49 x0 x1 x2 x3 x4 x5 x6 x7 x8 x9 x10) (View.ld x2 r0_16))⟩,
    ⟨r0_18, k0_pay23 (k0_pay49 x0 x1 x2 x3 x4 x5 x6 x7 x8 x9 x10) (View.ld x2 r0_16)⟩,
    ⟨r0_17, k0_pay22 (k0_pay49 x0 x1 x2 x3 x4 x5 x6 x7 x8 x9 x10) (View.ld x2 r0_16)⟩]

/-- Its stores tile the buffer (checked by evaluation), so they cover it. -/
theorem cover0_16 (p0 : Vec F S1x80x512 .bf16) (p1 : Vec F S1x80x512 .bf16) (p2 : Vec F S1x80x512 .bf16) (p3 : Vec F S1x80x512 .bf16) (y : S4x80x512.Idx) :
    ∃ pc ∈ ([⟨r0_20, p0⟩, ⟨r0_19, p1⟩, ⟨r0_18, p2⟩, ⟨r0_17, p3⟩] : List (View.Piece (Elt F) S4x80x512 .bf16)), y ∈ pc.1.set :=
  View.cover_of_tiled [⟨r0_20, p0⟩, ⟨r0_19, p1⟩, ⟨r0_18, p2⟩, ⟨r0_17, p3⟩] S1x80x512.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x256 .bf16 :=
  View.canon [⟨r0_22, k0_pay28 (k0_pay49 x0 x1 x2 x3 x4 x5 x6 x7 x8 x9 x10) (k0_pay50 x0 x1 x2 x3 x4 x5 x6 x7 x8 x9 x10) (k0_pay51 x0 x1 x2 x3 x4 x5 x6 x7 x8 x9 x10) (k0_pay52 x0 x1 x2 x3 x4 x5 x6 x7 x8 x9 x10) (View.ld x2 r0_21)⟩]

/-- Its stores tile the buffer (checked by evaluation), so they cover it. -/
theorem cover0_17 (p0 : Vec F S512x256 .bf16) (y : S512x256.Idx) :
    ∃ pc ∈ ([⟨r0_22, p0⟩] : List (View.Piece (Elt F) S512x256 .bf16)), y ∈ pc.1.set :=
  View.cover_of_tiled [⟨r0_22, p0⟩] S512x256.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S256x512 .bf16 :=
  View.canon [⟨r0_23, k0_pay29 (k0_pay49 x0 x1 x2 x3 x4 x5 x6 x7 x8 x9 x10) (k0_pay50 x0 x1 x2 x3 x4 x5 x6 x7 x8 x9 x10) (k0_pay51 x0 x1 x2 x3 x4 x5 x6 x7 x8 x9 x10) (k0_pay52 x0 x1 x2 x3 x4 x5 x6 x7 x8 x9 x10) (View.ld x2 r0_21)⟩]

/-- Its stores tile the buffer (checked by evaluation), so they cover it. -/
theorem cover0_18 (p0 : Vec F S256x512 .bf16) (y : S256x512.Idx) :
    ∃ pc ∈ ([⟨r0_23, p0⟩] : List (View.Piece (Elt F) S256x512 .bf16)), y ∈ pc.1.set :=
  View.cover_of_tiled [⟨r0_23, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S1x64x512 .f32 :=
  View.canon [⟨r0_29, k0_pay38 (k0_pay57 x0 x1 x2 x3 x4 x5 x6 x7 x8 x9 x10) (k0_pay58 x0 x1 x2 x3 x4 x5 x6 x7 x8 x9 x10)⟩]

/-- Its stores tile the buffer (checked by evaluation), so they cover it. -/
theorem cover0_19 (p0 : Vec F S1x64x512 .f32) (y : S1x64x512.Idx) :
    ∃ pc ∈ ([⟨r0_29, p0⟩] : List (View.Piece (Elt F) S1x64x512 .f32)), y ∈ pc.1.set :=
  View.cover_of_tiled [⟨r0_29, p0⟩] S1x64x512.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x64 .bf16 :=
  View.canon [⟨r0_30, k0_pay39 (k0_pay57 x0 x1 x2 x3 x4 x5 x6 x7 x8 x9 x10) (k0_pay58 x0 x1 x2 x3 x4 x5 x6 x7 x8 x9 x10)⟩]

/-- Its stores tile the buffer (checked by evaluation), so they cover it. -/
theorem cover0_20 (p0 : Vec F S512x64 .bf16) (y : S512x64.Idx) :
    ∃ pc ∈ ([⟨r0_30, p0⟩] : List (View.Piece (Elt F) S512x64 .bf16)), y ∈ pc.1.set :=
  View.cover_of_tiled [⟨r0_30, p0⟩] S512x64.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x128 .f32 :=
  View.canon [⟨r0_25, k0_pay31 (k0_pay49 x0 x1 x2 x3 x4 x5 x6 x7 x8 x9 x10) (View.ld x2 r0_24)⟩]

/-- Its stores tile the buffer (checked by evaluation), so they cover it. -/
theorem cover0_21 (p0 : Vec F S512x128 .f32) (y : S512x128.Idx) :
    ∃ pc ∈ ([⟨r0_25, p0⟩] : List (View.Piece (Elt F) S512x128 .f32)), y ∈ pc.1.set :=
  View.cover_of_tiled [⟨r0_25, p0⟩] S512x128.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S8x512 .f32 :=
  View.canon [⟨r0_26, k0_pay32 (k0_pay49 x0 x1 x2 x3 x4 x5 x6 x7 x8 x9 x10) (View.ld x2 r0_24)⟩]

/-- Its stores tile the buffer (checked by evaluation), so they cover it. -/
theorem cover0_22 (p0 : Vec F S8x512 .f32) (y : S8x512.Idx) :
    ∃ pc ∈ ([⟨r0_26, p0⟩] : List (View.Piece (Elt F) S8x512 .f32)), y ∈ pc.1.set :=
  View.cover_of_tiled [⟨r0_26, p0⟩] S8x512.size (by rfl) y

/-- Window 23's staging buffer after the body, from the input windows' blocks: its 1 store as pieces, LAST
    FIRST (Lib/Pipeline/FrameBody.lean `View.canon`; the payloads are the skeleton's and the values stated above). -/
def out0_23 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x256 .f32 :=
  View.canon [⟨r0_22, k0_pay40 (k0_pay49 x0 x1 x2 x3 x4 x5 x6 x7 x8 x9 x10) (View.ld x2 r0_31)⟩]

/-- Its stores tile the buffer (checked by evaluation), so they cover it. -/
theorem cover0_23 (p0 : Vec F S512x256 .f32) (y : S512x256.Idx) :
    ∃ pc ∈ ([⟨r0_22, p0⟩] : List (View.Piece (Elt F) S512x256 .f32)), y ∈ pc.1.set :=
  View.cover_of_tiled [⟨r0_22, p0⟩] S512x256.size (by rfl) y

/-- Window 24's staging buffer after the body, from the input windows' blocks: its 1 store as pieces, LAST
    FIRST (Lib/Pipeline/FrameBody.lean `View.canon`; the payloads are the skeleton's and the values stated above). -/
def out0_24 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x256 .f32 :=
  View.canon [⟨r0_22, k0_pay41 (k0_pay49 x0 x1 x2 x3 x4 x5 x6 x7 x8 x9 x10) (View.ld x2 r0_32)⟩]

/-- Its stores tile the buffer (checked by evaluation), so they cover it. -/
theorem cover0_24 (p0 : Vec F S512x256 .f32) (y : S512x256.Idx) :
    ∃ pc ∈ ([⟨r0_22, p0⟩] : List (View.Piece (Elt F) S512x256 .f32)), y ∈ pc.1.set :=
  View.cover_of_tiled [⟨r0_22, p0⟩] S512x256.size (by rfl) y

/-- Window 25's staging buffer after the body, from the input windows' blocks: its 1 store as pieces, LAST
    FIRST (Lib/Pipeline/FrameBody.lean `View.canon`; the payloads are the skeleton's and the values stated above). -/
def out0_25 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x512 .f32 :=
  View.canon [⟨r0_6, k0_pay42 (k0_pay49 x0 x1 x2 x3 x4 x5 x6 x7 x8 x9 x10) (View.ld x2 r0_33)⟩]

/-- Its stores tile the buffer (checked by evaluation), so they cover it. -/
theorem cover0_25 (p0 : Vec F S512x512 .f32) (y : S512x512.Idx) :
    ∃ pc ∈ ([⟨r0_6, p0⟩] : List (View.Piece (Elt F) S512x512 .f32)), y ∈ pc.1.set :=
  View.cover_of_tiled [⟨r0_6, p0⟩] S512x512.size (by rfl) y

/-- Window 26's staging buffer after the body, from the input windows' blocks: its 1 store as pieces, LAST
    FIRST (Lib/Pipeline/FrameBody.lean `View.canon`; the payloads are the skeleton's and the values stated above). -/
def out0_26 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x256 .f32 :=
  View.canon [⟨r0_22, k0_pay46 (k0_pay44 (k0_pay49 x0 x1 x2 x3 x4 x5 x6 x7 x8 x9 x10) (View.ld x2 r0_34)) (k0_pay45 (k0_pay49 x0 x1 x2 x3 x4 x5 x6 x7 x8 x9 x10) (View.ld x2 r0_34)) (View.ld x6 r0_35) (View.ld x6 r0_35) (View.ld x7 r0_35) (View.ld x8 r0_10)⟩]

/-- Its stores tile the buffer (checked by evaluation), so they cover it. -/
theorem cover0_26 (p0 : Vec F S512x256 .f32) (y : S512x256.Idx) :
    ∃ pc ∈ ([⟨r0_22, p0⟩] : List (View.Piece (Elt F) S512x256 .f32)), y ∈ pc.1.set :=
  View.cover_of_tiled [⟨r0_22, p0⟩] S512x256.size (by rfl) y

/-- Window 27's staging buffer after the body, from the input windows' blocks: its 1 store as pieces, LAST
    FIRST (Lib/Pipeline/FrameBody.lean `View.canon`; the payloads are the skeleton's and the values stated above). -/
def out0_27 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x512 .f32 :=
  View.canon [⟨r0_6, k0_pay47 (k0_pay49 x0 x1 x2 x3 x4 x5 x6 x7 x8 x9 x10) (View.ld x2 r0_36)⟩]

/-- Its stores tile the buffer (checked by evaluation), so they cover it. -/
theorem cover0_27 (p0 : Vec F S512x512 .f32) (y : S512x512.Idx) :
    ∃ pc ∈ ([⟨r0_6, p0⟩] : List (View.Piece (Elt F) S512x512 .f32)), y ∈ pc.1.set :=
  View.cover_of_tiled [⟨r0_6, p0⟩] S512x512.size (by rfl) y

/-- Window 28's staging buffer after the body, from the input windows' blocks: its 1 store as pieces, LAST
    FIRST (Lib/Pipeline/FrameBody.lean `View.canon`; the payloads are the skeleton's and the values stated above). -/
def out0_28 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x1024 .f32 :=
  View.canon [⟨r0_0, k0_pay48 (k0_pay49 x0 x1 x2 x3 x4 x5 x6 x7 x8 x9 x10) (View.ld x2 r0_37)⟩]

/-- Its stores tile the buffer (checked by evaluation), so they cover it. -/
theorem cover0_28 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 29's staging buffer after the body, from the input windows' blocks: its 1 store as pieces, LAST
    FIRST (Lib/Pipeline/FrameBody.lean `View.canon`; the payloads are the skeleton's and the values stated above). -/
def out0_29 (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) : Vec F S512x1024 .f32 :=
  View.canon [⟨r0_0, k0_pay1 (k0_pay49 x0 x1 x2 x3 x4 x5 x6 x7 x8 x9 x10) (View.ld x2 r0_38)⟩]

/-- Its stores tile the buffer (checked by evaluation), so they cover it. -/
theorem cover0_29 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S5120x1024 .bf16) (harg3 : arg3.IsWhole) (arg4 : Memref sig .tc .vmem S1x512 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S1x256 .f32) (harg9 : arg9.IsWhole) (arg10 : Memref sig .tc .vmem S512x384 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x256x512 .f32) (harg14 : arg14.IsWhole) (arg15 : Memref sig .tc .vmem S1x256x512 .f32) (harg15 : arg15.IsWhole) (arg16 : Memref sig .tc .vmem S4x512x128 .bf16) (harg16 : arg16.IsWhole) (arg17 : Memref sig .tc .vmem S4x80x512 .bf16) (harg17 : arg17.IsWhole) (arg18 : Memref sig .tc .vmem S512x256 .bf16) (harg18 : arg18.IsWhole) (arg19 : Memref sig .tc .vmem S256x512 .bf16) (harg19 : arg19.IsWhole) (arg20 : Memref sig .tc .vmem S1x64x512 .f32) (harg20 : arg20.IsWhole) (arg21 : Memref sig .tc .vmem S512x64 .bf16) (harg21 : arg21.IsWhole) (arg22 : Memref sig .tc .vmem S512x128 .f32) (harg22 : arg22.IsWhole) (arg23 : Memref sig .tc .vmem S8x512 .f32) (harg23 : arg23.IsWhole) (arg24 : Memref sig .tc .vmem S512x256 .f32) (harg24 : arg24.IsWhole) (arg25 : Memref sig .tc .vmem S512x256 .f32) (harg25 : arg25.IsWhole) (arg26 : Memref sig .tc .vmem S512x512 .f32) (harg26 : arg26.IsWhole) (arg27 : Memref sig .tc .vmem S512x256 .f32) (harg27 : arg27.IsWhole) (arg28 : Memref sig .tc .vmem S512x512 .f32) (harg28 : arg28.IsWhole) (arg29 : Memref sig .tc .vmem S512x1024 .f32) (harg29 : arg29.IsWhole) (arg30 : Memref sig .tc .vmem S512x1024 .f32) (harg30 : arg30.IsWhole)
    (x0 : Vec F S512x1024 .f32) (x1 : Vec F S1x1024 .f32) (x2 : Vec F S5120x1024 .bf16) (x3 : Vec F S1x512 .f32) (x4 : Vec F S1x256 .f32) (x5 : Vec F S1x128 .f32) (x6 : Vec F S128x256 .bf16) (x7 : Vec F S128x256 .bf16) (x8 : Vec F S1x256 .f32) (x9 : Vec F S512x384 .f32) (x10 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10) ∗ owns (c : Thread nD τ) arg24 fullShare (out0_23 x0 x1 x2 x3 x4 x5 x6 x7 x8 x9 x10) ∗ owns (c : Thread nD τ) arg25 fullShare (out0_24 x0 x1 x2 x3 x4 x5 x6 x7 x8 x9 x10) ∗ owns (c : Thread nD τ) arg26 fullShare (out0_25 x0 x1 x2 x3 x4 x5 x6 x7 x8 x9 x10) ∗ owns (c : Thread nD τ) arg27 fullShare (out0_26 x0 x1 x2 x3 x4 x5 x6 x7 x8 x9 x10) ∗ owns (c : Thread nD τ) arg28 fullShare (out0_27 x0 x1 x2 x3 x4 x5 x6 x7 x8 x9 x10) ∗ owns (c : Thread nD τ) arg29 fullShare (out0_28 x0 x1 x2 x3 x4 x5 x6 x7 x8 x9 x10) ∗ owns (c : Thread nD τ) arg30 fullShare (out0_29 x0 x1 x2 x3 x4 x5 x6 x7 x8 x9 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  iexists _; isplitr
  swap; · iexact H29
  ipureintro
  refine (View.read_writes_eq_canon _ _ _ (cover0_29 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the argument arrays end unchanged and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjIdeal.Hand

end
-- ==== Proof.Proj.Same.lean ====
module

public import proofs.«01_k».proof.Defs
public import proofs.«01_k».proof.Proof.Proj.Frame
public import proofs.«01_k».proof.Proof.Gen.Proj
public import Idealize.ShloMosaic.Lib.Pipeline.ValueKit

@[expose] public section

set_option maxRecDepth 16384

noncomputable section

open Idealize.ShloMosaic Idealize.ShloMosaic.TcCoe Idealize.SL.Sem

namespace Cert.Proof.Proj

/-- The frame of the idealized program's text, at the machine's values. -/
def FrameBits : Prop :=
  ∀ (m : (ℓ : Loc Cert.ProjIdeal.nD Cert.ProjIdeal.τ Cert.ProjIdeal.sig) → Buf (Elt Bits) ℓ) (g : Dev Cert.ProjIdeal.nD → PrngReg), True →
    θ_run (Cert.ProjIdeal.defs (F := Bits)) (onTc (τ := Cert.ProjIdeal.τ) (Cert.ProjIdeal.main (F := Bits))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

/-- The compiled program's text is the idealized one's. -/
theorem same : FrameBits = Cert.quiescent_Proj (hProj := Cert.Proj.Gen.facts) := by
  sl_kernel_rfl

/-- So the run proved at any values is its run at the machine's values. -/
theorem frame_bits : Cert.quiescent_Proj (hProj := Cert.Proj.Gen.facts) :=
  same.mp fun m ρ _ => Cert.ProjIdeal.Hand.frame (F := Bits) m ρ

end Cert.Proof.Proj
end
-- ==== Proof.Proj.Math.lean ====
module

public import proofs.«01_k».proof.ProjIdeal
public import proofs.«01_k».proof.Proof.Merge.Rows
public import proofs.«01_k».proof.Proof.Gla.Real

@[expose] public section

set_option maxRecDepth 16384

noncomputable section

open Idealize.ShloMosaic Idealize.ShloMosaic.TcCoe Idealize.SL.Sem

/-! ## The input projections of one token, as plain arithmetic

Rows are functions of a column number; a token's projected row is read at the columns of the whole weight matrix. -/

namespace Cert.Proof.Proj

open Cert.MergeIdeal.Hand (normed)

/-- Every entry is a real number. -/
def RealRow (h : ℕ → EReal) : Prop := ∀ j, ∃ r : ℝ, h j = r

/-- A token's normalised row through column `j` of the weights. -/
def proj (n : Fin 1024 → EReal) (W : Cert.ProjIdeal.S1024x4948.Idx → EReal) (j : ℕ) : EReal :=
  if hj : j < 4948 then ∑ k : Fin 1024, n k * W (ix2 k ⟨j, hj⟩) else 0

/-- The mean square of the group of 64 columns that column `j` is in. -/
def gmean (h : ℕ → EReal) (j : ℕ) : EReal :=
  Ideal.div (∑ x : Fin 64, h (j / 64 * 64 + x.val) * h (j / 64 * 64 + x.val)) (Ideal.ofBits FTy.f32 1115684864#32)

/-- Each group of 64 columns over its root mean square, times the group's weights. -/
def gnorm (h : ℕ → EReal) (g : Fin 64 → EReal) (j : ℕ) : EReal :=
  h j * Ideal.rsqrt (gmean h j + Ideal.ofBits FTy.f32 897988541#32) * g ⟨j % 64, Nat.mod_lt _ (by decide)⟩

/-- The rotary turn of the first 16 columns of each group of 64. -/
def rope (h : ℕ → EReal) (c s : Fin 8 → EReal) (j : ℕ) : EReal :=
  if j % 64 < 8 then h j * c ⟨j % 8, Nat.mod_lt _ (by decide)⟩ - h (j + 8) * s ⟨j % 8, Nat.mod_lt _ (by decide)⟩
  else if j % 64 < 16 then h j * c ⟨j % 8, Nat.mod_lt _ (by decide)⟩ + h (j - 8) * s ⟨j % 8, Nat.mod_lt _ (by decide)⟩
  else h j

/-- The logarithm of the logistic function, over 16. -/
def logd (z : EReal) : EReal :=
  Ideal.div (min z 0 - Ideal.log1p (Ideal.exp (0 - max z (-z)))) (Ideal.ofBits FTy.f32 1098907648#32)

/-- What a kernel computes of a turned column: three table lanes times the column and its two neighbours. -/
def IsTable (one sa sb : Fin 128 → EReal) (c s : Fin 8 → EReal) : Prop :=
  ∀ x : Fin 128, one x = (if x.val % 64 < 16 then c ⟨x.val % 8, Nat.mod_lt _ (by decide)⟩ else 1)
    ∧ sa x = (if x.val % 64 < 8 then -s ⟨x.val % 8, Nat.mod_lt _ (by decide)⟩ else 0)
    ∧ sb x = (if x.val % 64 < 8 then 0 else if x.val % 64 < 16 then s ⟨x.val % 8, Nat.mod_lt _ (by decide)⟩ else 0)

/-- The three table terms are the rotary turn. -/
theorem turn {one sa sb : Fin 128 → EReal} {c s : Fin 8 → EReal} (ht : IsTable one sa sb c s) (y : ℕ → EReal) (j : ℕ) (x : Fin 128) (hx : x.val = j % 128)
    (ya yb : EReal) (ha : j % 64 < 8 → ya = y (j + 8)) (hb : 8 ≤ j % 64 → j % 64 < 16 → yb = y (j - 8)) :
    y j * one x + ya * sa x + yb * sb x = rope y c s j := by
  obtain ⟨h1, h2, h3⟩ := ht x
  have e : x.val % 64 = j % 64 := by omega
  have e8 : (⟨x.val % 8, Nat.mod_lt _ (by decide)⟩ : Fin 8) = ⟨j % 8, Nat.mod_lt _ (by decide)⟩ := Fin.ext (by show x.val % 8 = j % 8; omega)
  rw [h1, h2, h3, e, e8]
  unfold rope
  by_cases h : j % 64 < 8
  · rw [if_pos (by omega), if_pos h, if_pos h, if_pos h, ha h, mul_zero, add_zero, mul_neg, sub_eq_add_neg]
  by_cases h' : j % 64 < 16
  · rw [if_pos h', if_neg h, if_neg h, if_pos h', if_neg h, if_pos h', hb (by omega) h', mul_zero, add_zero]
  · rw [if_neg h', if_neg h, if_neg h, if_neg h', if_neg h, if_neg h', mul_zero, mul_zero, add_zero, add_zero, mul_one]

/-! ### Real entries -/

/-- A real number among the extended ones. -/
def Re (x : EReal) : Prop := ∃ r : ℝ, x = r

theorem Re.mul {x y : EReal} : Re x → Re y → Re (x * y) := by
  rintro ⟨a, rfl⟩ ⟨b, rfl⟩
  exact ⟨a * b, (EReal.coe_mul a b).symm⟩

theorem Re.add {x y : EReal} : Re x → Re y → Re (x + y) := by
  rintro ⟨a, rfl⟩ ⟨b, rfl⟩
  exact ⟨a + b, (EReal.coe_add a b).symm⟩

theorem Re.sum {n : ℕ} {f : Fin n → EReal} (h : ∀ i, Re (f i)) : Re (∑ i, f i) :=
  Finset.sum_induction _ Re (fun _ _ => Re.add) ⟨0, rfl⟩ fun i _ => h i

theorem Re.sub_self {x : EReal} : Re x → x - x = 0 := by
  rintro ⟨a, rfl⟩
  rw [← EReal.coe_sub, _root_.sub_self, EReal.coe_zero]

theorem coe_sum {n : ℕ} (f : Fin n → ℝ) : ∑ i, (f i : EReal) = ((∑ i, f i : ℝ) : EReal) := by
  refine Finset.induction_on (Finset.univ : Finset (Fin n)) (by simp) fun i t hi ih => ?_
  rw [Finset.sum_insert hi, Finset.sum_insert hi, ih, EReal.coe_add]

theorem lit_1024 : Ideal.ofBits FTy.f32 1149239296#32 = ((1024 : ℝ) : EReal) := by
  simp [Ideal.ofBits, Ideal.ieee, -EReal.coe_mul]; norm_num
theorem lit_64 : Ideal.ofBits FTy.f32 1115684864#32 = ((64 : ℝ) : EReal) := by
  simp [Ideal.ofBits, Ideal.ieee, -EReal.coe_mul]; norm_num
theorem lit_eps : ∃ e : ℝ, 0 < e ∧ Ideal.ofBits FTy.f32 897988541#32 = (e : EReal) := by
  refine ⟨_, ?_, by simp [Ideal.ofBits, Ideal.ieee, -EReal.coe_mul]; rfl⟩
  norm_num

/-- A normalised row of real numbers is real. -/
theorem normed_re {y w : Fin 1024 → EReal} (hy : ∀ k, Re (y k)) (hw : ∀ k, Re (w k)) (d : Fin 1024) : Re (normed y w d) := by
  obtain ⟨f, hf⟩ : ∃ f : Fin 1024 → ℝ, y = fun k => (f k : EReal) := ⟨fun k => (hy k).choose, funext fun k => (hy k).choose_spec⟩
  obtain ⟨e, he, hl⟩ := lit_eps
  subst hf
  unfold normed
  refine Re.mul (Re.mul ⟨f d, rfl⟩ ?_) (hw d)
  simp only [← EReal.coe_mul]
  rw [coe_sum, lit_1024, Ideal.div_coe (by norm_num), hl, ← EReal.coe_mul, ← EReal.coe_add, Ideal.rsqrt_coe]
  have hp : 0 < (∑ k, f k * f k) * (1 / 1024) + e :=
    add_pos_of_nonneg_of_pos (mul_nonneg (Finset.sum_nonneg fun k _ => mul_self_nonneg (f k)) (by norm_num)) he
  rw [if_neg (not_lt.mpr hp.le), if_neg hp.ne']
  exact ⟨_, rfl⟩

/-- So is a projected one. -/
theorem proj_re {n : Fin 1024 → EReal} {W : Cert.ProjIdeal.S1024x4948.Idx → EReal} (hn : ∀ k, Re (n k)) (hW : ∀ i, Re (W i)) (j : ℕ) : Re (proj n W j) := by
  unfold proj
  split_ifs with h
  · exact Re.sum fun k => (hn k).mul (hW _)
  · exact ⟨0, rfl⟩

/-- A sum over `n` columns that only looks at one group of 64 is the sum over the group. -/
theorem group_sum (a : ℕ → ℝ) (n J : ℕ) (hJ : J * 64 + 64 ≤ n) :
    ∑ x : Fin n, (if x.val / 64 = J then a x.val else 0) = ∑ x : Fin 64, a (J * 64 + x.val) := by
  rw [Fin.sum_univ_eq_sum_range (fun x => if x / 64 = J then a x else 0) n, Fin.sum_univ_eq_sum_range (fun x => a (J * 64 + x)) 64, ← Finset.sum_filter]
  refine Finset.sum_nbij' (fun x => x - J * 64) (fun x => J * 64 + x) ?_ ?_ ?_ ?_ ?_
  · intro x hx; simp only [Finset.mem_filter, Finset.mem_range] at hx ⊢; omega
  · intro x hx; simp only [Finset.mem_filter, Finset.mem_range] at hx ⊢; omega
  · intro x hx; simp only [Finset.mem_filter, Finset.mem_range] at hx ⊢; omega
  · intro x hx; omega
  · intro x hx
    simp only [Finset.mem_filter, Finset.mem_range] at hx
    exact congrArg a (by omega)

/-- The mean of the squares taken by two products with a matrix of 1/64: the part left over by the rounding is zero. -/
theorem mean_dot {n : ℕ} (h : ℕ → EReal) (hr : RealRow h) (M : Fin n → EReal) (j : ℕ) (hj : j / 64 * 64 + 64 ≤ n)
    (hM : ∀ x : Fin n, M x = if x.val / 64 = j / 64 then ((1 / 64 : ℝ) : EReal) else 0) :
    ∑ x : Fin n, h x.val * h x.val * M x + ∑ x : Fin n, (h x.val * h x.val - h x.val * h x.val) * M x = gmean h j := by
  obtain ⟨f, rfl⟩ : ∃ f : ℕ → ℝ, h = fun k => (f k : EReal) := ⟨fun k => (hr k).choose, funext fun k => (hr k).choose_spec⟩
  have e1 (x : Fin n) : (f x.val : EReal) * f x.val * M x = (((if x.val / 64 = j / 64 then f x.val * f x.val * (1 / 64) else 0) : ℝ) : EReal) := by
    rw [hM]
    split_ifs
    · rw [EReal.coe_mul, EReal.coe_mul]
    · rw [mul_zero, EReal.coe_zero]
  have e2 (x : Fin n) : ((f x.val : EReal) * f x.val - (f x.val : EReal) * f x.val) * M x = 0 := by
    rw [← EReal.coe_mul, ← EReal.coe_sub, _root_.sub_self, EReal.coe_zero, zero_mul]
  unfold gmean
  simp only [e1, e2, Finset.sum_const_zero, add_zero]
  simp only [← EReal.coe_mul]
  rw [coe_sum, coe_sum, lit_64, Ideal.div_coe (by norm_num), ← EReal.coe_mul, group_sum (fun x => f x * f x * (1 / 64)) n (j / 64) hj, Finset.sum_mul]

/-! ### The log decay -/

/-- The kernel's and the reference's forms of the log of the logistic function. -/
theorem logd_eq (z : EReal) :
    Ideal.div (-(max (-z) 0 + Ideal.log1p (Ideal.exp (-max (-z - 0) (-(-z - 0)))))) (Ideal.ofBits FTy.f32 1098907648#32) = logd z := by
  have hz : Ideal.exp (-max (-z - 0) (-(-z - 0))) = Ideal.exp (0 - max z (-z)) := by
    rw [sub_zero, neg_neg, max_comm, zero_sub]
  rw [hz]
  unfold logd
  congr 1
  have hL : Re (Ideal.log1p (Ideal.exp (0 - max z (-z)))) := by
    have key (r : ℝ) (hr : 0 ≤ r) : Re (Ideal.log1p (r : EReal)) := by
      unfold Ideal.log1p
      rw [← EReal.coe_one, ← EReal.coe_add, Ideal.log_coe, if_neg (by linarith)]
      exact ⟨_, rfl⟩
    induction z using EReal.rec with
    | bot => simpa using key 0 le_rfl
    | top => simpa using key 0 le_rfl
    | coe r =>
      rw [← EReal.coe_neg, ← EReal.coe_strictMono.monotone.map_max, zero_sub, ← EReal.coe_neg, Ideal.exp_coe]
      exact key _ (Real.exp_pos _).le
  obtain ⟨L, hL⟩ := hL
  rw [hL, EReal.neg_add (Or.inr (EReal.coe_ne_top L)) (Or.inr (EReal.coe_ne_bot L))]
  congr 1
  rcases le_total z 0 with h | h
  · rw [max_eq_left (EReal.neg_nonneg.mpr h), neg_neg, min_eq_left h]
  · rw [max_eq_right (EReal.neg_le_zero.mpr h), neg_zero, min_eq_right h]

/-- A product with a split factor, where the rest of the split is zero and the rows past the 16 are zero. -/
theorem rank16 (a b b' : ℕ → EReal) (ha : ∀ x, Re (a x)) (hb : ∀ x, 16 ≤ x → b x = 0) (hb' : ∀ x, b' x = 0) :
    ∑ x : Fin 128, a x.val * b x.val + ∑ x : Fin 128, (a x.val - a x.val) * b x.val + ∑ x : Fin 128, a x.val * b' x.val
      = ∑ x : Fin 16, a x.val * b x.val := by
  simp only [(ha _).sub_self, hb', zero_mul, mul_zero, Finset.sum_const_zero, add_zero]
  rw [Fin.sum_univ_eq_sum_range (fun x => a x * b x) 128, Fin.sum_univ_eq_sum_range (fun x => a x * b x) 16]
  exact (Finset.sum_subset (Finset.range_subset_range.mpr (by decide)) fun x _ hx => by
    rw [hb x (by simpa using hx), mul_zero]).symm

end Cert.Proof.Proj
end
-- ==== Proof.Proj.Rows.lean ====
module

public import proofs.«01_k».proof.Proof.Proj.Math
public import proofs.«01_k».proof.Proof.Gen.ProjIdeal.Skeleton

@[expose] public section

set_option maxRecDepth 16384

noncomputable section

open Idealize.ShloMosaic Idealize.ShloMosaic.TcCoe Idealize.SL.Sem

/-! ## The projection call's body, one token at a time -/

namespace Cert.ProjIdeal.Hand

open Cert.ProjIdeal Cert.ProjIdeal.Gen Cert.Proof.Proj
open Cert.MergeIdeal.Hand (normed)
open Cert.Proof.Gla (select_ite)

/-- The body's normalised rows. -/
theorem pay2_apply (v0 : Vec Ideal S512x1024 .f32) (v11 : Vec Ideal S1x1024 .f32) (r : Fin 512) (d : Fin 1024) :
    k0_pay2 v0 v11 (ix2 r d) = normed (fun k => v0 (ix2 r k)) (fun k => v11 (ix2 0 k)) d := by
  pointwise [k0_pay2]
  rfl

/-- 128 lanes repeated over 512 columns, and over 256. -/
def lanes4 (f : Fin 128 → EReal) (j : Fin 512) : EReal :=
  if h : j.val < 128 then f ⟨j.val, h⟩ else if h : j.val - 128 < 128 then f ⟨j.val - 128, h⟩
  else if h : j.val - 128 - 128 < 128 then f ⟨j.val - 128 - 128, h⟩ else f ⟨j.val - 128 - 128 - 128, by omega⟩
def lanes2 (f : Fin 128 → EReal) (j : Fin 256) : EReal :=
  if h : j.val < 128 then f ⟨j.val, h⟩ else f ⟨j.val - 128, by omega⟩

theorem lanes4_eq (f : Fin 128 → EReal) (j : Fin 512) : lanes4 f j = f ⟨j.val % 128, Nat.mod_lt _ (by decide)⟩ := by
  unfold lanes4
  split_ifs <;> exact congrArg f (Fin.ext (by dsimp only; omega))
theorem lanes2_eq (f : Fin 128 → EReal) (j : Fin 256) : lanes2 f j = f ⟨j.val % 128, Nat.mod_lt _ (by decide)⟩ := by
  unfold lanes2
  split_ifs <;> exact congrArg f (Fin.ext (by dsimp only; omega))

section
variable (r : Fin 512) {h : ℕ → EReal} (hr : RealRow h) {g : Fin 64 → EReal} {c s : Fin 8 → EReal}
  {v17 v19 v21 : FVec Ideal S512x128 .f32} (ht : IsTable (fun x => v17 (ix2 r x)) (fun x => v19 (ix2 r x)) (fun x => v21 (ix2 r x)) c s)

/-- The reciprocal root mean squares of the query heads. -/
theorem pay7_row (v0 : Vec Ideal S512x1024 .f32) (v11 : Vec Ideal S1x1024 .f32) (w : Vec Ideal S512x1024 .bf16) (M : Vec Ideal S512x512 .bf16)
    (hr : RealRow h) (hh : ∀ j : Fin 512, k0_pay6 v0 v11 w (ix2 r j) = h j.val)
    (hM : ∀ x j : Fin 512, M (ix2 x j) = if x.val / 64 = j.val / 64 then ((1 / 64 : ℝ) : EReal) else 0) (j : Fin 512) :
    k0_pay7 v0 v11 w M (ix2 r j) = Ideal.rsqrt (gmean h j.val + Ideal.ofBits FTy.f32 897988541#32) := by
  pointwise [k0_pay7]
  simp only [hh]
  rw [mean_dot h hr (fun x => M (ix2 x j)) j.val (by omega) (fun x => hM x j)]

include ht in
/-- The scaled, normalised and turned queries. -/
theorem pay8_row (v24 v37 : FVec Ideal S512x512 .f32) (v39 : Vec Ideal S1x512 .f32) (h24 : ∀ j : Fin 512, v24 (ix2 r j) = h j.val)
    (h37 : ∀ j : Fin 512, v37 (ix2 r j) = Ideal.rsqrt (gmean h j.val + Ideal.ofBits FTy.f32 897988541#32))
    (hg : ∀ j : Fin 512, v39 (ix2 0 j) = g ⟨j.val % 64, Nat.mod_lt _ (by decide)⟩) (j : Fin 512) :
    k0_pay8 v17 v19 v21 v24 v37 v39 (ix2 r j) = rope (gnorm h g) c s j.val * Ideal.ofBits FTy.f32 1043900987#32 := by
  pointwise [k0_pay8]
  simp only [h24, h37, hg]
  show (gnorm h g j.val * lanes4 (fun x => v17 (ix2 r x)) j + gnorm h g ((j.val + 512 - 504) % 512) * lanes4 (fun x => v19 (ix2 r x)) j
    + gnorm h g ((j.val + 512 - 8) % 512) * lanes4 (fun x => v21 (ix2 r x)) j) * _ = _
  rw [lanes4_eq, lanes4_eq, lanes4_eq,
    turn ht (gnorm h g) j.val ⟨j.val % 128, Nat.mod_lt _ (by decide)⟩ rfl _ _ (fun _ => congrArg (gnorm h g) (by omega)) (fun _ _ => congrArg (gnorm h g) (by omega))]

/-- The normalised keys before their weights. -/
theorem pay11_row (v15 : FVec Ideal S512x1024 .bf16) (w : Vec Ideal S256x1024 .bf16) (M : Vec Ideal S256x256 .bf16)
    (hr : RealRow h) (hh : ∀ j : Fin 256, ∑ k : Fin 1024, v15 (ix2 r k) * w (ix2 j k) = h j.val)
    (hM : ∀ x j : Fin 256, M (ix2 x j) = if x.val / 64 = j.val / 64 then ((1 / 64 : ℝ) : EReal) else 0) (j : Fin 256) :
    k0_pay11 v15 w M (ix2 r j) = h j.val * Ideal.rsqrt (gmean h j.val + Ideal.ofBits FTy.f32 897988541#32) := by
  pointwise [k0_pay11]
  simp only [hh]
  rw [mean_dot h hr (fun x => M (ix2 x j)) j.val (by omega) (fun x => hM x j)]

include ht in
/-- The normalised and turned keys, laid out by column. -/
theorem pay13_row (v76 : FVec Ideal S512x256 .f32) (v77 : Vec Ideal S1x256 .f32)
    (h76 : ∀ j : Fin 256, v76 (ix2 r j) = h j.val * Ideal.rsqrt (gmean h j.val + Ideal.ofBits FTy.f32 897988541#32))
    (hg : ∀ j : Fin 256, v77 (ix2 0 j) = g ⟨j.val % 64, Nat.mod_lt _ (by decide)⟩) (j : Fin 256) :
    k0_pay13 v17 v19 v21 v76 v77 (ix3 0 j r) = rope (gnorm h g) c s j.val := by
  pointwise [k0_pay13, k0_pay12]
  simp only [h76, hg]
  show gnorm h g j.val * lanes2 (fun x => v17 (ix2 r x)) j + gnorm h g ((j.val + 256 - 248) % 256) * lanes2 (fun x => v19 (ix2 r x)) j
    + gnorm h g ((j.val + 256 - 8) % 256) * lanes2 (fun x => v21 (ix2 r x)) j = _
  rw [lanes2_eq, lanes2_eq, lanes2_eq,
    turn ht (gnorm h g) j.val ⟨j.val % 128, Nat.mod_lt _ (by decide)⟩ rfl _ _ (fun _ => congrArg (gnorm h g) (by omega)) (fun _ _ => congrArg (gnorm h g) (by omega))]

include ht in
/-- The turned index queries. -/
theorem pay28_row (v15 : FVec Ideal S512x1024 .bf16) (w : Vec Ideal S256x1024 .bf16)
    (hh : ∀ j : Fin 256, ∑ k : Fin 1024, v15 (ix2 r k) * w (ix2 j k) = h j.val) (j : Fin 256) :
    k0_pay28 v15 v17 v19 v21 w (ix2 r j) = rope h c s j.val := by
  pointwise [k0_pay28, k0_pay27]
  simp only [hh]
  show h j.val * lanes2 (fun x => v17 (ix2 r x)) j + h ((j.val + 256 - 248) % 256) * lanes2 (fun x => v19 (ix2 r x)) j
    + h ((j.val + 256 - 8) % 256) * lanes2 (fun x => v21 (ix2 r x)) j = _
  rw [lanes2_eq, lanes2_eq, lanes2_eq,
    turn ht h j.val ⟨j.val % 128, Nat.mod_lt _ (by decide)⟩ rfl _ _ (fun _ => congrArg h (by omega)) (fun _ _ => congrArg h (by omega))]

theorem slt_iff (x : Fin 128) : IntOp.cmpi CmpIPredicate.slt (BitVec.ofNat 32 x.val) 64#32 = if x.val < 64 then 1#1 else 0#1 := by
  revert x; decide
theorem slt_iff' (x : Fin 64) : IntOp.cmpi CmpIPredicate.slt (BitVec.ofNat 32 x.val) 64#32 = if x.val < 64 then 1#1 else 0#1 := by
  revert x; decide

/-- The normalised index keys: the lanes past the 64 are masked. -/
theorem pay34_row (v180 : FVec Ideal S512x128 .f32) (M : Vec Ideal S128x128 .bf16) (v208 : Vec Ideal S1x128 .f32)
    (hr : RealRow h) (hh : ∀ j : Fin 128, j.val < 64 → v180 (ix2 r j) = h j.val)
    (hM : ∀ x j : Fin 128, M (ix2 x j) = if x.val / 64 = j.val / 64 then ((1 / 64 : ℝ) : EReal) else 0)
    (hg : ∀ j : Fin 128, j.val < 64 → v208 (ix2 0 j) = g ⟨j.val % 64, Nat.mod_lt _ (by decide)⟩) (j : Fin 128) (hj : j.val < 64) :
    k0_pay34 v180 M v208 (ix2 r j) = gnorm h g j.val := by
  have hm : RealRow fun x => if x < 64 then h x else 0 := fun x => by
    dsimp only; split_ifs
    · exact hr x
    · exact ⟨0, rfl⟩
  have e (x : Fin 128) : (if x.val < 64 then if x.val < 64 then v180 (ix2 r x) * v180 (ix2 r x) else 0 else 0)
      = (if x.val < 64 then h x.val else 0) * (if x.val < 64 then h x.val else 0) := by
    split_ifs with hx
    · rw [hh x hx]
    · rw [mul_zero]
  have e' (x : Fin 128) : (if x.val < 64 then if x.val < 64 then v180 (ix2 r x) * v180 (ix2 r x) * M (ix2 x j) else 0 else 0)
      = (if x.val < 64 then h x.val else 0) * (if x.val < 64 then h x.val else 0) * M (ix2 x j) := by
    rw [← e]; split_ifs
    · rfl
    · rw [zero_mul]
  pointwise [k0_pay34, k0_pay33]
  simp only [slt_iff, select_ite, e, e']
  rw [if_pos hj, hh j hj, hg j hj, mean_dot (fun x => if x < 64 then h x else 0) hm (fun x => M (ix2 x j)) j.val (by omega) (fun x => hM x j)]
  unfold gnorm
  congr 4
  unfold gmean
  congr 1
  refine Finset.sum_congr rfl fun x _ => ?_
  dsimp only
  rw [if_pos (by omega)]

include ht in
/-- The normalised and turned index keys, laid out by column. -/
theorem pay38_row (v180 : FVec Ideal S512x128 .f32) (M : Vec Ideal S128x128 .bf16) (v208 : Vec Ideal S1x128 .f32)
    (hy : ∀ j : Fin 128, j.val < 64 → k0_pay34 v180 M v208 (ix2 r j) = gnorm h g j.val) (j : Fin 64) :
    k0_pay38 (k0_pay35 v17 v19 v180 M v208) (k0_pay36 v21 v180 M v208) (ix3 0 j r) = rope (gnorm h g) c s j.val := by
  pointwise [k0_pay38, k0_pay37, k0_pay35, k0_pay36, k0_pay33]
  simp only [slt_iff', select_ite]
  rw [if_pos j.isLt, if_pos j.isLt, if_pos j.isLt, hy _ j.isLt]
  exact turn ht (gnorm h g) j.val ⟨j.val, by omega⟩ (by show j.val = _; omega) _ _
    (fun _ => (hy _ (by show (j.val + 128 - 120) % 128 < 64; omega)).trans (congrArg (gnorm h g) (by show (j.val + 128 - 120) % 128 = _; omega)))
    (fun _ _ => (hy _ (by show (j.val + 128 - 8) % 128 < 64; omega)).trans (congrArg (gnorm h g) (by show (j.val + 128 - 8) % 128 = _; omega)))

/-- The log decays. -/
theorem pay46_row (v15 : FVec Ideal S512x1024 .bf16) (w : Vec Ideal S128x1024 .bf16) (wh wl : Vec Ideal S128x256 .bf16) (ba : Vec Ideal S1x256 .f32) (j : Fin 256)
    (hr : RealRow h) (hh : ∀ x : Fin 128, ∑ k : Fin 1024, v15 (ix2 r k) * w (ix2 x k) = h x.val) (b : ℕ → EReal) (hb : ∀ x, 16 ≤ x → b x = 0)
    (hwh : ∀ x : Fin 128, wh (ix2 x j) = b x.val) (hwl : ∀ x : Fin 128, wl (ix2 x j) = 0) :
    k0_pay46 (k0_pay44 v15 w) (k0_pay45 v15 w) wh wh wl ba (ix2 r j) = logd (∑ x : Fin 16, h x.val * b x.val + ba (ix2 0 j)) := by
  pointwise [k0_pay46, k0_pay45, k0_pay44, k0_pay43]
  simp only [hh, hwh, hwl]
  rw [rank16 h b (fun _ => 0) hr hb (fun _ => rfl)]
  rfl
end

end Cert.ProjIdeal.Hand
end
-- ==== Proof.Proj.Body.lean ====
module

public import proofs.«01_k».proof.Proof.Proj.Rows
public import proofs.«01_k».proof.Proof.Proj.Frame

@[expose] public section

set_option maxRecDepth 16384

noncomputable section

open Idealize.ShloMosaic Idealize.ShloMosaic.TcCoe Idealize.SL.Sem

/-! ## The projection call: what one row of each output block holds, whatever the blocks it reads are -/

namespace Cert.ProjIdeal.Hand

open Cert.ProjIdeal Cert.ProjIdeal.Gen Cert.Proof.Proj
open Cert.MergeIdeal.Hand (normed)

theorem hz : (![0, 0] : Fin 2 → Nat) = fun _ => 0 := funext fun a => by fin_cases a <;> rfl
theorem hz3 : (![0, 0, 0] : Fin 3 → Nat) = fun _ => 0 := funext fun a => by fin_cases a <;> rfl

/-- What the blocks hold of token row `r`: `n` is its normalised row, `W` the weights, `c` and `s` its rotary cosines and sines. -/
structure Blk (x0 : Vec Ideal S512x1024 .f32) (x1 : Vec Ideal S1x1024 .f32) (x2 : Vec Ideal S5120x1024 .bf16) (x3 : Vec Ideal S1x512 .f32) (x4 : Vec Ideal S1x256 .f32)
    (x5 : Vec Ideal S1x128 .f32) (x6 x7 : Vec Ideal S128x256 .bf16) (x8 : Vec Ideal S1x256 .f32) (x9 : Vec Ideal S512x384 .f32) (x10 : Vec Ideal S512x512 .bf16)
    (r : Fin 512) (n : Fin 1024 → EReal) (W : S1024x4948.Idx → EReal) (c s : Fin 8 → EReal) (qg kg ig : Fin 64 → EReal) (wa : S16x256.Idx → EReal) (ba : Fin 256 → EReal) : Prop where
  row : ∀ k, normed (fun k => x0 (ix2 r k)) (fun k => x1 (ix2 0 k)) k = n k
  real : RealRow (proj n W)
  one : ∀ (x : Fin 128) (j : Fin 384), j.val = 0 + x.val → (x9 (ix2 r j) : EReal) = if x.val % 64 < 16 then c ⟨x.val % 8, Nat.mod_lt _ (by decide)⟩ else 1
  sa : ∀ (x : Fin 128) (j : Fin 384), j.val = 128 + x.val → (x9 (ix2 r j) : EReal) = if x.val % 64 < 8 then -s ⟨x.val % 8, Nat.mod_lt _ (by decide)⟩ else 0
  sb : ∀ (x : Fin 128) (j : Fin 384), j.val = 256 + x.val →
    (x9 (ix2 r j) : EReal) = if x.val % 64 < 8 then 0 else if x.val % 64 < 16 then s ⟨x.val % 8, Nat.mod_lt _ (by decide)⟩ else 0
  avg : ∀ x j : Fin 512, (x10 (ix2 x j) : EReal) = if x.val / 64 = j.val / 64 then ((1 / 64 : ℝ) : EReal) else 0
  qgain : ∀ k : Fin 512, (x3 (ix2 0 k) : EReal) = qg ⟨k.val % 64, Nat.mod_lt _ (by decide)⟩
  kgain : ∀ k : Fin 256, (x4 (ix2 0 k) : EReal) = kg ⟨k.val % 64, Nat.mod_lt _ (by decide)⟩
  igain : ∀ k : Fin 128, k.val < 64 → (x5 (ix2 0 k) : EReal) = ig ⟨k.val % 64, Nat.mod_lt _ (by decide)⟩
  rank : ∀ (x : Fin 128) (j : Fin 256), (x6 (ix2 x j) : EReal) = if h : x.val < 16 then wa (ix2 ⟨x.val, h⟩ j) else 0
  rest : ∀ (x : Fin 128) (j : Fin 256), (x7 (ix2 x j) : EReal) = 0
  bias : ∀ j : Fin 256, (x8 (ix2 0 j) : EReal) = ba j
  wq : ∀ (j : Fin 512) (k : Fin 1024) (i : Fin 5120), i.val = 0 + j.val → (x2 (ix2 i k) : EReal) = W (ix2 k ⟨0 + j.val, by omega⟩)
  wk : ∀ (j : Fin 256) (k : Fin 1024) (i : Fin 5120), i.val = 512 + j.val → (x2 (ix2 i k) : EReal) = W (ix2 k ⟨512 + j.val, by omega⟩)
  wv : ∀ (j : Fin 256) (k : Fin 1024) (i : Fin 5120), i.val = 768 + j.val → (x2 (ix2 i k) : EReal) = W (ix2 k ⟨768 + j.val, by omega⟩)
  wqi : ∀ (j : Fin 256) (k : Fin 1024) (i : Fin 5120), i.val = 1024 + j.val → (x2 (ix2 i k) : EReal) = W (ix2 k ⟨1024 + j.val, by omega⟩)
  wki : ∀ (j : Fin 64) (k : Fin 1024) (i : Fin 5120), i.val = 1280 + j.val → (x2 (ix2 i k) : EReal) = W (ix2 k ⟨1280 + j.val, by omega⟩)
  wgq : ∀ (j : Fin 256) (k : Fin 1024) (i : Fin 5120), i.val = 1408 + j.val → (x2 (ix2 i k) : EReal) = W (ix2 k ⟨1348 + j.val, by omega⟩)
  wgk : ∀ (j : Fin 256) (k : Fin 1024) (i : Fin 5120), i.val = 1664 + j.val → (x2 (ix2 i k) : EReal) = W (ix2 k ⟨1604 + j.val, by omega⟩)
  wgv : ∀ (j : Fin 512) (k : Fin 1024) (i : Fin 5120), i.val = 1920 + j.val → (x2 (ix2 i k) : EReal) = W (ix2 k ⟨1860 + j.val, by omega⟩)
  wl : ∀ (j : Fin 16) (k : Fin 1024) (i : Fin 5120), i.val = 2432 + j.val → (x2 (ix2 i k) : EReal) = W (ix2 k ⟨2372 + j.val, by omega⟩)
  wl0 : ∀ (j : Fin 112) (k : Fin 1024) (i : Fin 5120), i.val = 2448 + j.val → (x2 (ix2 i k) : EReal) = 0
  wr : ∀ (j : Fin 512) (k : Fin 1024) (i : Fin 5120), i.val = 2560 + j.val → (x2 (ix2 i k) : EReal) = W (ix2 k ⟨2388 + j.val, by omega⟩)
  wga : ∀ (j : Fin 1024) (k : Fin 1024) (i : Fin 5120), i.val = 3072 + j.val → (x2 (ix2 i k) : EReal) = W (ix2 k ⟨2900 + j.val, by omega⟩)
  wgb : ∀ (j : Fin 1024) (k : Fin 1024) (i : Fin 5120), i.val = 4096 + j.val → (x2 (ix2 i k) : EReal) = W (ix2 k ⟨3924 + j.val, by omega⟩)

/-- The rows of the packed weights from row `P` on. -/
theorem ld_rows (x2 : Vec Ideal S5120x1024 .bf16) (P : ℕ) (n : ℕ) (inb : ∀ a, (![P, 0] : Fin 2 → ℕ) a + (⟨2, ![n, 1024]⟩ : Shape).size a ≤ S5120x1024.size a)
    (j : Fin n) (k : Fin 1024) (i : Fin 5120) (hi : i.val = P + j.val) :
    (View.ld x2 (Rect.unit (s := S5120x1024) ![P, 0] (⟨2, ![n, 1024]⟩ : Shape).size inb) : Vec Ideal ⟨2, ![n, 1024]⟩ .bf16) (ix2 j k) = x2 (ix2 i k) :=
  View.ld_unit_apply_of (Val := Elt Ideal) (e := .bf16) x2 _ _ _ _ _ fun a => by
    match a with
    | ⟨0, _⟩ => exact hi
    | ⟨1, _⟩ => exact (Nat.zero_add _).symm

/-- The 128 columns of the rotary table from column `P` on. -/
theorem ld_table (x9 : Vec Ideal S512x384 .f32) (P : ℕ) (inb : ∀ a, (![0, P] : Fin 2 → ℕ) a + S512x128.size a ≤ S512x384.size a)
    (r : Fin 512) (x : Fin 128) (j : Fin 384) (hj : j.val = P + x.val) :
    (View.ld x9 (Rect.unit (s := S512x384) ![0, P] S512x128.size inb) : Vec Ideal S512x128 .f32) (ix2 r x) = x9 (ix2 r j) :=
  View.ld_unit_apply_of (Val := Elt Ideal) (e := .f32) x9 _ _ _ _ _ fun a => by
    match a with
    | ⟨0, _⟩ => exact (Nat.zero_add _).symm
    | ⟨1, _⟩ => exact hj

/-- A corner of the averaging matrix. -/
theorem ld_corner (x10 : Vec Ideal S512x512 .bf16) (n : ℕ) (inb : ∀ a, (![0, 0] : Fin 2 → ℕ) a + (⟨2, ![n, n]⟩ : Shape).size a ≤ S512x512.size a)
    (x j : Fin n) (x' j' : Fin 512) (hx : x'.val = x.val) (hj : j'.val = j.val) :
    (View.ld x10 (Rect.unit (s := S512x512) ![0, 0] (⟨2, ![n, n]⟩ : Shape).size inb) : Vec Ideal ⟨2, ![n, n]⟩ .bf16) (ix2 x j) = x10 (ix2 x' j') :=
  View.ld_unit_apply_of (Val := Elt Ideal) (e := .bf16) x10 _ _ _ _ _ fun a => by
    match a with
    | ⟨0, _⟩ => exact hx.trans (Nat.zero_add _).symm
    | ⟨1, _⟩ => exact hj.trans (Nat.zero_add _).symm

theorem pay3_apply (v : Vec Ideal S512x128 .f32) (r : Fin 512) (x : Fin 128) : k0_pay3 v (ix2 r x) = v (ix2 r x) := by pointwise [k0_pay3]
theorem pay4_apply (v : Vec Ideal S512x128 .f32) (r : Fin 512) (x : Fin 128) : k0_pay4 v (ix2 r x) = v (ix2 r x) := by pointwise [k0_pay4]
theorem pay5_apply (v : Vec Ideal S512x128 .f32) (r : Fin 512) (x : Fin 128) : k0_pay5 v (ix2 r x) = v (ix2 r x) := by pointwise [k0_pay5]

section
variable (v15 : FVec Ideal S512x1024 .bf16) (r : Fin 512)
theorem pay6_apply (v0 : Vec Ideal S512x1024 .f32) (v11 : Vec Ideal S1x1024 .f32) (w : Vec Ideal S512x1024 .bf16) (j : Fin 512) :
    k0_pay6 v0 v11 w (ix2 r j) = ∑ k : Fin 1024, k0_pay2 v0 v11 (ix2 r k) * w (ix2 j k) := by pointwise [k0_pay6]
theorem pay21_apply (w : Vec Ideal S256x1024 .bf16) (j : Fin 256) : k0_pay21 v15 w (ix3 0 j r) = ∑ k : Fin 1024, v15 (ix2 r k) * w (ix2 j k) := by
  pointwise [k0_pay21, k0_pay20]
theorem pay30_apply (w : Vec Ideal S128x1024 .bf16) (j : Fin 128) : k0_pay30 v15 w (ix2 r j) = ∑ k : Fin 1024, v15 (ix2 r k) * w (ix2 j k) := by pointwise [k0_pay30]
theorem pay40_apply (w : Vec Ideal S256x1024 .bf16) (j : Fin 256) :
    k0_pay40 v15 w (ix2 r j) = (∑ k : Fin 1024, v15 (ix2 r k) * w (ix2 j k)) * Ideal.ofBits FTy.f32 1040187392#32 := by pointwise [k0_pay40]
theorem pay41_apply (w : Vec Ideal S256x1024 .bf16) (j : Fin 256) : k0_pay41 v15 w (ix2 r j) = ∑ k : Fin 1024, v15 (ix2 r k) * w (ix2 j k) := by pointwise [k0_pay41]
theorem pay42_apply (w : Vec Ideal S512x1024 .bf16) (j : Fin 512) : k0_pay42 v15 w (ix2 r j) = ∑ k : Fin 1024, v15 (ix2 r k) * w (ix2 j k) := by pointwise [k0_pay42]
theorem pay47_apply (w : Vec Ideal S512x1024 .bf16) (j : Fin 512) : k0_pay47 v15 w (ix2 r j) = ∑ k : Fin 1024, v15 (ix2 r k) * w (ix2 j k) := by pointwise [k0_pay47]
theorem pay48_apply (w : Vec Ideal S1024x1024 .bf16) (j : Fin 1024) : k0_pay48 v15 w (ix2 r j) = ∑ k : Fin 1024, v15 (ix2 r k) * w (ix2 j k) := by pointwise [k0_pay48]
theorem pay1_apply (w : Vec Ideal S1024x1024 .bf16) (j : Fin 1024) : k0_pay1 v15 w (ix2 r j) = ∑ k : Fin 1024, v15 (ix2 r k) * w (ix2 j k) := by pointwise [k0_pay1]
end

/-- A normalised row against one column of the weights. -/
theorem dot {n : Fin 1024 → EReal} {W : S1024x4948.Idx → EReal} {v w : Fin 1024 → EReal} (hv : ∀ k, v k = n k) (J : ℕ) (hJ : J < 4948)
    (hw : ∀ k, w k = W (ix2 k ⟨J, hJ⟩)) : ∑ k : Fin 1024, v k * w k = proj n W J := by
  unfold proj
  rw [dif_pos hJ]
  exact Finset.sum_congr rfl fun k _ => by rw [hv, hw]

namespace Blk

variable {x0 : Vec Ideal S512x1024 .f32} {x1 : Vec Ideal S1x1024 .f32} {x2 : Vec Ideal S5120x1024 .bf16} {x3 : Vec Ideal S1x512 .f32} {x4 : Vec Ideal S1x256 .f32}
    {x5 : Vec Ideal S1x128 .f32} {x6 x7 : Vec Ideal S128x256 .bf16} {x8 : Vec Ideal S1x256 .f32} {x9 : Vec Ideal S512x384 .f32} {x10 : Vec Ideal S512x512 .bf16}
    {r : Fin 512} {n : Fin 1024 → EReal} {W : S1024x4948.Idx → EReal} {c s : Fin 8 → EReal} {qg kg ig : Fin 64 → EReal} {wa : S16x256.Idx → EReal} {ba : Fin 256 → EReal}
    (h : Blk x0 x1 x2 x3 x4 x5 x6 x7 x8 x9 x10 r n W c s qg kg ig wa ba)
include h

theorem realFrom (O : ℕ) : RealRow fun j => proj n W (O + j) := fun j => h.real (O + j)

/-- The normalised row. -/
theorem norm (k : Fin 1024) : k0_pay2 (View.ld x0 r0_0) (View.ld x1 r0_1) (ix2 r k) = n k := by
  rw [View.ld_unit_zero (S := S512x1024) hz, View.ld_unit_zero (S := S1x1024) hz]
  exact (pay2_apply _ _ r k).trans (h.row k)

/-- The table. -/
theorem table : IsTable (fun x => k0_pay3 (View.ld x9 r0_2) (ix2 r x)) (fun x => k0_pay4 (View.ld x9 r0_3) (ix2 r x)) (fun x => k0_pay5 (View.ld x9 r0_4) (ix2 r x)) c s := fun x =>
  ⟨(pay3_apply _ r x).trans ((ld_table x9 0 _ r x ⟨0 + x.val, by omega⟩ rfl).trans (h.one x _ rfl)),
    (pay4_apply _ r x).trans ((ld_table x9 128 _ r x ⟨128 + x.val, by omega⟩ rfl).trans (h.sa x _ rfl)),
    (pay5_apply _ r x).trans ((ld_table x9 256 _ r x ⟨256 + x.val, by omega⟩ rfl).trans (h.sb x _ rfl))⟩

/-- The columns of one head group through the weights. -/
theorem dq (j : Fin 512) : k0_pay6 (View.ld x0 r0_0) (View.ld x1 r0_1) (View.ld x2 r0_5) (ix2 r j) = proj n W (0 + j.val) :=
  (pay6_apply r _ _ _ j).trans (dot h.norm _ (by omega) fun k => (ld_rows x2 0 512 _ j k ⟨0 + j.val, by omega⟩ rfl).trans (h.wq j k _ rfl))

theorem q (j : Fin 512) : k0_pay9 (k0_pay50 x0 x1 x2 x3 x4 x5 x6 x7 x8 x9 x10) (k0_pay51 x0 x1 x2 x3 x4 x5 x6 x7 x8 x9 x10) (k0_pay52 x0 x1 x2 x3 x4 x5 x6 x7 x8 x9 x10)
      (k0_pay53 x0 x1 x2 x3 x4 x5 x6 x7 x8 x9 x10) (k0_pay54 x0 x1 x2 x3 x4 x5 x6 x7 x8 x9 x10) (View.ld x3 r0_7) (ix2 r j)
    = rope (gnorm (fun i => proj n W (0 + i)) qg) c s j.val * Ideal.ofBits FTy.f32 1043900987#32 := by
  unfold k0_pay54 k0_pay53 k0_pay52 k0_pay51 k0_pay50
  refine pay8_row r h.table _ _ _ h.dq (pay7_row r _ _ _ _ (h.realFrom 0) h.dq fun x j => ?_) (fun j => ?_) j
  · rw [View.ld_unit_zero (S := S512x512) hz]; exact h.avg x j
  · rw [View.ld_unit_zero (S := S1x512) hz]; exact h.qgain j

theorem k (j : Fin 256) : k0_pay13 (k0_pay50 x0 x1 x2 x3 x4 x5 x6 x7 x8 x9 x10) (k0_pay51 x0 x1 x2 x3 x4 x5 x6 x7 x8 x9 x10) (k0_pay52 x0 x1 x2 x3 x4 x5 x6 x7 x8 x9 x10)
      (k0_pay55 x0 x1 x2 x3 x4 x5 x6 x7 x8 x9 x10) (View.ld x4 r0_10) (ix3 0 j r)
    = rope (gnorm (fun i => proj n W (512 + i)) kg) c s j.val := by
  unfold k0_pay55 k0_pay52 k0_pay51 k0_pay50 k0_pay49
  refine pay13_row r h.table _ _ (pay11_row r _ _ _ (h.realFrom 512) (fun j => dot h.norm _ (by omega) fun k =>
    (ld_rows x2 512 256 _ j k ⟨512 + j.val, by omega⟩ rfl).trans (h.wk j k _ rfl)) fun x j => ?_) (fun j => ?_) j
  · exact (ld_corner x10 256 _ x j ⟨x.val, by omega⟩ ⟨j.val, by omega⟩ rfl rfl).trans (h.avg _ _)
  · rw [View.ld_unit_zero (S := S1x256) hz]; exact h.kgain j

theorem v (j : Fin 256) : k0_pay21 (k0_pay49 x0 x1 x2 x3 x4 x5 x6 x7 x8 x9 x10) (View.ld x2 r0_16) (ix3 0 j r) = proj n W (768 + j.val) := by
  unfold k0_pay49
  exact (pay21_apply _ r _ j).trans (dot h.norm _ (by omega) fun k => (ld_rows x2 768 256 _ j k ⟨768 + j.val, by omega⟩ rfl).trans (h.wv j k _ rfl))

theorem qi (j : Fin 256) : k0_pay28 (k0_pay49 x0 x1 x2 x3 x4 x5 x6 x7 x8 x9 x10) (k0_pay50 x0 x1 x2 x3 x4 x5 x6 x7 x8 x9 x10) (k0_pay51 x0 x1 x2 x3 x4 x5 x6 x7 x8 x9 x10)
      (k0_pay52 x0 x1 x2 x3 x4 x5 x6 x7 x8 x9 x10) (View.ld x2 r0_21) (ix2 r j)
    = rope (fun i => proj n W (1024 + i)) c s j.val := by
  unfold k0_pay52 k0_pay51 k0_pay50 k0_pay49
  exact pay28_row (h := fun i => proj n W (1024 + i)) r h.table _ _ (fun j => dot h.norm _ (by omega) fun k => (ld_rows x2 1024 256 _ j k ⟨1024 + j.val, by omega⟩ rfl).trans (h.wqi j k _ rfl)) j

theorem ki (j : Fin 64) : k0_pay38 (k0_pay57 x0 x1 x2 x3 x4 x5 x6 x7 x8 x9 x10) (k0_pay58 x0 x1 x2 x3 x4 x5 x6 x7 x8 x9 x10) (ix3 0 j r)
    = rope (gnorm (fun i => proj n W (1280 + i)) ig) c s j.val := by
  unfold k0_pay58 k0_pay57 k0_pay56 k0_pay52 k0_pay51 k0_pay50 k0_pay49
  refine pay38_row r h.table _ _ _ (pay34_row r _ _ _ (h.realFrom 1280) (fun j hj => (pay30_apply _ r _ j).trans (dot h.norm _ (by omega) fun k =>
    (ld_rows x2 1280 128 _ j k ⟨1280 + j.val, by omega⟩ rfl).trans (h.wki ⟨j.val, hj⟩ k _ rfl))) (fun x j => ?_) fun j hj => ?_) j
  · exact (ld_corner x10 128 _ x j ⟨x.val, by omega⟩ ⟨j.val, by omega⟩ rfl rfl).trans (h.avg _ _)
  · rw [View.ld_unit_zero (S := S1x128) hz]; exact h.igain j hj

theorem gq (j : Fin 256) : k0_pay40 (k0_pay49 x0 x1 x2 x3 x4 x5 x6 x7 x8 x9 x10) (View.ld x2 r0_31) (ix2 r j) = proj n W (1348 + j.val) * Ideal.ofBits FTy.f32 1040187392#32 := by
  unfold k0_pay49
  exact (pay40_apply _ r _ j).trans (congrArg (· * _) (dot h.norm _ (by omega) fun k => (ld_rows x2 1408 256 _ j k ⟨1408 + j.val, by omega⟩ rfl).trans (h.wgq j k _ rfl)))

theorem gk (j : Fin 256) : k0_pay41 (k0_pay49 x0 x1 x2 x3 x4 x5 x6 x7 x8 x9 x10) (View.ld x2 r0_32) (ix2 r j) = proj n W (1604 + j.val) := by
  unfold k0_pay49
  exact (pay41_apply _ r _ j).trans (dot h.norm _ (by omega) fun k => (ld_rows x2 1664 256 _ j k ⟨1664 + j.val, by omega⟩ rfl).trans (h.wgk j k _ rfl))

theorem gv (j : Fin 512) : k0_pay42 (k0_pay49 x0 x1 x2 x3 x4 x5 x6 x7 x8 x9 x10) (View.ld x2 r0_33) (ix2 r j) = proj n W (1860 + j.val) := by
  unfold k0_pay49
  exact (pay42_apply _ r _ j).trans (dot h.norm _ (by omega) fun k => (ld_rows x2 1920 512 _ j k ⟨1920 + j.val, by omega⟩ rfl).trans (h.wgv j k _ rfl))

theorem gr (j : Fin 512) : k0_pay47 (k0_pay49 x0 x1 x2 x3 x4 x5 x6 x7 x8 x9 x10) (View.ld x2 r0_36) (ix2 r j) = proj n W (2388 + j.val) := by
  unfold k0_pay49
  exact (pay47_apply _ r _ j).trans (dot h.norm _ (by omega) fun k => (ld_rows x2 2560 512 _ j k ⟨2560 + j.val, by omega⟩ rfl).trans (h.wr j k _ rfl))

theorem ga (j : Fin 1024) : k0_pay48 (k0_pay49 x0 x1 x2 x3 x4 x5 x6 x7 x8 x9 x10) (View.ld x2 r0_37) (ix2 r j) = proj n W (2900 + j.val) := by
  unfold k0_pay49
  exact (pay48_apply _ r _ j).trans (dot h.norm _ (by omega) fun k => (ld_rows x2 3072 1024 _ j k ⟨3072 + j.val, by omega⟩ rfl).trans (h.wga j k _ rfl))

theorem gb (j : Fin 1024) : k0_pay1 (k0_pay49 x0 x1 x2 x3 x4 x5 x6 x7 x8 x9 x10) (View.ld x2 r0_38) (ix2 r j) = proj n W (3924 + j.val) := by
  unfold k0_pay49
  exact (pay1_apply _ r _ j).trans (dot h.norm _ (by omega) fun k => (ld_rows x2 4096 1024 _ j k ⟨4096 + j.val, by omega⟩ rfl).trans (h.wgb j k _ rfl))

/-- The decay: the low-rank columns, zeros past the 16. -/
theorem la (j : Fin 256) : k0_pay46 (k0_pay44 (k0_pay49 x0 x1 x2 x3 x4 x5 x6 x7 x8 x9 x10) (View.ld x2 r0_34)) (k0_pay45 (k0_pay49 x0 x1 x2 x3 x4 x5 x6 x7 x8 x9 x10) (View.ld x2 r0_34))
      (View.ld x6 r0_35) (View.ld x6 r0_35) (View.ld x7 r0_35) (View.ld x8 r0_10) (ix2 r j)
    = logd (∑ x : Fin 16, proj n W (2372 + x.val) * wa (ix2 x j) + ba j) := by
  unfold k0_pay49
  rw [View.ld_unit_zero (S := S128x256) hz, View.ld_unit_zero (S := S128x256) hz, View.ld_unit_zero (S := S1x256) hz]
  refine (pay46_row r (h := fun x => if x < 16 then proj n W (2372 + x) else 0) _ _ _ _ _ j (fun x => ?_) (fun x => ?_)
    (fun x => if hx : x < 16 then wa (ix2 ⟨x, hx⟩ j) else 0) (fun x hx => dif_neg (by omega)) (fun x => h.rank x j) (fun x => h.rest x j)).trans ?_
  · try dsimp only
    split_ifs
    · exact h.real _
    · exact ⟨0, rfl⟩
  · try dsimp only
    split_ifs with hx
    · exact dot h.norm _ (by omega) fun k => (ld_rows x2 2432 128 _ x k ⟨2432 + x.val, by omega⟩ rfl).trans (h.wl ⟨x.val, hx⟩ k _ rfl)
    · refine Finset.sum_eq_zero fun k _ => ?_
      rw [show (View.ld x2 r0_34 : Vec Ideal S128x1024 .bf16) (ix2 x k) = (0 : EReal) from
        (ld_rows x2 2432 128 _ x k ⟨2432 + x.val, by omega⟩ rfl).trans (h.wl0 ⟨x.val - 16, by omega⟩ k _ (by show 2432 + x.val = 2448 + (x.val - 16); omega))]
      exact mul_zero _
  · rw [h.bias]
    refine congrArg (fun z => logd (z + ba j)) (Finset.sum_congr rfl fun x _ => ?_)
    rw [if_pos x.isLt, dif_pos x.isLt]

end Blk

end Cert.ProjIdeal.Hand
end
-- ==== Proof.Proj.Hosts.lean ====
module

public import proofs.«01_k».proof.Proof.Proj.Rows
public import proofs.«01_k».proof.Proof.Proj.Frame
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The projection call: the arrays its host code prepares -/

namespace Cert.ProjIdeal.Hand

open Cert.ProjIdeal Cert.ProjIdeal.Gen Cert.Proof.Proj

variable (m : (ℓ : Loc nD τ sig) → Buf (Elt Ideal) ℓ) (ρ : Dev nD → PrngReg)

/-- The host operations in order, and the buffers after the first `n` of them. -/
abbrev ops : List (HloOp τ sig (Elt Ideal)) := List.flatten [hostOps0, hostOps0_1, hostOps0_2]
abbrev upto (c : Dev nD) (n : ℕ) : Valuation τ sig (Elt Ideal) := StableHlo.after (ops.take n) (fun b => m (c, b))

theorem after_append (l l' : List (HloOp τ sig (Elt Ideal))) (σ : Valuation τ sig (Elt Ideal)) :
    StableHlo.after (l ++ l') σ = StableHlo.after l' (StableHlo.after l σ) := by
  induction l generalizing σ with
  | nil => rfl
  | cons o l ih => exact ih _

/-- A buffer no later operation writes holds at entry what it holds after the first `n`. -/
theorem V_upto (c : Dev nD) (n : ℕ) (b : Ref sig .tc) (h : ∀ op ∈ ops.drop n, Proc.devRef (τ := τ) .tc b ∉ op.writes) :
    V m c b = upto m c n b := by
  show StableHlo.after ops (fun b => m (c, b)) b = _
  conv_lhs => rw [← List.take_append_drop n ops, after_append]
  exact StableHlo.after_of_forall_not_mem _ _ h

theorem upto_succ (c : Dev nD) (n : ℕ) (op : HloOp τ sig (Elt Ideal)) (h : ops[n]? = some op) : upto m c (n + 1) = op.result (upto m c n) := by
  obtain ⟨hn, rfl⟩ := List.getElem?_eq_some_iff.mp h
  show StableHlo.after (ops.take (n + 1)) _ = _
  rw [← List.take_concat_get' ops n hn, after_append]
  rfl

/-! The concatenations, one step of the host line each. -/

/-- The three terms of the rotary table. -/
def terms (c : Dev nD) : List ((s : Shape) × (s.Idx → EReal)) := [⟨S4096x128, V m c main_v75⟩, ⟨S4096x128, V m c main_v78⟩, ⟨S4096x128, V m c main_v81⟩]

theorem terms_take (c : Dev nD) (n : ℕ) : ((terms m c).take n).map (·.1) = ([S4096x128, S4096x128, S4096x128] : List Shape).take n :=
  List.map_take

theorem V_v82 (c : Dev nD) : V m c main_v82 = concatenate S4096x384 1 (terms m c) concatenates_S4096x128_S4096x128_S4096x128_S4096x384_d1 := by
  unfold terms
  rw [V_upto m c 112 main_v82 (by decide +kernel), V_upto m c 111 main_v75 (by decide +kernel), V_upto m c 111 main_v78 (by decide +kernel), V_upto m c 111 main_v81 (by decide +kernel),
    upto_succ m c 111 _ rfl]
  exact StableHlo.nary_result _ _ _ _ _ _
theorem V_v66 (c : Dev nD) : V m c main_v66 = concatenate S4096x64 1 [⟨S4096x8, V m c main_v63⟩, ⟨S4096x8, V m c main_v63⟩, ⟨S4096x48, V m c main_v65⟩] concatenates_S4096x8_S4096x8_S4096x48_S4096x64_d1 := by
  rw [V_upto m c 93 main_v66 (by decide +kernel), V_upto m c 92 main_v63 (by decide +kernel), V_upto m c 92 main_v65 (by decide +kernel),
    upto_succ m c 92 _ rfl]
  exact StableHlo.nary_result _ _ _ _ _ _
theorem V_v72 (c : Dev nD) : V m c main_v72 = concatenate S4096x64 1 [⟨S4096x8, V m c main_v70⟩, ⟨S4096x8, V m c main_v64⟩, ⟨S4096x48, V m c main_v71⟩] concatenates_S4096x8_S4096x8_S4096x48_S4096x64_d1 := by
  rw [V_upto m c 102 main_v72 (by decide +kernel), V_upto m c 101 main_v70 (by decide +kernel), V_upto m c 101 main_v64 (by decide +kernel), V_upto m c 101 main_v71 (by decide +kernel),
    upto_succ m c 101 _ rfl]
  exact StableHlo.nary_result _ _ _ _ _ _
/-- The row ranges of the packed weights. -/
def pieces (c : Dev nD) : List ((s : Shape) × (s.Idx → EReal)) := [⟨S512x1024, V m c main_v1⟩, ⟨S256x1024, V m c main_v2⟩, ⟨S256x1024, V m c main_v3⟩, ⟨S256x1024, V m c main_v4⟩, ⟨S64x1024, V m c main_v5⟩, ⟨S4x1024, V m c main_v6⟩, ⟨S60x1024, V m c main_v14⟩, ⟨S256x1024, V m c main_v7⟩, ⟨S256x1024, V m c main_v8⟩, ⟨S512x1024, V m c main_v9⟩, ⟨S16x1024, V m c main_v10⟩, ⟨S112x1024, V m c main_v15⟩, ⟨S512x1024, V m c main_v11⟩, ⟨S1024x1024, V m c main_v12⟩, ⟨S1024x1024, V m c main_v13⟩]

theorem pieces_take (c : Dev nD) (n : ℕ) : ((pieces m c).take n).map (·.1) = ([S512x1024, S256x1024, S256x1024, S256x1024, S64x1024, S4x1024, S60x1024, S256x1024, S256x1024, S512x1024, S16x1024, S112x1024, S512x1024, S1024x1024, S1024x1024] : List Shape).take n :=
  List.map_take

theorem V_v16 (c : Dev nD) : V m c main_v16 = concatenate S5120x1024 0 (pieces m c) concatenates_S512x1024_S256x1024_S256x1024_S256x1024_S64x1024_S4x1024_S60x1024_S256x1024_S256x1024_S512x1024_S16x1024_S112x1024_S512x1024_S1024x1024_S1024x1024_S5120x1024_d0 := by
  unfold pieces
  rw [V_upto m c 19 main_v16 (by decide +kernel), V_upto m c 18 main_v1 (by decide +kernel), V_upto m c 18 main_v2 (by decide +kernel), V_upto m c 18 main_v3 (by decide +kernel), V_upto m c 18 main_v4 (by decide +kernel), V_upto m c 18 main_v5 (by decide +kernel), V_upto m c 18 main_v6 (by decide +kernel), V_upto m c 18 main_v14 (by decide +kernel), V_upto m c 18 main_v7 (by decide +kernel), V_upto m c 18 main_v8 (by decide +kernel), V_upto m c 18 main_v9 (by decide +kernel), V_upto m c 18 main_v10 (by decide +kernel), V_upto m c 18 main_v15 (by decide +kernel), V_upto m c 18 main_v11 (by decide +kernel), V_upto m c 18 main_v12 (by decide +kernel), V_upto m c 18 main_v13 (by decide +kernel), upto_succ m c 18 _ rfl]
  exact StableHlo.nary_result _ _ _ _ _ _
theorem V_v17 (c : Dev nD) : V m c main_v17 = truncf (F := Ideal) .bf16 (V m c main_v16) bitsLt_bf16_f32 := by
  rw [V_upto m c 20 main_v17 (by decide +kernel), V_upto m c 19 main_v16 (by decide +kernel), upto_succ m c 19 _ rfl]
  exact StableHlo.unary_result _ _ _ _ _ _
theorem V_v73 (c : Dev nD) : V m c main_v73 = shapeCast S1x4096x1x64 (V m c main_v66) shapeCasts_S4096x64_S1x4096x1x64 := by
  rw [V_upto m c 103 main_v73 (by decide +kernel), V_upto m c 102 main_v66 (by decide +kernel), upto_succ m c 102 _ rfl]
  exact StableHlo.reshape_result _ _ _ _ _ _ _
theorem V_v74 (c : Dev nD) : V m c main_v74 = broadcastInDim S1x4096x2x64 ![0, 1, 2, 3] bcast_S1x4096x1x64_S1x4096x2x64_0_1_2_3 (V m c main_v73) := by
  rw [V_upto m c 104 main_v74 (by decide +kernel), V_upto m c 103 main_v73 (by decide +kernel), upto_succ m c 103 _ rfl]
  exact StableHlo.unary_result _ _ _ _ _ _
theorem V_v75 (c : Dev nD) : V m c main_v75 = shapeCast S4096x128 (V m c main_v74) shapeCasts_S1x4096x2x64_S4096x128 := by
  rw [V_upto m c 105 main_v75 (by decide +kernel), V_upto m c 104 main_v74 (by decide +kernel), upto_succ m c 104 _ rfl]
  exact StableHlo.reshape_result _ _ _ _ _ _ _
theorem V_v79 (c : Dev nD) : V m c main_v79 = shapeCast S1x4096x1x64 (V m c main_v72) shapeCasts_S4096x64_S1x4096x1x64 := by
  rw [V_upto m c 109 main_v79 (by decide +kernel), V_upto m c 108 main_v72 (by decide +kernel), upto_succ m c 108 _ rfl]
  exact StableHlo.reshape_result _ _ _ _ _ _ _
theorem V_v80 (c : Dev nD) : V m c main_v80 = broadcastInDim S1x4096x2x64 ![0, 1, 2, 3] bcast_S1x4096x1x64_S1x4096x2x64_0_1_2_3 (V m c main_v79) := by
  rw [V_upto m c 110 main_v80 (by decide +kernel), V_upto m c 109 main_v79 (by decide +kernel), upto_succ m c 109 _ rfl]
  exact StableHlo.unary_result _ _ _ _ _ _
theorem V_v81 (c : Dev nD) : V m c main_v81 = shapeCast S4096x128 (V m c main_v80) shapeCasts_S1x4096x2x64_S4096x128 := by
  rw [V_upto m c 111 main_v81 (by decide +kernel), V_upto m c 110 main_v80 (by decide +kernel), upto_succ m c 110 _ rfl]
  exact StableHlo.reshape_result _ _ _ _ _ _ _

end Cert.ProjIdeal.Hand
end
-- ==== Proof.Proj.HostsTable.lean ====
module

public import proofs.«01_k».proof.Proof.Proj.Rows
public import proofs.«01_k».proof.Proof.Proj.Hosts
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The projection call: the arrays its host code prepares -/

namespace Cert.ProjIdeal.Hand

open Cert.ProjIdeal Cert.ProjIdeal.Gen Cert.Proof.Proj

variable (m : (ℓ : Loc nD τ sig) → Buf (Elt Ideal) ℓ) (ρ : Dev nD → PrngReg)

/-- The rotary angle of position `t` at frequency `i`. -/
def ang (t : ℕ) (i : Fin 8) : EReal :=
  FloatOps.sitofp (F := Ideal) FTy.f32 (BitVec.ofNat 32 t) * Ideal.pow (Ideal.ofBits FTy.f32 1223959552#32)
    (Ideal.div (-FloatOps.sitofp (F := Ideal) FTy.f32 (BitVec.ofNat 32 i.val) * Ideal.ofBits FTy.f32 1073741824#32) (Ideal.ofBits FTy.f32 1098907648#32))

theorem at_v63 (c : Dev nD) (t : Fin 4096) (i : Fin 8) : (V m c main_v63 (ix2 t i) : EReal) = Ideal.cos (ang t.val i) := by
  unfold V
  simp only [hostOps0, hostOps0_1, hostOps0_2, List.flatten_cons, List.flatten_nil, List.append_nil, List.cons_append, List.nil_append]
  entry_read
  pointwise
  rfl
theorem at_v64 (c : Dev nD) (t : Fin 4096) (i : Fin 8) : (V m c main_v64 (ix2 t i) : EReal) = Ideal.sin (ang t.val i) := by
  unfold V
  simp only [hostOps0, hostOps0_1, hostOps0_2, List.flatten_cons, List.flatten_nil, List.append_nil, List.cons_append, List.nil_append]
  entry_read
  pointwise
  rfl
theorem at_v65 (c : Dev nD) (t : Fin 4096) (i : Fin 48) : (V m c main_v65 (ix2 t i) : EReal) = (1 : EReal) := by
  unfold V
  simp only [hostOps0, hostOps0_1, hostOps0_2, List.flatten_cons, List.flatten_nil, List.append_nil, List.cons_append, List.nil_append]
  entry_read
  pointwise
theorem at_v70 (c : Dev nD) (t : Fin 4096) (i : Fin 8) : (V m c main_v70 (ix2 t i) : EReal) = (0 : EReal) := by
  unfold V
  simp only [hostOps0, hostOps0_1, hostOps0_2, List.flatten_cons, List.flatten_nil, List.append_nil, List.cons_append, List.nil_append]
  entry_read
  pointwise
theorem at_v71 (c : Dev nD) (t : Fin 4096) (i : Fin 48) : (V m c main_v71 (ix2 t i) : EReal) = (0 : EReal) := by
  unfold V
  simp only [hostOps0, hostOps0_1, hostOps0_2, List.flatten_cons, List.flatten_nil, List.append_nil, List.cons_append, List.nil_append]
  entry_read
  pointwise

/-- One head's columns repeated for two heads. -/
theorem tile (w : S4096x64.Idx → EReal) (t : Fin 4096) (x : Fin 128) :
    (shapeCast S4096x128 (broadcastInDim S1x4096x2x64 ![0, 1, 2, 3] bcast_S1x4096x1x64_S1x4096x2x64_0_1_2_3 (shapeCast S1x4096x1x64 w shapeCasts_S4096x64_S1x4096x1x64))
      shapeCasts_S1x4096x2x64_S4096x128 (ix2 t x) : EReal) = w (ix2 t ⟨x.val % 64, Nat.mod_lt _ (by decide)⟩) := by
  pointwise

/-- The rotary columns of one head at position `t`. -/
theorem at_v66 (c : Dev nD) (t : Fin 4096) (x : Fin 64) :
    (V m c main_v66 (ix2 t x) : EReal) = if x.val < 16 then Ideal.cos (ang t.val ⟨x.val % 8, Nat.mod_lt _ (by decide)⟩) else 1 := by
  rw [V_v66]
  have h63 := at_v63 m c
  have h65 := at_v65 m c
  generalize V m c main_v63 = a at h63 ⊢
  generalize V m c main_v65 = b at h65 ⊢
  pointwise
  by_cases h1 : x.val < 8
  · refine (dif_pos h1).trans (Eq.trans ?_ (if_pos (by omega)).symm)
    exact (h63 _ _).trans (congrArg (fun i => Ideal.cos (ang t.val i)) (Fin.ext (by show x.val = x.val % 8; omega)))
  by_cases h2 : x.val - 8 < 8
  · refine ((dif_neg h1).trans (dif_pos h2)).trans (Eq.trans ?_ (if_pos (by omega)).symm)
    exact (h63 _ _).trans (congrArg (fun i => Ideal.cos (ang t.val i)) (Fin.ext (by show x.val - 8 = x.val % 8; omega)))
  · refine ((dif_neg h1).trans (dif_neg h2)).trans (Eq.trans ?_ (if_neg (by omega)).symm)
    exact h65 _ _
theorem at_v72 (c : Dev nD) (t : Fin 4096) (x : Fin 64) :
    (V m c main_v72 (ix2 t x) : EReal) = if x.val < 8 then 0 else if x.val < 16 then Ideal.sin (ang t.val ⟨x.val % 8, Nat.mod_lt _ (by decide)⟩) else 0 := by
  rw [V_v72]
  have h64 := at_v64 m c
  have h70 := at_v70 m c
  have h71 := at_v71 m c
  generalize V m c main_v64 = a at h64 ⊢
  generalize V m c main_v70 = b at h70 ⊢
  generalize V m c main_v71 = d at h71 ⊢
  pointwise
  by_cases h1 : x.val < 8
  · refine (dif_pos h1).trans (Eq.trans ?_ (if_pos h1).symm)
    exact h70 _ _
  by_cases h2 : x.val - 8 < 8
  · refine ((dif_neg h1).trans (dif_pos h2)).trans (Eq.trans ?_ ((if_neg h1).trans (if_pos (by omega))).symm)
    exact (h64 _ _).trans (congrArg (fun i => Ideal.sin (ang t.val i)) (Fin.ext (by show x.val - 8 = x.val % 8; omega)))
  · refine ((dif_neg h1).trans (dif_neg h2)).trans (Eq.trans ?_ ((if_neg h1).trans (if_neg (by omega))).symm)
    exact h71 _ _
/-- The three terms of the rotary table at position `t`. -/
theorem at_v75 (c : Dev nD) (t : Fin 4096) (x : Fin 128) :
    (V m c main_v75 (ix2 t x) : EReal) = if x.val % 64 < 16 then Ideal.cos (ang t.val ⟨x.val % 8, Nat.mod_lt _ (by decide)⟩) else 1 := by
  rw [V_v75, V_v74, V_v73]
  refine (tile _ t x).trans ((at_v66 m c t ⟨x.val % 64, Nat.mod_lt _ (by decide)⟩).trans ?_)
  exact if_congr Iff.rfl (congrArg (fun i => Ideal.cos (ang t.val i)) (Fin.ext (by show x.val % 64 % 8 = x.val % 8; omega))) rfl
set_option maxHeartbeats 1000000 in
theorem at_v78 (c : Dev nD) (t : Fin 4096) (x : Fin 128) :
    (V m c main_v78 (ix2 t x) : EReal) = if x.val % 64 < 8 then -Ideal.sin (ang t.val ⟨x.val % 8, Nat.mod_lt _ (by decide)⟩) else 0 := by
  unfold V
  simp only [hostOps0, hostOps0_1, hostOps0_2, List.flatten_cons, List.flatten_nil, List.append_nil, List.cons_append, List.nil_append]
  entry_read
  pointwise
  split_ifs with h1
  · unfold ang
    dsimp only
    rw [show x.val % 64 = x.val % 8 from by omega]
  · rfl
theorem at_v81 (c : Dev nD) (t : Fin 4096) (x : Fin 128) :
    (V m c main_v81 (ix2 t x) : EReal)
      = if x.val % 64 < 8 then 0 else if x.val % 64 < 16 then Ideal.sin (ang t.val ⟨x.val % 8, Nat.mod_lt _ (by decide)⟩) else 0 := by
  rw [V_v81, V_v80, V_v79]
  refine (tile _ t x).trans ((at_v72 m c t ⟨x.val % 64, Nat.mod_lt _ (by decide)⟩).trans ?_)
  exact if_congr Iff.rfl rfl (if_congr Iff.rfl (congrArg (fun i => Ideal.sin (ang t.val i)) (Fin.ext (by show x.val % 64 % 8 = x.val % 8; omega))) rfl)

theorem at_v82_one (c : Dev nD) (t : Fin 4096) (x : Fin 128) (j : Fin 384) (hj : j.val = x.val) : V m c main_v82 (ix2 t j) = V m c main_v75 (ix2 t x) := by
  rw [V_v82]
  exact concatenate_apply_piece (t := S4096x384) 1 (terms m c) concatenates_S4096x128_S4096x128_S4096x128_S4096x384_d1 (ix2 t j) 0 (by show 0 < 3; decide) S4096x128 (V m c main_v75) rfl rfl 0 (by rw [terms_take]; decide +kernel) (ix2 t x)
    (fun b hb => by match b with | ⟨0, _⟩ => rfl | ⟨1, _⟩ => exact absurd rfl hb) (by show 0 + x.val = j.val; omega)
theorem at_v82_sa (c : Dev nD) (t : Fin 4096) (x : Fin 128) (j : Fin 384) (hj : j.val = 128 + x.val) : V m c main_v82 (ix2 t j) = V m c main_v78 (ix2 t x) := by
  rw [V_v82]
  exact concatenate_apply_piece (t := S4096x384) 1 (terms m c) concatenates_S4096x128_S4096x128_S4096x128_S4096x384_d1 (ix2 t j) 1 (by show 1 < 3; decide) S4096x128 (V m c main_v78) rfl rfl 128 (by rw [terms_take]; decide +kernel) (ix2 t x)
    (fun b hb => by match b with | ⟨0, _⟩ => rfl | ⟨1, _⟩ => exact absurd rfl hb) (by show 128 + x.val = j.val; omega)
theorem at_v82_sb (c : Dev nD) (t : Fin 4096) (x : Fin 128) (j : Fin 384) (hj : j.val = 256 + x.val) : V m c main_v82 (ix2 t j) = V m c main_v81 (ix2 t x) := by
  rw [V_v82]
  exact concatenate_apply_piece (t := S4096x384) 1 (terms m c) concatenates_S4096x128_S4096x128_S4096x128_S4096x384_d1 (ix2 t j) 2 (by show 2 < 3; decide) S4096x128 (V m c main_v81) rfl rfl 256 (by rw [terms_take]; decide +kernel) (ix2 t x)
    (fun b hb => by match b with | ⟨0, _⟩ => rfl | ⟨1, _⟩ => exact absurd rfl hb) (by show 256 + x.val = j.val; omega)

end Cert.ProjIdeal.Hand
end
-- ==== Proof.Proj.HostsWeights.lean ====
module

public import proofs.«01_k».proof.Proof.Proj.Rows
public import proofs.«01_k».proof.Proof.Proj.Hosts
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The projection call: the arrays its host code prepares -/

namespace Cert.ProjIdeal.Hand

open Cert.ProjIdeal Cert.ProjIdeal.Gen Cert.Proof.Proj

variable (m : (ℓ : Loc nD τ sig) → Buf (Elt Ideal) ℓ) (ρ : Dev nD → PrngReg)

/-! The packed weights: each range of rows is a range of columns of `w_in`. -/

theorem at_v1 (c : Dev nD) (j : Fin 512) (k : Fin 1024) : (V m c main_v1 (ix2 j k) : EReal) = m (c.tc.loc main_arg2) (ix2 k ⟨0 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v1 (c : Dev nD) (j : Fin 512) (k : Fin 1024) (i : Fin 5120) (hi : i.val = 0 + j.val) :
    (V m c main_v17 (ix2 i k) : EReal) = m (c.tc.loc main_arg2) (ix2 k ⟨0 + j.val, by omega⟩) := by
  refine Eq.trans ?_ (at_v1 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 0 (by show 0 < 15; decide) S512x1024 (V m c main_v1) rfl rfl 0 (by rw [pieces_take]; decide +kernel) (ix2 j k)
    (fun b hb => by match b with | ⟨0, _⟩ => exact absurd rfl hb | ⟨1, _⟩ => rfl) (by show 0 + j.val = i.val; omega)
theorem at_v2 (c : Dev nD) (j : Fin 256) (k : Fin 1024) : (V m c main_v2 (ix2 j k) : EReal) = m (c.tc.loc main_arg2) (ix2 k ⟨512 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v2 (c : Dev nD) (j : Fin 256) (k : Fin 1024) (i : Fin 5120) (hi : i.val = 512 + j.val) :
    (V m c main_v17 (ix2 i k) : EReal) = m (c.tc.loc main_arg2) (ix2 k ⟨512 + j.val, by omega⟩) := by
  refine Eq.trans ?_ (at_v2 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 1 (by show 1 < 15; decide) S256x1024 (V m c main_v2) rfl rfl 512 (by rw [pieces_take]; decide +kernel) (ix2 j k)
    (fun b hb => by match b with | ⟨0, _⟩ => exact absurd rfl hb | ⟨1, _⟩ => rfl) (by show 512 + j.val = i.val; omega)
theorem at_v3 (c : Dev nD) (j : Fin 256) (k : Fin 1024) : (V m c main_v3 (ix2 j k) : EReal) = m (c.tc.loc main_arg2) (ix2 k ⟨768 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v3 (c : Dev nD) (j : Fin 256) (k : Fin 1024) (i : Fin 5120) (hi : i.val = 768 + j.val) :
    (V m c main_v17 (ix2 i k) : EReal) = m (c.tc.loc main_arg2) (ix2 k ⟨768 + j.val, by omega⟩) := by
  refine Eq.trans ?_ (at_v3 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 2 (by show 2 < 15; decide) S256x1024 (V m c main_v3) rfl rfl 768 (by rw [pieces_take]; decide +kernel) (ix2 j k)
    (fun b hb => by match b with | ⟨0, _⟩ => exact absurd rfl hb | ⟨1, _⟩ => rfl) (by show 768 + j.val = i.val; omega)
theorem at_v4 (c : Dev nD) (j : Fin 256) (k : Fin 1024) : (V m c main_v4 (ix2 j k) : EReal) = m (c.tc.loc main_arg2) (ix2 k ⟨1024 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v4 (c : Dev nD) (j : Fin 256) (k : Fin 1024) (i : Fin 5120) (hi : i.val = 1024 + j.val) :
    (V m c main_v17 (ix2 i k) : EReal) = m (c.tc.loc main_arg2) (ix2 k ⟨1024 + j.val, by omega⟩) := by
  refine Eq.trans ?_ (at_v4 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 3 (by show 3 < 15; decide) S256x1024 (V m c main_v4) rfl rfl 1024 (by rw [pieces_take]; decide +kernel) (ix2 j k)
    (fun b hb => by match b with | ⟨0, _⟩ => exact absurd rfl hb | ⟨1, _⟩ => rfl) (by show 1024 + j.val = i.val; omega)
theorem at_v5 (c : Dev nD) (j : Fin 64) (k : Fin 1024) : (V m c main_v5 (ix2 j k) : EReal) = m (c.tc.loc main_arg2) (ix2 k ⟨1280 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v5 (c : Dev nD) (j : Fin 64) (k : Fin 1024) (i : Fin 5120) (hi : i.val = 1280 + j.val) :
    (V m c main_v17 (ix2 i k) : EReal) = m (c.tc.loc main_arg2) (ix2 k ⟨1280 + j.val, by omega⟩) := by
  refine Eq.trans ?_ (at_v5 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 4 (by show 4 < 15; decide) S64x1024 (V m c main_v5) rfl rfl 1280 (by rw [pieces_take]; decide +kernel) (ix2 j k)
    (fun b hb => by match b with | ⟨0, _⟩ => exact absurd rfl hb | ⟨1, _⟩ => rfl) (by show 1280 + j.val = i.val; omega)
theorem at_v7 (c : Dev nD) (j : Fin 256) (k : Fin 1024) : (V m c main_v7 (ix2 j k) : EReal) = m (c.tc.loc main_arg2) (ix2 k ⟨1348 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v7 (c : Dev nD) (j : Fin 256) (k : Fin 1024) (i : Fin 5120) (hi : i.val = 1408 + j.val) :
    (V m c main_v17 (ix2 i k) : EReal) = m (c.tc.loc main_arg2) (ix2 k ⟨1348 + j.val, by omega⟩) := by
  refine Eq.trans ?_ (at_v7 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 7 (by show 7 < 15; decide) S256x1024 (V m c main_v7) rfl rfl 1408 (by rw [pieces_take]; decide +kernel) (ix2 j k)
    (fun b hb => by match b with | ⟨0, _⟩ => exact absurd rfl hb | ⟨1, _⟩ => rfl) (by show 1408 + j.val = i.val; omega)
theorem at_v8 (c : Dev nD) (j : Fin 256) (k : Fin 1024) : (V m c main_v8 (ix2 j k) : EReal) = m (c.tc.loc main_arg2) (ix2 k ⟨1604 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v8 (c : Dev nD) (j : Fin 256) (k : Fin 1024) (i : Fin 5120) (hi : i.val = 1664 + j.val) :
    (V m c main_v17 (ix2 i k) : EReal) = m (c.tc.loc main_arg2) (ix2 k ⟨1604 + j.val, by omega⟩) := by
  refine Eq.trans ?_ (at_v8 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 8 (by show 8 < 15; decide) S256x1024 (V m c main_v8) rfl rfl 1664 (by rw [pieces_take]; decide +kernel) (ix2 j k)
    (fun b hb => by match b with | ⟨0, _⟩ => exact absurd rfl hb | ⟨1, _⟩ => rfl) (by show 1664 + j.val = i.val; omega)
theorem at_v9 (c : Dev nD) (j : Fin 512) (k : Fin 1024) : (V m c main_v9 (ix2 j k) : EReal) = m (c.tc.loc main_arg2) (ix2 k ⟨1860 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v9 (c : Dev nD) (j : Fin 512) (k : Fin 1024) (i : Fin 5120) (hi : i.val = 1920 + j.val) :
    (V m c main_v17 (ix2 i k) : EReal) = m (c.tc.loc main_arg2) (ix2 k ⟨1860 + j.val, by omega⟩) := by
  refine Eq.trans ?_ (at_v9 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 9 (by show 9 < 15; decide) S512x1024 (V m c main_v9) rfl rfl 1920 (by rw [pieces_take]; decide +kernel) (ix2 j k)
    (fun b hb => by match b with | ⟨0, _⟩ => exact absurd rfl hb | ⟨1, _⟩ => rfl) (by show 1920 + j.val = i.val; omega)
theorem at_v10 (c : Dev nD) (j : Fin 16) (k : Fin 1024) : (V m c main_v10 (ix2 j k) : EReal) = m (c.tc.loc main_arg2) (ix2 k ⟨2372 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v10 (c : Dev nD) (j : Fin 16) (k : Fin 1024) (i : Fin 5120) (hi : i.val = 2432 + j.val) :
    (V m c main_v17 (ix2 i k) : EReal) = m (c.tc.loc main_arg2) (ix2 k ⟨2372 + j.val, by omega⟩) := by
  refine Eq.trans ?_ (at_v10 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 10 (by show 10 < 15; decide) S16x1024 (V m c main_v10) rfl rfl 2432 (by rw [pieces_take]; decide +kernel) (ix2 j k)
    (fun b hb => by match b with | ⟨0, _⟩ => exact absurd rfl hb | ⟨1, _⟩ => rfl) (by show 2432 + j.val = i.val; omega)
theorem at_v15 (c : Dev nD) (j : Fin 112) (k : Fin 1024) : (V m c main_v15 (ix2 j k) : EReal) = (0 : EReal) := by
  unfold V
  simp only [hostOps0, hostOps0_1, hostOps0_2, List.flatten_cons, List.flatten_nil, List.append_nil, List.cons_append, List.nil_append]
  entry_read
  pointwise
theorem rows_v15 (c : Dev nD) (j : Fin 112) (k : Fin 1024) (i : Fin 5120) (hi : i.val = 2448 + j.val) :
    (V m c main_v17 (ix2 i k) : EReal) = (0 : EReal) := by
  refine Eq.trans ?_ (at_v15 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 11 (by show 11 < 15; decide) S112x1024 (V m c main_v15) rfl rfl 2448 (by rw [pieces_take]; decide +kernel) (ix2 j k)
    (fun b hb => by match b with | ⟨0, _⟩ => exact absurd rfl hb | ⟨1, _⟩ => rfl) (by show 2448 + j.val = i.val; omega)
theorem at_v11 (c : Dev nD) (j : Fin 512) (k : Fin 1024) : (V m c main_v11 (ix2 j k) : EReal) = m (c.tc.loc main_arg2) (ix2 k ⟨2388 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v11 (c : Dev nD) (j : Fin 512) (k : Fin 1024) (i : Fin 5120) (hi : i.val = 2560 + j.val) :
    (V m c main_v17 (ix2 i k) : EReal) = m (c.tc.loc main_arg2) (ix2 k ⟨2388 + j.val, by omega⟩) := by
  refine Eq.trans ?_ (at_v11 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 12 (by show 12 < 15; decide) S512x1024 (V m c main_v11) rfl rfl 2560 (by rw [pieces_take]; decide +kernel) (ix2 j k)
    (fun b hb => by match b with | ⟨0, _⟩ => exact absurd rfl hb | ⟨1, _⟩ => rfl) (by show 2560 + j.val = i.val; omega)
theorem at_v12 (c : Dev nD) (j : Fin 1024) (k : Fin 1024) : (V m c main_v12 (ix2 j k) : EReal) = m (c.tc.loc main_arg2) (ix2 k ⟨2900 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v12 (c : Dev nD) (j : Fin 1024) (k : Fin 1024) (i : Fin 5120) (hi : i.val = 3072 + j.val) :
    (V m c main_v17 (ix2 i k) : EReal) = m (c.tc.loc main_arg2) (ix2 k ⟨2900 + j.val, by omega⟩) := by
  refine Eq.trans ?_ (at_v12 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 13 (by show 13 < 15; decide) S1024x1024 (V m c main_v12) rfl rfl 3072 (by rw [pieces_take]; decide +kernel) (ix2 j k)
    (fun b hb => by match b with | ⟨0, _⟩ => exact absurd rfl hb | ⟨1, _⟩ => rfl) (by show 3072 + j.val = i.val; omega)
theorem at_v13 (c : Dev nD) (j : Fin 1024) (k : Fin 1024) : (V m c main_v13 (ix2 j k) : EReal) = m (c.tc.loc main_arg2) (ix2 k ⟨3924 + j.val, by omega⟩) := by
  unfold V
  simp only [hostOps0, hostOps0_1, hostOps0_2, List.flatten_cons, List.flatten_nil, List.append_nil, List.cons_append, List.nil_append]
  entry_read
  pointwise
  try exact congrArg (fun i => m (c.tc.loc main_arg2) (ix2 k i)) (Fin.ext (by dsimp only; omega))
theorem rows_v13 (c : Dev nD) (j : Fin 1024) (k : Fin 1024) (i : Fin 5120) (hi : i.val = 4096 + j.val) :
    (V m c main_v17 (ix2 i k) : EReal) = m (c.tc.loc main_arg2) (ix2 k ⟨3924 + j.val, by omega⟩) := by
  refine Eq.trans ?_ (at_v13 m c j k)
  rw [V_v17]
  show V m c main_v16 (ix2 i k) = _
  rw [V_v16]
  exact concatenate_apply_piece (t := S5120x1024) 0 (pieces m c) concatenates_S512x1024_S256x1024_S256x1024_S256x1024_S64x1024_S4x1024_S60x1024_S256x1024_S256x1024_S512x1024_S16x1024_S112x1024_S512x1024_S1024x1024_S1024x1024_S5120x1024_d0 (ix2 i k) 14 (by show 14 < 15; decide) S1024x1024 (V m c main_v13) rfl rfl 4096 (by rw [pieces_take]; decide +kernel) (ix2 j k)
    (fun b hb => by match b with | ⟨0, _⟩ => exact absurd rfl hb | ⟨1, _⟩ => rfl) (by show 4096 + j.val = i.val; omega)

end Cert.ProjIdeal.Hand
end
-- ==== Proof.Proj.HostsSmall.lean ====
module

public import proofs.«01_k».proof.Proof.Proj.Rows
public import proofs.«01_k».proof.Proof.Proj.Hosts
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The projection call: the arrays its host code prepares -/

namespace Cert.ProjIdeal.Hand

open Cert.ProjIdeal Cert.ProjIdeal.Gen Cert.Proof.Proj

variable (m : (ℓ : Loc nD τ sig) → Buf (Elt Ideal) ℓ) (ρ : Dev nD → PrngReg)

/-! The small arrays. -/

theorem at_v35 (c : Dev nD) (k : Fin 1024) : V m c main_v35 (ix2 0 k) = m (c.tc.loc main_arg1) (ix1 k) := by
  unfold V
  simp only [hostOps0, hostOps0_1, hostOps0_2, List.flatten_cons, List.flatten_nil, List.append_nil, List.cons_append, List.nil_append]
  entry_read
  pointwise
theorem at_v47 (c : Dev nD) (k : Fin 256) : V m c main_v47 (ix2 0 k) = m (c.tc.loc main_arg7) (ix1 k) := by
  unfold V
  simp only [hostOps0, hostOps0_1, hostOps0_2, List.flatten_cons, List.flatten_nil, List.append_nil, List.cons_append, List.nil_append]
  entry_read
  pointwise
theorem at_v39 (c : Dev nD) (k : Fin 512) : V m c main_v39 (ix2 0 k) = m (c.tc.loc main_arg3) (ix1 ⟨k.val % 64, Nat.mod_lt _ (by decide)⟩) := by
  unfold V
  simp only [hostOps0, hostOps0_1, hostOps0_2, List.flatten_cons, List.flatten_nil, List.append_nil, List.cons_append, List.nil_append]
  entry_read
  pointwise
theorem at_v43 (c : Dev nD) (k : Fin 256) : V m c main_v43 (ix2 0 k) = m (c.tc.loc main_arg4) (ix1 ⟨k.val % 64, Nat.mod_lt _ (by decide)⟩) := by
  unfold V
  simp only [hostOps0, hostOps0_1, hostOps0_2, List.flatten_cons, List.flatten_nil, List.append_nil, List.cons_append, List.nil_append]
  entry_read
  pointwise
theorem at_v46 (c : Dev nD) (k : Fin 128) (hk : k.val < 64) : V m c main_v46 (ix2 0 k) = m (c.tc.loc main_arg5) (ix1 ⟨k.val % 64, Nat.mod_lt _ (by decide)⟩) := by
  unfold V
  simp only [hostOps0, hostOps0_1, hostOps0_2, List.flatten_cons, List.flatten_nil, List.append_nil, List.cons_append, List.nil_append]
  entry_read
  pointwise
  rw [dif_pos hk]
  exact congrArg (fun i => m (c.tc.loc main_arg5) (ix1 i)) (Fin.ext (Nat.mod_eq_of_lt hk).symm)
/-- The low-rank decay weights, padded with zero rows. -/
def wa2p (W : S16x256.Idx → EReal) (j : Fin 256) (x : ℕ) : EReal := if h : x < 16 then W (ix2 ⟨x, h⟩ j) else 0
theorem at_v20 (c : Dev nD) (x : Fin 128) (j : Fin 256) : (V m c main_v20 (ix2 x j) : EReal) = wa2p (m (c.tc.loc main_arg6)) j x.val := by
  unfold V
  simp only [hostOps0, hostOps0_1, hostOps0_2, List.flatten_cons, List.flatten_nil, List.append_nil, List.cons_append, List.nil_append]
  entry_read
  pointwise
  rfl
/-- What the cast leaves of real weights is nothing. -/
theorem at_v23 (c : Dev nD) (x : Fin 128) (j : Fin 256) (hw : ∀ (x : Fin 16) (j : Fin 256), ∃ r : ℝ, (m (c.tc.loc main_arg6) (ix2 x j) : EReal) = (r : EReal)) :
    (V m c main_v23 (ix2 x j) : EReal) = (0 : EReal) := by
  unfold V
  simp only [hostOps0, hostOps0_1, hostOps0_2, List.flatten_cons, List.flatten_nil, List.append_nil, List.cons_append, List.nil_append]
  entry_read
  pointwise
  split_ifs with h
  · obtain ⟨r, hr⟩ := hw ⟨x.val, h⟩ j
    have hr' : m (c, Proc.tc.devRef main_arg6) (ix2 ⟨x.val, h⟩ j) = (r : EReal) := hr
    rw [hr', ← EReal.coe_sub, sub_self, EReal.coe_zero]
  · exact sub_zero (0 : EReal)

/-- The integer quotient by 64 as the host line computes it. -/
def quot64 (k : ℕ) : BitVec 32 :=
  (Scalar.select
            (IntOp.andi
              (IntOp.cmpi CmpIPredicate.ne
                (if BitVec.ofNat 32 k = (0 : BitVec 32) then (0 : BitVec 32) else if (BitVec.ofNat 32 k).msb = true then -1 else 1)
                (if 64#32 = 0 then (0 : BitVec 32) else if (64#32).msb = true then -1 else 1))
              (IntOp.cmpi CmpIPredicate.ne (IntOp.remsi ArithUnit.host (BitVec.ofNat 32 k) 64#32) 0#32))
            (IntOp.subi (IntOp.divsi ArithUnit.host (BitVec.ofNat 32 k) 64#32) 1#32)
            (IntOp.divsi ArithUnit.host (BitVec.ofNat 32 k) 64#32))

theorem floor64 : ∀ k : Fin 512, quot64 k.val = BitVec.ofNat 32 (k.val / 64) := by
  decide +kernel
theorem same8 : ∀ a b : Fin 8, IntOp.cmpi CmpIPredicate.eq (BitVec.ofNat 32 a.val) (BitVec.ofNat 32 b.val) = if a.val = b.val then 1#1 else 0#1 := by
  decide +kernel
/-- The averaging matrix of the 64-lane heads. -/
theorem at_v34 (c : Dev nD) (k j : Fin 512) : (V m c main_v34 (ix2 k j) : EReal) = if k.val / 64 = j.val / 64 then ((1 / 64 : ℝ) : EReal) else 0 := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  show Ideal.div (FloatOps.uitofp (F := Ideal) FTy.f32 (IntOp.cmpi CmpIPredicate.eq (quot64 k.val) (quot64 j.val))) (Ideal.ofBits FTy.f32 1115684864#32) = _
  rw [floor64 k, floor64 j, same8 ⟨k.val / 64, by omega⟩ ⟨j.val / 64, by omega⟩, lit_64]
  show Ideal.div (FloatOps.uitofp (F := Ideal) FTy.f32 (if k.val / 64 = j.val / 64 then 1#1 else 0#1)) _ = _
  split_ifs
  · rw [Ideal.div_coe (by norm_num)]
    exact (congrArg (· * (((1 / 64 : ℝ)) : EReal)) (show FloatOps.uitofp (F := Ideal) FTy.f32 (1#1 : BitVec 1) = ((1 : ℝ) : EReal) from by
      simp [FloatOps.uitofp])).trans (by rw [EReal.coe_one, one_mul])
  · rw [Ideal.div_coe (by norm_num)]
    exact (congrArg (· * (((1 / 64 : ℝ)) : EReal)) (show FloatOps.uitofp (F := Ideal) FTy.f32 (0#1 : BitVec 1) = (0 : EReal) from by
      simp [FloatOps.uitofp])).trans (zero_mul _)

end Cert.ProjIdeal.Hand
end
-- ==== Proof.Proj.Blocks.lean ====
module

public import proofs.«01_k».proof.Proof.Proj.Body
public import proofs.«01_k».proof.Proof.Proj.HostsTable
public import proofs.«01_k».proof.Proof.Proj.HostsWeights
public import proofs.«01_k».proof.Proof.Proj.HostsSmall

@[expose] public section

set_option maxRecDepth 16384

noncomputable section

open Idealize.ShloMosaic Idealize.ShloMosaic.TcCoe Idealize.SL.Sem
open Idealize.ShloMosaic.Pipeline (Dat)

/-! ## The projection call: its results as functions of the arguments, and the blocks of a grid point -/

namespace Cert.ProjIdeal.Hand

open Cert.ProjIdeal Cert.ProjIdeal.Gen Cert.Proof.Proj
open Cert.MergeIdeal.Hand (normed)

section
variable (x0 : S16384x1024.Idx → EReal) (x1 : S1024.Idx → EReal) (x2 : S1024x4948.Idx → EReal) (x3 x4 x5 : S64.Idx → EReal) (x6 : S16x256.Idx → EReal) (x7 : S256.Idx → EReal)

/-- Token `R`'s normalised row. -/
def nrow (R : Fin 16384) : Fin 1024 → EReal := normed (fun k => x0 (ix2 R k)) (fun k => x1 (ix1 k))

/-- Its columns through the weights, from column `O` on. -/
def cols (R : Fin 16384) (O : ℕ) (j : ℕ) : EReal := proj (nrow x0 x1 R) x2 (O + j)

/-- The rotary cosines and sines of a token's place in its sequence. -/
def co (R : Fin 16384) (i : Fin 8) : EReal := Ideal.cos (ang (R.val % 4096) i)
def si (R : Fin 16384) (i : Fin 8) : EReal := Ideal.sin (ang (R.val % 4096) i)

/-- Place `p` of sequence `b`. -/
def tok (b : Fin 4) (p : Fin 4096) : Fin 16384 := ⟨b.val * 4096 + p.val, by omega⟩

/-- Queries. -/
def outQ (i : S16384x512.Idx) : EReal := rope (gnorm (cols x0 x1 x2 (i 0) 0) fun k => x3 (ix1 k)) (co (i 0)) (si (i 0)) (i 1).val * Ideal.ofBits FTy.f32 1043900987#32
/-- Keys. -/
def outK (i : S4x256x4096.Idx) : EReal :=
  rope (gnorm (cols x0 x1 x2 (tok (i 0) (i 2)) 512) fun k => x4 (ix1 k)) (co (tok (i 0) (i 2))) (si (tok (i 0) (i 2))) (i 1).val
/-- Values. -/
def outV (i : S4x256x4096.Idx) : EReal := cols x0 x1 x2 (tok (i 0) (i 2)) 768 (i 1).val
/-- Index queries. -/
def outQI (i : S16384x256.Idx) : EReal := rope (cols x0 x1 x2 (i 0) 1024) (co (i 0)) (si (i 0)) (i 1).val
/-- Index keys. -/
def outKI (i : S4x64x4096.Idx) : EReal :=
  rope (gnorm (cols x0 x1 x2 (tok (i 0) (i 2)) 1280) fun k => x5 (ix1 k)) (co (tok (i 0) (i 2))) (si (tok (i 0) (i 2))) (i 1).val
/-- The recurrence's queries. -/
def outGQ (i : S16384x256.Idx) : EReal := cols x0 x1 x2 (i 0) 1348 (i 1).val * Ideal.ofBits FTy.f32 1040187392#32
/-- The recurrence's keys. -/
def outGK (i : S16384x256.Idx) : EReal := cols x0 x1 x2 (i 0) 1604 (i 1).val
/-- The recurrence's values. -/
def outGV (i : S16384x512.Idx) : EReal := cols x0 x1 x2 (i 0) 1860 (i 1).val
/-- The recurrence's log decays. -/
def outLA (i : S16384x256.Idx) : EReal :=
  logd (∑ x : Fin 16, cols x0 x1 x2 (i 0) 2372 x.val * x6 (ix2 x (n0 := 16) (n1 := 256) (i 1)) + x7 (ix1 (n0 := 256) (i 1)))
/-- The recurrence's gates. -/
def outGR (i : S16384x512.Idx) : EReal := cols x0 x1 x2 (i 0) 2388 (i 1).val
/-- The merge's gates. -/
def outGA (i : S16384x1024.Idx) : EReal := cols x0 x1 x2 (i 0) 2900 (i 1).val
def outGB (i : S16384x1024.Idx) : EReal := cols x0 x1 x2 (i 0) 3924 (i 1).val
end

variable (m : (ℓ : Loc nD τ sig) → Buf (Elt Ideal) ℓ) (ρ : Dev nD → PrngReg)

/-- Which block each input window is on at grid point `t`: the tokens on their `t`-th 512 rows, the table on its `t % 8`-th, the others whole. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![t.val % 8, 0] ∧ win0_10.index t = ![0, 0] :=
  (by decide +kernel : ∀ t : Fin grid0.N, _)

section
variable (c : Dev nD) (t : Fin cfg0.N)
theorem blk0 (r : Fin 512) (R : Fin 16384) (hR : R.val = t.val * 512 + r.val) (k : Fin 1024) :
    (iblk m c 0 t : Vec Ideal S512x1024 .f32) (ix2 r k) = m (c.tc.loc main_arg0) (ix2 R k) := by
  blk_ext! [iblk, V_main_arg0, (idx t).1]
theorem blk1 (k : Fin 1024) : (iblk m c 1 t : Vec Ideal S1x1024 .f32) (ix2 0 k) = V m c main_v35 (ix2 0 k) := by
  blk_ext [iblk, (idx t).2.1]
theorem blk2 (i : Fin 5120) (k : Fin 1024) : (iblk m c 2 t : Vec Ideal S5120x1024 .bf16) (ix2 i k) = V m c main_v17 (ix2 i k) := by
  blk_ext [iblk, (idx t).2.2.1]
theorem blk3 (k : Fin 512) : (iblk m c 3 t : Vec Ideal S1x512 .f32) (ix2 0 k) = V m c main_v39 (ix2 0 k) := by
  blk_ext [iblk, (idx t).2.2.2.1]
theorem blk4 (k : Fin 256) : (iblk m c 4 t : Vec Ideal S1x256 .f32) (ix2 0 k) = V m c main_v43 (ix2 0 k) := by
  blk_ext [iblk, (idx t).2.2.2.2.1]
theorem blk5 (k : Fin 128) : (iblk m c 5 t : Vec Ideal S1x128 .f32) (ix2 0 k) = V m c main_v46 (ix2 0 k) := by
  blk_ext [iblk, (idx t).2.2.2.2.2.1]
theorem blk6 (x : Fin 128) (k : Fin 256) : (iblk m c 6 t : Vec Ideal S128x256 .bf16) (ix2 x k) = V m c main_v20 (ix2 x k) := by
  blk_ext [iblk, (idx t).2.2.2.2.2.2.1]
theorem blk7 (x : Fin 128) (k : Fin 256) : (iblk m c 7 t : Vec Ideal S128x256 .bf16) (ix2 x k) = V m c main_v23 (ix2 x k) := by
  blk_ext [iblk, (idx t).2.2.2.2.2.2.2.1]
theorem blk8 (k : Fin 256) : (iblk m c 8 t : Vec Ideal S1x256 .f32) (ix2 0 k) = V m c main_v47 (ix2 0 k) := by
  blk_ext [iblk, (idx t).2.2.2.2.2.2.2.2.1]
theorem blk9 (r : Fin 512) (T : Fin 4096) (hT : T.val = t.val % 8 * 512 + r.val) (j : Fin 384) :
    (iblk m c 9 t : Vec Ideal S512x384 .f32) (ix2 r j) = V m c main_v82 (ix2 T j) := by
  blk_ext [iblk, (idx t).2.2.2.2.2.2.2.2.2.1]
theorem blk10 (x j : Fin 512) : (iblk m c 10 t : Vec Ideal S512x512 .bf16) (ix2 x j) = V m c main_v34 (ix2 x j) := by
  blk_ext [iblk, (idx t).2.2.2.2.2.2.2.2.2.2]
end

/-- The arguments whose sums are regrouped hold real numbers. -/
structure Reals (c : Dev nD) : Prop where
  x : ∀ i, Re (m (c.tc.loc main_arg0) i)
  g : ∀ i, Re (m (c.tc.loc main_arg1) i)
  w : ∀ i, Re (m (c.tc.loc main_arg2) i)
  a : ∀ i, Re (m (c.tc.loc main_arg6) i)

/-- The blocks of a grid point hold what token `t * 512 + r` needs. -/
theorem blk (c : Dev nD) (hm : Reals m c) (t : Fin cfg0.N) (r : Fin 512) (R : Fin 16384) (hR : R.val = t.val * 512 + r.val) :
    Blk (iblk m c 0 t) (iblk m c 1 t) (iblk m c 2 t) (iblk m c 3 t) (iblk m c 4 t) (iblk m c 5 t) (iblk m c 6 t) (iblk m c 7 t) (iblk m c 8 t) (iblk m c 9 t) (iblk m c 10 t) r
      (nrow (m (c.tc.loc main_arg0)) (m (c.tc.loc main_arg1)) R) (m (c.tc.loc main_arg2)) (co R) (si R)
      (fun k => m (c.tc.loc main_arg3) (ix1 k)) (fun k => m (c.tc.loc main_arg4) (ix1 k)) (fun k => m (c.tc.loc main_arg5) (ix1 k))
      (m (c.tc.loc main_arg6)) (fun j => m (c.tc.loc main_arg7) (ix1 j)) := by
  have hT : R.val % 4096 = t.val % 8 * 512 + r.val := by omega
  have e0 := funext fun k => blk0 m c t r R hR k
  have e1 := funext fun k => (blk1 m c t k).trans (at_v35 m c k)
  have h9 := blk9 m c t r ⟨R.val % 4096, Nat.mod_lt _ (by decide)⟩ hT
  exact {
    row := fun k => congrFun (congrArg₂ normed e0 e1) k
    real := proj_re (normed_re (fun k => hm.x _) (fun k => hm.g _)) hm.w
    one := fun x j hj => (h9 j).trans ((at_v82_one m c _ x j (hj.trans (Nat.zero_add _))).trans (at_v75 m c _ x))
    sa := fun x j hj => (h9 j).trans ((at_v82_sa m c _ x j hj).trans (at_v78 m c _ x))
    sb := fun x j hj => (h9 j).trans ((at_v82_sb m c _ x j hj).trans (at_v81 m c _ x))
    avg := fun x j => (blk10 m c t x j).trans (at_v34 m c x j)
    qgain := fun k => (blk3 m c t k).trans (at_v39 m c k)
    kgain := fun k => (blk4 m c t k).trans (at_v43 m c k)
    igain := fun k hk => (blk5 m c t k).trans (at_v46 m c k hk)
    rank := fun x j => (blk6 m c t x j).trans (at_v20 m c x j)
    rest := fun x j => (blk7 m c t x j).trans (at_v23 m c x j fun x j => hm.a _)
    bias := fun j => (blk8 m c t j).trans (at_v47 m c j)
    wq := fun j k i hi => (blk2 m c t i k).trans (rows_v1 m c j k i hi)
    wk := fun j k i hi => (blk2 m c t i k).trans (rows_v2 m c j k i hi)
    wv := fun j k i hi => (blk2 m c t i k).trans (rows_v3 m c j k i hi)
    wqi := fun j k i hi => (blk2 m c t i k).trans (rows_v4 m c j k i hi)
    wki := fun j k i hi => (blk2 m c t i k).trans (rows_v5 m c j k i hi)
    wgq := fun j k i hi => (blk2 m c t i k).trans (rows_v7 m c j k i hi)
    wgk := fun j k i hi => (blk2 m c t i k).trans (rows_v8 m c j k i hi)
    wgv := fun j k i hi => (blk2 m c t i k).trans (rows_v9 m c j k i hi)
    wl := fun j k i hi => (blk2 m c t i k).trans (rows_v10 m c j k i hi)
    wl0 := fun j k i hi => (blk2 m c t i k).trans (rows_v15 m c j k i hi)
    wr := fun j k i hi => (blk2 m c t i k).trans (rows_v11 m c j k i hi)
    wga := fun j k i hi => (blk2 m c t i k).trans (rows_v12 m c j k i hi)
    wgb := fun j k i hi => (blk2 m c t i k).trans (rows_v13 m c j k i hi) }

end Cert.ProjIdeal.Hand
end
-- ==== Proof.Proj.Kernel.lean ====
module

public import proofs.«01_k».proof.Proof.Proj.Blocks

@[expose] public section

set_option maxRecDepth 16384

noncomputable section

open Idealize.ShloMosaic Idealize.ShloMosaic.TcCoe Idealize.SL.Sem
open Idealize.ShloMosaic.Pipeline (Dat)

/-! ## The projection call: what its result arrays hold -/

namespace Cert.ProjIdeal.Hand

open Cert.ProjIdeal Cert.ProjIdeal.Gen Cert.Proof.Proj

/-- Where the result windows are: the token arrays on their `t`-th 512 rows, the arrays of a sequence on its `t % 8`-th 512 places. -/
theorem odx : ∀ t : Fin cfg0.N, (win0_11.index t = ![t.val, 0] ∧ win0_17.index t = ![t.val, 0] ∧ win0_23.index t = ![t.val, 0] ∧ win0_24.index t = ![t.val, 0]
    ∧ win0_25.index t = ![t.val, 0] ∧ win0_26.index t = ![t.val, 0] ∧ win0_27.index t = ![t.val, 0] ∧ win0_28.index t = ![t.val, 0] ∧ win0_29.index t = ![t.val, 0])
    ∧ win0_13.index t = ![t.val / 8, 0, t.val % 8] ∧ win0_14.index t = ![t.val / 8, 0, t.val % 8] ∧ win0_19.index t = ![t.val / 8, 0, t.val % 8] :=
  (by decide +kernel : ∀ t : Fin grid0.N, _)

variable (m : (ℓ : Loc nD τ sig) → Buf (Elt Ideal) ℓ) (ρ : Dev nD → PrngReg)

/-- The token of row `r` of the grid point's block. -/
def row (t : Fin cfg0.N) (r : Fin 512) : Fin 16384 := ⟨t.val * 512 + r.val, by have := lt_of_lt_of_eq t.isLt (show cfg0.N = 32 from N_0); omega⟩

/-- Its sequence, and its place there. -/
def seqOf (t : Fin cfg0.N) : Fin 4 := ⟨t.val / 8, by have := lt_of_lt_of_eq t.isLt (show cfg0.N = 32 from N_0); omega⟩
def place (t : Fin cfg0.N) (r : Fin 512) : Fin 4096 := ⟨t.val % 8 * 512 + r.val, by omega⟩

/-- One store of a whole block over tokens leaves there the block of a function that agrees with it token by token. -/
theorem tokens {n : ℕ} {ε : EltTy} {p : (⟨2, ![512, n]⟩ : Shape).Idx → Elt Ideal ε} {o : (⟨2, ![16384, n]⟩ : Shape).Idx → Elt Ideal ε} {t : Fin cfg0.N}
    {e : (⟨2, ![512, n]⟩ : Shape).Idx → (⟨2, ![16384, n]⟩ : Shape).Idx} (he : ∀ r j, e (ix2 r j) = ix2 (row t r) j)
    (h : ∀ (r : Fin 512) (R : Fin 16384), R.val = t.val * 512 + r.val → ∀ j, p (ix2 r j) = o (ix2 R j))
    {inb : ∀ a, (![0, 0] : Fin 2 → ℕ) a + (⟨2, ![512, n]⟩ : Shape).size a ≤ (⟨2, ![512, n]⟩ : Shape).size a} (y : (⟨2, ![512, n]⟩ : Shape).Idx) :
    View.canon [(⟨Rect.unit (s := ⟨2, ![512, n]⟩) ![0, 0] (⟨2, ![512, n]⟩ : Shape).size inb, p⟩ : View.Piece (Elt Ideal) ⟨2, ![512, n]⟩ ε)] y = o (e y) := by
  obtain ⟨r, j, rfl⟩ : ∃ (r : Fin 512) (j : Fin n), y = ix2 r j := ⟨y 0, y 1, eq_ix2 (n0 := 512) (n1 := n) y⟩
  rw [View.canon_unit_zero hz, he]
  exact h r _ rfl j

/-- The same of a block over the places of a sequence, which has them last. -/
theorem places {n : ℕ} {ε : EltTy} {p : (⟨3, ![1, n, 512]⟩ : Shape).Idx → Elt Ideal ε} {o : (⟨3, ![4, n, 4096]⟩ : Shape).Idx → Elt Ideal ε} {t : Fin cfg0.N}
    {e : (⟨3, ![1, n, 512]⟩ : Shape).Idx → (⟨3, ![4, n, 4096]⟩ : Shape).Idx} (he : ∀ j r, e (ix3 0 j r) = ix3 (seqOf t) j (place t r))
    (h : ∀ r : Fin 512, (tok (seqOf t) (place t r)).val = t.val * 512 + r.val → ∀ j, p (ix3 0 j r) = o (ix3 (seqOf t) j (place t r)))
    {inb : ∀ a, (![0, 0, 0] : Fin 3 → ℕ) a + (⟨3, ![1, n, 512]⟩ : Shape).size a ≤ (⟨3, ![1, n, 512]⟩ : Shape).size a} (y : (⟨3, ![1, n, 512]⟩ : Shape).Idx) :
    View.canon [(⟨Rect.unit (s := ⟨3, ![1, n, 512]⟩) ![0, 0, 0] (⟨3, ![1, n, 512]⟩ : Shape).size inb, p⟩ : View.Piece (Elt Ideal) ⟨3, ![1, n, 512]⟩ ε)] y = o (e y) := by
  obtain ⟨z, j, r, rfl⟩ : ∃ (z : Fin 1) (j : Fin n) (r : Fin 512), y = ix3 z j r := ⟨y 0, y 1, y 2, eq_ix3 (n0 := 1) (n1 := n) (n2 := 512) y⟩
  obtain rfl : z = 0 := Subsingleton.elim _ _
  rw [View.canon_unit_zero hz3, he]
  exact h r (by show t.val / 8 * 4096 + (t.val % 8 * 512 + r.val) = _; omega) j

/-- The array of the queries. -/
theorem finalQ (c : Dev nD) (hm : Reals m c) : (dats m 0 c).arrAt 11 cfg0.N = outQ (m (c.tc.loc main_arg0)) (m (c.tc.loc main_arg1)) (m (c.tc.loc main_arg2)) (m (c.tc.loc main_arg3)) := by
  refine (dats m 0 c).arrAt_eq_of_covers 11 _ (by decide +kernel) fun t _ y => ?_
  blk_simp
  rw [after0_11]
  exact tokens (t := t) (e := (win0_11.blk t).view.emb) (fun r j => by blk_ext [row, (odx t).1.1]) (fun r R hR => (blk m c hm t r R hR).q) y

/-- The array of the keys. -/
theorem finalK (c : Dev nD) (hm : Reals m c) : (dats m 0 c).arrAt 13 cfg0.N = outK (m (c.tc.loc main_arg0)) (m (c.tc.loc main_arg1)) (m (c.tc.loc main_arg2)) (m (c.tc.loc main_arg4)) := by
  refine (dats m 0 c).arrAt_eq_of_covers 13 _ (by decide +kernel) fun t _ y => ?_
  blk_simp
  rw [after0_13]
  exact places (t := t) (e := (win0_13.blk t).view.emb) (fun j r => by blk_ext [seqOf, place, (odx t).2.1]) (fun r hR => (blk m c hm t r _ hR).k) y

/-- The array of the values. -/
theorem finalV (c : Dev nD) (hm : Reals m c) : (dats m 0 c).arrAt 14 cfg0.N = outV (m (c.tc.loc main_arg0)) (m (c.tc.loc main_arg1)) (m (c.tc.loc main_arg2)) := by
  refine (dats m 0 c).arrAt_eq_of_covers 14 _ (by decide +kernel) fun t _ y => ?_
  blk_simp
  rw [after0_14]
  exact places (t := t) (e := (win0_14.blk t).view.emb) (fun j r => by blk_ext [seqOf, place, (odx t).2.2.1]) (fun r hR => (blk m c hm t r _ hR).v) y

/-- The array of the index queries. -/
theorem finalQI (c : Dev nD) (hm : Reals m c) : (dats m 0 c).arrAt 17 cfg0.N = outQI (m (c.tc.loc main_arg0)) (m (c.tc.loc main_arg1)) (m (c.tc.loc main_arg2)) := by
  refine (dats m 0 c).arrAt_eq_of_covers 17 _ (by decide +kernel) fun t _ y => ?_
  blk_simp
  rw [after0_17]
  exact tokens (t := t) (e := (win0_17.blk t).view.emb) (fun r j => by blk_ext [row, (odx t).1.2.1]) (fun r R hR => (blk m c hm t r R hR).qi) y

/-- The array of the index keys. -/
theorem finalKI (c : Dev nD) (hm : Reals m c) : (dats m 0 c).arrAt 19 cfg0.N = outKI (m (c.tc.loc main_arg0)) (m (c.tc.loc main_arg1)) (m (c.tc.loc main_arg2)) (m (c.tc.loc main_arg5)) := by
  refine (dats m 0 c).arrAt_eq_of_covers 19 _ (by decide +kernel) fun t _ y => ?_
  blk_simp
  rw [after0_19]
  exact places (t := t) (e := (win0_19.blk t).view.emb) (fun j r => by blk_ext [seqOf, place, (odx t).2.2.2]) (fun r hR => (blk m c hm t r _ hR).ki) y

/-- The array of the recurrence's queries. -/
theorem finalGQ (c : Dev nD) (hm : Reals m c) : (dats m 0 c).arrAt 23 cfg0.N = outGQ (m (c.tc.loc main_arg0)) (m (c.tc.loc main_arg1)) (m (c.tc.loc main_arg2)) := by
  refine (dats m 0 c).arrAt_eq_of_covers 23 _ (by decide +kernel) fun t _ y => ?_
  blk_simp
  rw [after0_23]
  exact tokens (t := t) (e := (win0_23.blk t).view.emb) (fun r j => by blk_ext [row, (odx t).1.2.2.1]) (fun r R hR => (blk m c hm t r R hR).gq) y

/-- The array of the recurrence's keys. -/
theorem finalGK (c : Dev nD) (hm : Reals m c) : (dats m 0 c).arrAt 24 cfg0.N = outGK (m (c.tc.loc main_arg0)) (m (c.tc.loc main_arg1)) (m (c.tc.loc main_arg2)) := by
  refine (dats m 0 c).arrAt_eq_of_covers 24 _ (by decide +kernel) fun t _ y => ?_
  blk_simp
  rw [after0_24]
  exact tokens (t := t) (e := (win0_24.blk t).view.emb) (fun r j => by blk_ext [row, (odx t).1.2.2.2.1]) (fun r R hR => (blk m c hm t r R hR).gk) y

/-- The array of the recurrence's values. -/
theorem finalGV (c : Dev nD) (hm : Reals m c) : (dats m 0 c).arrAt 25 cfg0.N = outGV (m (c.tc.loc main_arg0)) (m (c.tc.loc main_arg1)) (m (c.tc.loc main_arg2)) := by
  refine (dats m 0 c).arrAt_eq_of_covers 25 _ (by decide +kernel) fun t _ y => ?_
  blk_simp
  rw [after0_25]
  exact tokens (t := t) (e := (win0_25.blk t).view.emb) (fun r j => by blk_ext [row, (odx t).1.2.2.2.2.1]) (fun r R hR => (blk m c hm t r R hR).gv) y

/-- The array of the log decays. -/
theorem finalLA (c : Dev nD) (hm : Reals m c) : (dats m 0 c).arrAt 26 cfg0.N = outLA (m (c.tc.loc main_arg0)) (m (c.tc.loc main_arg1)) (m (c.tc.loc main_arg2)) (m (c.tc.loc main_arg6)) (m (c.tc.loc main_arg7)) := by
  refine (dats m 0 c).arrAt_eq_of_covers 26 _ (by decide +kernel) fun t _ y => ?_
  blk_simp
  rw [after0_26]
  exact tokens (t := t) (e := (win0_26.blk t).view.emb) (fun r j => by blk_ext [row, (odx t).1.2.2.2.2.2.1]) (fun r R hR => (blk m c hm t r R hR).la) y

/-- The array of the recurrence's gates. -/
theorem finalGR (c : Dev nD) (hm : Reals m c) : (dats m 0 c).arrAt 27 cfg0.N = outGR (m (c.tc.loc main_arg0)) (m (c.tc.loc main_arg1)) (m (c.tc.loc main_arg2)) := by
  refine (dats m 0 c).arrAt_eq_of_covers 27 _ (by decide +kernel) fun t _ y => ?_
  blk_simp
  rw [after0_27]
  exact tokens (t := t) (e := (win0_27.blk t).view.emb) (fun r j => by blk_ext [row, (odx t).1.2.2.2.2.2.2.1]) (fun r R hR => (blk m c hm t r R hR).gr) y

/-- The array of the merge's first gates. -/
theorem finalGA (c : Dev nD) (hm : Reals m c) : (dats m 0 c).arrAt 28 cfg0.N = outGA (m (c.tc.loc main_arg0)) (m (c.tc.loc main_arg1)) (m (c.tc.loc main_arg2)) := by
  refine (dats m 0 c).arrAt_eq_of_covers 28 _ (by decide +kernel) fun t _ y => ?_
  blk_simp
  rw [after0_28]
  exact tokens (t := t) (e := (win0_28.blk t).view.emb) (fun r j => by blk_ext [row, (odx t).1.2.2.2.2.2.2.2.1]) (fun r R hR => (blk m c hm t r R hR).ga) y

/-- The array of the merge's second gates. -/
theorem finalGB (c : Dev nD) (hm : Reals m c) : (dats m 0 c).arrAt 29 cfg0.N = outGB (m (c.tc.loc main_arg0)) (m (c.tc.loc main_arg1)) (m (c.tc.loc main_arg2)) := by
  refine (dats m 0 c).arrAt_eq_of_covers 29 _ (by decide +kernel) fun t _ y => ?_
  blk_simp
  rw [after0_29]
  exact tokens (t := t) (e := (win0_29.blk t).view.emb) (fun r j => by blk_ext [row, (odx t).1.2.2.2.2.2.2.2.2]) (fun r R hR => (blk m c hm t r R hR).gb) y

end Cert.ProjIdeal.Hand
end
-- ==== Proof.Proj.Run.lean ====
module

public import proofs.«01_k».proof.Proof.Proj.Kernel

@[expose] public section

set_option maxRecDepth 16384

noncomputable section

open Idealize.ShloMosaic Idealize.ShloMosaic.TcCoe Idealize.SL.Sem
open Idealize.ShloMosaic.Pipeline (Dat)

/-! ## The projection call: its run -/

namespace Cert.ProjIdeal.Hand

open Cert.ProjIdeal Cert.ProjIdeal.Gen Cert.Proof.Proj

variable (m : (ℓ : Loc nD τ sig) → Buf (Elt Ideal) ℓ) (ρ : Dev nD → PrngReg)

/-- At the end the array of the queries is its function of the arguments. -/
theorem resQ {r : PUnit × MemSt nD τ sig (Elt Ideal)} (h : Pipeline.FramePost cfgs (dats m) 0 (V m) r) (c : Dev nD) (hm : Reals m c) :
    r.2.mem (c.tc.loc main_v83_0) = outQ (m (c.tc.loc main_arg0)) (m (c.tc.loc main_arg1)) (m (c.tc.loc main_arg2)) (m (c.tc.loc main_arg3)) :=
  ((h c).1 11).trans (finalQ m c hm)

/-- At the end the array of the keys is its function of the arguments. -/
theorem resK {r : PUnit × MemSt nD τ sig (Elt Ideal)} (h : Pipeline.FramePost cfgs (dats m) 0 (V m) r) (c : Dev nD) (hm : Reals m c) :
    r.2.mem (c.tc.loc main_v83_2) = outK (m (c.tc.loc main_arg0)) (m (c.tc.loc main_arg1)) (m (c.tc.loc main_arg2)) (m (c.tc.loc main_arg4)) :=
  ((h c).1 13).trans (finalK m c hm)

/-- At the end the array of the values is its function of the arguments. -/
theorem resV {r : PUnit × MemSt nD τ sig (Elt Ideal)} (h : Pipeline.FramePost cfgs (dats m) 0 (V m) r) (c : Dev nD) (hm : Reals m c) :
    r.2.mem (c.tc.loc main_v83_3) = outV (m (c.tc.loc main_arg0)) (m (c.tc.loc main_arg1)) (m (c.tc.loc main_arg2)) :=
  ((h c).1 14).trans (finalV m c hm)

/-- At the end the array of the index queries is its function of the arguments. -/
theorem resQI {r : PUnit × MemSt nD τ sig (Elt Ideal)} (h : Pipeline.FramePost cfgs (dats m) 0 (V m) r) (c : Dev nD) (hm : Reals m c) :
    r.2.mem (c.tc.loc main_v83_6) = outQI (m (c.tc.loc main_arg0)) (m (c.tc.loc main_arg1)) (m (c.tc.loc main_arg2)) :=
  ((h c).1 17).trans (finalQI m c hm)

/-- At the end the array of the index keys is its function of the arguments. -/
theorem resKI {r : PUnit × MemSt nD τ sig (Elt Ideal)} (h : Pipeline.FramePost cfgs (dats m) 0 (V m) r) (c : Dev nD) (hm : Reals m c) :
    r.2.mem (c.tc.loc main_v83_8) = outKI (m (c.tc.loc main_arg0)) (m (c.tc.loc main_arg1)) (m (c.tc.loc main_arg2)) (m (c.tc.loc main_arg5)) :=
  ((h c).1 19).trans (finalKI m c hm)

/-- At the end the array of the recurrence's queries is its function of the arguments. -/
theorem resGQ {r : PUnit × MemSt nD τ sig (Elt Ideal)} (h : Pipeline.FramePost cfgs (dats m) 0 (V m) r) (c : Dev nD) (hm : Reals m c) :
    r.2.mem (c.tc.loc main_v83_12) = outGQ (m (c.tc.loc main_arg0)) (m (c.tc.loc main_arg1)) (m (c.tc.loc main_arg2)) :=
  ((h c).1 23).trans (finalGQ m c hm)

/-- At the end the array of the recurrence's keys is its function of the arguments. -/
theorem resGK {r : PUnit × MemSt nD τ sig (Elt Ideal)} (h : Pipeline.FramePost cfgs (dats m) 0 (V m) r) (c : Dev nD) (hm : Reals m c) :
    r.2.mem (c.tc.loc main_v83_13) = outGK (m (c.tc.loc main_arg0)) (m (c.tc.loc main_arg1)) (m (c.tc.loc main_arg2)) :=
  ((h c).1 24).trans (finalGK m c hm)

/-- At the end the array of the recurrence's values is its function of the arguments. -/
theorem resGV {r : PUnit × MemSt nD τ sig (Elt Ideal)} (h : Pipeline.FramePost cfgs (dats m) 0 (V m) r) (c : Dev nD) (hm : Reals m c) :
    r.2.mem (c.tc.loc main_v83_14) = outGV (m (c.tc.loc main_arg0)) (m (c.tc.loc main_arg1)) (m (c.tc.loc main_arg2)) :=
  ((h c).1 25).trans (finalGV m c hm)

/-- At the end the array of the log decays is its function of the arguments. -/
theorem resLA {r : PUnit × MemSt nD τ sig (Elt Ideal)} (h : Pipeline.FramePost cfgs (dats m) 0 (V m) r) (c : Dev nD) (hm : Reals m c) :
    r.2.mem (c.tc.loc main_v83_15) = outLA (m (c.tc.loc main_arg0)) (m (c.tc.loc main_arg1)) (m (c.tc.loc main_arg2)) (m (c.tc.loc main_arg6)) (m (c.tc.loc main_arg7)) :=
  ((h c).1 26).trans (finalLA m c hm)

/-- At the end the array of the recurrence's gates is its function of the arguments. -/
theorem resGR {r : PUnit × MemSt nD τ sig (Elt Ideal)} (h : Pipeline.FramePost cfgs (dats m) 0 (V m) r) (c : Dev nD) (hm : Reals m c) :
    r.2.mem (c.tc.loc main_v83_16) = outGR (m (c.tc.loc main_arg0)) (m (c.tc.loc main_arg1)) (m (c.tc.loc main_arg2)) :=
  ((h c).1 27).trans (finalGR m c hm)

/-- At the end the array of the merge's first gates is its function of the arguments. -/
theorem resGA {r : PUnit × MemSt nD τ sig (Elt Ideal)} (h : Pipeline.FramePost cfgs (dats m) 0 (V m) r) (c : Dev nD) (hm : Reals m c) :
    r.2.mem (c.tc.loc main_v83_17) = outGA (m (c.tc.loc main_arg0)) (m (c.tc.loc main_arg1)) (m (c.tc.loc main_arg2)) :=
  ((h c).1 28).trans (finalGA m c hm)

/-- At the end the array of the merge's second gates is its function of the arguments. -/
theorem resGB {r : PUnit × MemSt nD τ sig (Elt Ideal)} (h : Pipeline.FramePost cfgs (dats m) 0 (V m) r) (c : Dev nD) (hm : Reals m c) :
    r.2.mem (c.tc.loc main_v83_18) = outGB (m (c.tc.loc main_arg0)) (m (c.tc.loc main_arg1)) (m (c.tc.loc main_arg2)) :=
  ((h c).1 29).trans (finalGB m c hm)

/-- The call's run: its result arrays at their functions of the arguments, the arguments unchanged. -/
theorem run (hm : ∀ c, Reals m c) : θ_run defs (onTc (τ := τ) (main (F := Ideal))) ⟨m, fun _ => 0, ρ⟩ fun r => ∀ c : Dev nD,
      r.2.mem (c.tc.loc main_v83_0) = outQ (m (c.tc.loc main_arg0)) (m (c.tc.loc main_arg1)) (m (c.tc.loc main_arg2)) (m (c.tc.loc main_arg3))
      ∧ r.2.mem (c.tc.loc main_v83_2) = outK (m (c.tc.loc main_arg0)) (m (c.tc.loc main_arg1)) (m (c.tc.loc main_arg2)) (m (c.tc.loc main_arg4))
      ∧ r.2.mem (c.tc.loc main_v83_3) = outV (m (c.tc.loc main_arg0)) (m (c.tc.loc main_arg1)) (m (c.tc.loc main_arg2))
      ∧ r.2.mem (c.tc.loc main_v83_6) = outQI (m (c.tc.loc main_arg0)) (m (c.tc.loc main_arg1)) (m (c.tc.loc main_arg2))
      ∧ r.2.mem (c.tc.loc main_v83_8) = outKI (m (c.tc.loc main_arg0)) (m (c.tc.loc main_arg1)) (m (c.tc.loc main_arg2)) (m (c.tc.loc main_arg5))
      ∧ r.2.mem (c.tc.loc main_v83_12) = outGQ (m (c.tc.loc main_arg0)) (m (c.tc.loc main_arg1)) (m (c.tc.loc main_arg2))
      ∧ r.2.mem (c.tc.loc main_v83_13) = outGK (m (c.tc.loc main_arg0)) (m (c.tc.loc main_arg1)) (m (c.tc.loc main_arg2))
      ∧ r.2.mem (c.tc.loc main_v83_14) = outGV (m (c.tc.loc main_arg0)) (m (c.tc.loc main_arg1)) (m (c.tc.loc main_arg2))
      ∧ r.2.mem (c.tc.loc main_v83_15) = outLA (m (c.tc.loc main_arg0)) (m (c.tc.loc main_arg1)) (m (c.tc.loc main_arg2)) (m (c.tc.loc main_arg6)) (m (c.tc.loc main_arg7))
      ∧ r.2.mem (c.tc.loc main_v83_16) = outGR (m (c.tc.loc main_arg0)) (m (c.tc.loc main_arg1)) (m (c.tc.loc main_arg2))
      ∧ r.2.mem (c.tc.loc main_v83_17) = outGA (m (c.tc.loc main_arg0)) (m (c.tc.loc main_arg1)) (m (c.tc.loc main_arg2))
      ∧ r.2.mem (c.tc.loc main_v83_18) = outGB (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨resQ m h.2 c (hm c), resK m h.2 c (hm c), resV m h.2 c (hm c), resQI m h.2 c (hm c), resKI m h.2 c (hm c), resGQ m h.2 c (hm c), resGK m h.2 c (hm c), resGV m h.2 c (hm c), resLA m h.2 c (hm c), resGR m h.2 c (hm c), resGA m h.2 c (hm c), resGB m h.2 c (hm c), h.1 c⟩)
    (θ_run_and (unchanged m ρ) (run_main m ρ))

end Cert.ProjIdeal.Hand
end
-- ==== Proof.Proj.RefValue.lean ====
module

public import proofs.«01_k».proof.Proof.Proj.Blocks
public import proofs.«01_k».proof.Proof.Gen.ProjRefIdeal.Read

@[expose] public section

set_option maxRecDepth 16384

noncomputable section

open Idealize.ShloMosaic Idealize.ShloMosaic.TcCoe Idealize.SL.Sem

/-! ## The projection reference: its columns, norms and rotary turns at an index -/

namespace Cert.ProjRefIdeal.Hand

open Cert.ProjRefIdeal Cert.ProjRefIdeal.Read Cert.Proof.Proj
open Cert.MergeIdeal.Hand (normed)
open Cert.ProjIdeal.Hand (nrow cols co si tok ang)

/-- The rotary turn at column `l` of group `H`. -/
theorem rope_at (y : ℕ → EReal) (c s : Fin 8 → EReal) (H l : ℕ) (hl : l < 64) :
    rope y c s (H * 64 + l) = if l < 8 then y (H * 64 + l) * c ⟨l % 8, Nat.mod_lt _ (by decide)⟩ - y (H * 64 + (l + 8)) * s ⟨l % 8, Nat.mod_lt _ (by decide)⟩
      else if l < 16 then y (H * 64 + l) * c ⟨l % 8, Nat.mod_lt _ (by decide)⟩ + y (H * 64 + (l - 8)) * s ⟨l % 8, Nat.mod_lt _ (by decide)⟩ else y (H * 64 + l) := by
  unfold rope
  have e : (H * 64 + l) % 64 = l := by omega
  have e8 : (⟨(H * 64 + l) % 8, Nat.mod_lt _ (by decide)⟩ : Fin 8) = ⟨l % 8, Nat.mod_lt _ (by decide)⟩ := Fin.ext (by show (H * 64 + l) % 8 = l % 8; omega)
  rw [e, e8]
  by_cases h8 : l < 8
  · rw [if_pos h8, if_pos h8, Nat.add_assoc]
  · rw [if_neg h8, if_neg h8]
    by_cases h16 : l < 16
    · rw [if_pos h16, if_pos h16, show H * 64 + l - 8 = H * 64 + (l - 8) from by omega]
    · rw [if_neg h16, if_neg h16]

/-- The group norm at column `l` of group `H`. -/
theorem gnorm_at (y : ℕ → EReal) (g : Fin 64 → EReal) (H : ℕ) (l : Fin 64) :
    gnorm y g (H * 64 + l.val) = y (H * 64 + l.val) * Ideal.rsqrt (Ideal.div (∑ x : Fin 64, y (H * 64 + x.val) * y (H * 64 + x.val)) (Ideal.ofBits FTy.f32 1115684864#32) + Ideal.ofBits FTy.f32 897988541#32) * g l := by
  unfold gnorm gmean
  have e : (H * 64 + l.val) / 64 * 64 = H * 64 := by omega
  have el : (⟨(H * 64 + l.val) % 64, Nat.mod_lt _ (by decide)⟩ : Fin 64) = l := Fin.ext (by show (H * 64 + l.val) % 64 = l.val; omega)
  rw [e, el]

/-- The concatenated turned columns are the rotary turn. -/
theorem turned {Y : Fin 64 → EReal} {C S : Fin 8 → EReal} {g : ℕ → EReal} {b : Fin 4} {p : Fin 4096} (H : ℕ) (hY : ∀ l, Y l = g (H * 64 + l.val))
    (hC : ∀ i, C i = Ideal.cos (ang p.val i)) (hS : ∀ i, S i = Ideal.sin (ang p.val i)) (l : Fin 64) :
    (if h1 : l.val < 16 then
      if h2 : l.val < 8 then Y l * C ⟨l.val, h2⟩ - Y ⟨8 + l.val, by omega⟩ * S ⟨l.val, h2⟩
      else Y ⟨8 + (l.val - 8), by omega⟩ * C ⟨l.val - 8, by omega⟩ + Y ⟨l.val - 8, by omega⟩ * S ⟨l.val - 8, by omega⟩
    else Y ⟨16 + (l.val - 16), by omega⟩) = rope g (co (tok b p)) (si (tok b p)) (H * 64 + l.val) := by
  have ep : (tok b p).val % 4096 = p.val := by show (b.val * 4096 + p.val) % 4096 = p.val; omega
  have hc (i : Fin 8) : co (tok b p) i = C i := by unfold co; rw [ep, hC]
  have hs (i : Fin 8) : si (tok b p) i = S i := by unfold si; rw [ep, hS]
  rw [rope_at _ _ _ _ _ l.isLt]
  simp only [hc, hs, hY]
  by_cases h8 : l.val < 8
  · have h16 : l.val < 16 := by omega
    have e : (⟨l.val % 8, Nat.mod_lt _ (by decide)⟩ : Fin 8) = ⟨l.val, h8⟩ := Fin.ext (Nat.mod_eq_of_lt h8)
    rw [dif_pos h16, dif_pos h8, if_pos h8, e, Nat.add_comm 8]
  · rw [if_neg h8]
    by_cases h16 : l.val < 16
    · have e : (⟨l.val % 8, Nat.mod_lt _ (by decide)⟩ : Fin 8) = ⟨l.val - 8, by omega⟩ := Fin.ext (by show l.val % 8 = l.val - 8; omega)
      rw [dif_pos h16, dif_neg h8, if_pos h16, e, show 8 + (l.val - 8) = l.val from by omega]
    · rw [dif_neg h16, if_neg h16, show 16 + (l.val - 16) = l.val from by omega]

section
variable (x0 : S16384x1024.Idx → EReal) (x1 : S1024.Idx → EReal) (x2 : S1024x4948.Idx → EReal) (x3 x4 x5 : S64.Idx → EReal)
  (b : Fin 4) (p : Fin 4096)

theorem norm_at (k : Fin 1024) : val_main_v14 (F := Ideal) x0 x1 (ix3 b p k) = nrow x0 x1 (tok b p) k := by
  pointwise [val_main_v14, val_main_v13, val_main_v12, val_main_v11, val_main_v10, val_main_v9, val_main_v8, val_main_v7, val_main_v6, val_main_v5, val_main_v4, val_main_v3, val_main_v2, val_main_v1, val_main_cst_1, val_main_cst_0, val_main_cst]
  rfl

theorem col_at (j : Fin 4948) : val_main_v15 (F := Ideal) x0 x1 x2 (ix3 b p j) = proj (nrow x0 x1 (tok b p)) x2 j.val := by
  have h := norm_at x0 x1 b p
  unfold val_main_v15
  generalize val_main_v14 (F := Ideal) x0 x1 = y at h
  pointwise
  simp only [h]
  unfold proj
  rw [dif_pos j.isLt]

/-- The angle tables. -/
theorem cos_at (i : Fin 8) : val_main_v57 (F := Ideal) (ix2 p i) = Ideal.cos (ang p.val i) := by
  pointwise [val_main_v57, val_main_v56, val_main_v55, val_main_v54, val_main_v53, val_main_v52, val_main_v51, val_main_v50, val_main_v49, val_main_v48, val_main_v47, val_main_v46, val_main_v45, val_main_v44, val_main_v43, val_main_cst_7, val_main_cst_6, val_main_cst_5, val_main_v0]
  rfl
theorem sin_at (i : Fin 8) : val_main_v59 (F := Ideal) (ix2 p i) = Ideal.sin (ang p.val i) := by
  pointwise [val_main_v59, val_main_v56, val_main_v55, val_main_v54, val_main_v53, val_main_v52, val_main_v51, val_main_v50, val_main_v49, val_main_v48, val_main_v47, val_main_v46, val_main_v45, val_main_v44, val_main_v43, val_main_cst_7, val_main_cst_6, val_main_cst_5, val_main_v0]
  rfl

theorem v29_at (h : Fin 8) (l : Fin 64) : val_main_v29 (F := Ideal) x0 x1 x2 (ix4 b p h l) = cols x0 x1 x2 (tok b p) 0 (h.val * 64 + l.val) := by
  have hc := col_at x0 x1 x2 b p
  unfold val_main_v29 val_main_v16
  generalize val_main_v15 (F := Ideal) x0 x1 x2 = y at hc
  pointwise
  rw [hc]
  unfold cols
  congr 1
  exact (Nat.zero_add _).symm

theorem v77_at (h : Fin 4) (l : Fin 64) : val_main_v77 (F := Ideal) x0 x1 x2 (ix4 b p h l) = cols x0 x1 x2 (tok b p) 512 (h.val * 64 + l.val) := by
  have hc := col_at x0 x1 x2 b p
  unfold val_main_v77 val_main_v17
  generalize val_main_v15 (F := Ideal) x0 x1 x2 = y at hc
  pointwise
  rw [hc]
  unfold cols
  congr 1

theorem v125_at (h : Fin 4) (l : Fin 64) : val_main_v125 (F := Ideal) x0 x1 x2 (ix4 b p h l) = cols x0 x1 x2 (tok b p) 768 (h.val * 64 + l.val) := by
  have hc := col_at x0 x1 x2 b p
  unfold val_main_v125 val_main_v18
  generalize val_main_v15 (F := Ideal) x0 x1 x2 = y at hc
  pointwise
  rw [hc]
  unfold cols
  congr 1

theorem v126_at (h : Fin 4) (l : Fin 64) : val_main_v126 (F := Ideal) x0 x1 x2 (ix4 b p h l) = cols x0 x1 x2 (tok b p) 1024 (h.val * 64 + l.val) := by
  have hc := col_at x0 x1 x2 b p
  unfold val_main_v126 val_main_v19
  generalize val_main_v15 (F := Ideal) x0 x1 x2 = y at hc
  pointwise
  rw [hc]
  unfold cols
  congr 1

theorem v42_at (h : Fin 8) (l : Fin 64) :
    val_main_v42 (F := Ideal) x0 x1 x2 x3 (ix4 b p h l) = gnorm (cols x0 x1 x2 (tok b p) 0) (fun k => x3 (ix1 k)) (h.val * 64 + l.val) := by
  have hy := v29_at x0 x1 x2 b p
  unfold val_main_v42 val_main_v41 val_main_v40 val_main_v39 val_main_v38 val_main_v37 val_main_v36 val_main_v35 val_main_v34 val_main_v33 val_main_v32 val_main_v31 val_main_v30 val_main_cst_4 val_main_cst_3 val_main_cst_2
  generalize val_main_v29 (F := Ideal) x0 x1 x2 = y at hy
  rw [gnorm_at]
  pointwise
  simp only [hy]

theorem v90_at (h : Fin 4) (l : Fin 64) :
    val_main_v90 (F := Ideal) x0 x1 x2 x4 (ix4 b p h l) = gnorm (cols x0 x1 x2 (tok b p) 512) (fun k => x4 (ix1 k)) (h.val * 64 + l.val) := by
  have hy := v77_at x0 x1 x2 b p
  unfold val_main_v90 val_main_v89 val_main_v88 val_main_v87 val_main_v86 val_main_v85 val_main_v84 val_main_v83 val_main_v82 val_main_v81 val_main_v80 val_main_v79 val_main_v78 val_main_cst_10 val_main_cst_9 val_main_cst_8
  generalize val_main_v77 (F := Ideal) x0 x1 x2 = y at hy
  rw [gnorm_at]
  pointwise
  simp only [hy]

theorem v76_at (h : Fin 8) (l : Fin 64) :
    val_main_v76 (F := Ideal) x0 x1 x2 x3 (ix4 b p h l) = rope (gnorm (cols x0 x1 x2 (tok b p) 0) fun k => x3 (ix1 k)) (co (tok b p)) (si (tok b p)) (h.val * 64 + l.val) := by
  have hy := v42_at x0 x1 x2 x3 b p
  have hc := cos_at p
  have hs := sin_at p
  unfold val_main_v76 val_main_v75 val_main_v74 val_main_v73 val_main_v72 val_main_v71 val_main_v70 val_main_v69 val_main_v68 val_main_v67 val_main_v66 val_main_v65 val_main_v64 val_main_v63 val_main_v62 val_main_v61 val_main_v60 val_main_v58
  generalize val_main_v42 (F := Ideal) x0 x1 x2 x3 = y at hy
  generalize val_main_v57 (F := Ideal) = C at hc
  generalize val_main_v59 (F := Ideal) = S at hs
  pointwise
  exact turned (Y := fun l => y (ix4 b p h l)) (C := fun i => C (ix2 p i)) (S := fun i => S (ix2 p i)) h.val (hy h) hc hs l

theorem v124_at (h : Fin 4) (l : Fin 64) :
    val_main_v124 (F := Ideal) x0 x1 x2 x4 (ix4 b p h l) = rope (gnorm (cols x0 x1 x2 (tok b p) 512) fun k => x4 (ix1 k)) (co (tok b p)) (si (tok b p)) (h.val * 64 + l.val) := by
  have hy := v90_at x0 x1 x2 x4 b p
  have hc := cos_at p
  have hs := sin_at p
  have hC : val_main_v105 (F := Ideal) = val_main_v57 (F := Ideal) := rfl
  have hS : val_main_v107 (F := Ideal) = val_main_v59 (F := Ideal) := rfl
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v106
  rw [hC, hS]
  generalize val_main_v90 (F := Ideal) x0 x1 x2 x4 = y at hy
  generalize val_main_v57 (F := Ideal) = C at hc
  generalize val_main_v59 (F := Ideal) = S at hs
  pointwise
  exact turned (Y := fun l => y (ix4 b p h l)) (C := fun i => C (ix2 p i)) (S := fun i => S (ix2 p i)) h.val (hy h) hc hs l

theorem v160_at (h : Fin 4) (l : Fin 64) :
    val_main_v160 (F := Ideal) x0 x1 x2 (ix4 b p h l) = rope (cols x0 x1 x2 (tok b p) 1024) (co (tok b p)) (si (tok b p)) (h.val * 64 + l.val) := by
  have hy := v126_at x0 x1 x2 b p
  have hc := cos_at p
  have hs := sin_at p
  have hC : val_main_v141 (F := Ideal) = val_main_v57 (F := Ideal) := rfl
  have hS : val_main_v143 (F := Ideal) = val_main_v59 (F := Ideal) := rfl
  unfold val_main_v160 val_main_v159 val_main_v158 val_main_v157 val_main_v156 val_main_v155 val_main_v154 val_main_v153 val_main_v152 val_main_v151 val_main_v150 val_main_v149 val_main_v148 val_main_v147 val_main_v146 val_main_v145 val_main_v144 val_main_v142
  rw [hC, hS]
  generalize val_main_v126 (F := Ideal) x0 x1 x2 = y at hy
  generalize val_main_v57 (F := Ideal) = C at hc
  generalize val_main_v59 (F := Ideal) = S at hs
  pointwise
  exact turned (Y := fun l => y (ix4 b p h l)) (C := fun i => C (ix2 p i)) (S := fun i => S (ix2 p i)) h.val (hy h) hc hs l

theorem v20_at (l : Fin 64) : val_main_v20 (F := Ideal) x0 x1 x2 (ix3 b p l) = cols x0 x1 x2 (tok b p) 1280 l.val := by
  have hc := col_at x0 x1 x2 b p
  unfold val_main_v20
  generalize val_main_v15 (F := Ideal) x0 x1 x2 = y at hc
  pointwise
  rw [hc]
  unfold cols
  congr 1

theorem v173_at (l : Fin 64) : val_main_v173 (F := Ideal) x0 x1 x2 x5 (ix3 b p l) = gnorm (cols x0 x1 x2 (tok b p) 1280) (fun k => x5 (ix1 k)) l.val := by
  have hy := v20_at x0 x1 x2 b p
  unfold val_main_v173 val_main_v172 val_main_v171 val_main_v170 val_main_v169 val_main_v168 val_main_v167 val_main_v166 val_main_v165 val_main_v164 val_main_v163 val_main_v162 val_main_v161 val_main_cst_19 val_main_cst_18 val_main_cst_17
  generalize val_main_v20 (F := Ideal) x0 x1 x2 = y at hy
  have e := gnorm_at (cols x0 x1 x2 (tok b p) 1280) (fun k => x5 (ix1 k)) 0 l
  simp only [Nat.zero_mul, Nat.zero_add] at e
  rw [e]
  pointwise
  simp only [hy]

theorem v208_at (l : Fin 64) :
    val_main_v208 (F := Ideal) x0 x1 x2 x5 (ix4 b p 0 l) = rope (gnorm (cols x0 x1 x2 (tok b p) 1280) fun k => x5 (ix1 k)) (co (tok b p)) (si (tok b p)) l.val := by
  have hy := v173_at x0 x1 x2 x5 b p
  have hc := cos_at p
  have hs := sin_at p
  have hC : val_main_v189 (F := Ideal) = val_main_v57 (F := Ideal) := rfl
  have hS : val_main_v191 (F := Ideal) = val_main_v59 (F := Ideal) := rfl
  unfold val_main_v208 val_main_v207 val_main_v206 val_main_v205 val_main_v204 val_main_v203 val_main_v202 val_main_v201 val_main_v200 val_main_v199 val_main_v198 val_main_v197 val_main_v196 val_main_v195 val_main_v194 val_main_v193 val_main_v192 val_main_v190 val_main_v174
  rw [hC, hS]
  generalize val_main_v173 (F := Ideal) x0 x1 x2 x5 = y at hy
  generalize val_main_v57 (F := Ideal) = C at hc
  generalize val_main_v59 (F := Ideal) = S at hs
  pointwise
  exact (turned (b := b) (Y := fun l => y (ix3 b p l)) (C := fun i => C (ix2 p i)) (S := fun i => S (ix2 p i)) 0
    (fun l => (hy l).trans (by rw [Nat.zero_mul, Nat.zero_add])) hc hs l).trans (by rw [Nat.zero_mul, Nat.zero_add])

end

end Cert.ProjRefIdeal.Hand
end
-- ==== Proof.Proj.RefResults.lean ====
module

public import proofs.«01_k».proof.Proof.Proj.RefValue

@[expose] public section

set_option maxRecDepth 16384

noncomputable section

open Idealize.ShloMosaic Idealize.ShloMosaic.TcCoe Idealize.SL.Sem

/-! ## The projection reference: its results are the kernel's functions of the arguments -/

namespace Cert.ProjRefIdeal.Hand

open Cert.ProjRefIdeal Cert.ProjRefIdeal.Read Cert.Proof.Proj
open Cert.ProjIdeal.Hand (nrow cols co si tok outQ outK outV outQI outKI outGQ outGK outGV outLA outGR outGA outGB)

/-- A token is a place of a sequence. -/
theorem tok_of (R : Fin 16384) : tok ⟨R.val / 4096, by omega⟩ ⟨R.val % 4096, Nat.mod_lt _ (by decide)⟩ = R :=
  Fin.ext (by show R.val / 4096 * 4096 + R.val % 4096 = R.val; omega)

/-- A column is one of its head. -/
theorem col_of (j : ℕ) : j / 64 * 64 + j % 64 = j := by omega

section
variable (x0 : S16384x1024.Idx → EReal) (x1 : S1024.Idx → EReal) (x2 : S1024x4948.Idx → EReal) (x3 x4 x5 : S64.Idx → EReal) (x6 : S16x256.Idx → EReal) (x7 : S256.Idx → EReal)

/-- The queries. -/
theorem valueQ : val_main_v222 (F := Ideal) x0 x1 x2 x3 = outQ x0 x1 x2 x3 := by
  funext i
  obtain ⟨R, j, rfl⟩ : ∃ (R : Fin 16384) (j : Fin 512), i = ix2 R j := ⟨i 0, i 1, eq_ix2 (n0 := 16384) (n1 := 512) i⟩
  have hy := v76_at x0 x1 x2 x3
  unfold val_main_v222 val_main_v221 val_main_v220 val_main_v219 val_main_cst_25
  generalize val_main_v76 (F := Ideal) x0 x1 x2 x3 = y at hy
  pointwise
  rw [hy, tok_of]
  simp only [col_of]
  rfl

/-- The keys, a sequence's columns by its places. -/
theorem valueK : val_main_v224 (F := Ideal) x0 x1 x2 x4 = outK x0 x1 x2 x4 := by
  funext i
  obtain ⟨b, j, p, rfl⟩ : ∃ (b : Fin 4) (j : Fin 256) (p : Fin 4096), i = ix3 b j p := ⟨i 0, i 1, i 2, eq_ix3 (n0 := 4) (n1 := 256) (n2 := 4096) i⟩
  have hy := v124_at x0 x1 x2 x4
  unfold val_main_v224 val_main_v223
  generalize val_main_v124 (F := Ideal) x0 x1 x2 x4 = y at hy
  pointwise
  rw [hy]
  simp only [col_of]
  rfl

/-- The values, likewise. -/
theorem valueV : val_main_v226 (F := Ideal) x0 x1 x2 = outV x0 x1 x2 := by
  funext i
  obtain ⟨b, j, p, rfl⟩ : ∃ (b : Fin 4) (j : Fin 256) (p : Fin 4096), i = ix3 b j p := ⟨i 0, i 1, i 2, eq_ix3 (n0 := 4) (n1 := 256) (n2 := 4096) i⟩
  have hy := v125_at x0 x1 x2
  unfold val_main_v226 val_main_v225
  generalize val_main_v125 (F := Ideal) x0 x1 x2 = y at hy
  pointwise
  rw [hy]
  simp only [col_of]
  rfl

/-- The index queries. -/
theorem valueQI : val_main_v228 (F := Ideal) x0 x1 x2 = outQI x0 x1 x2 := by
  funext i
  obtain ⟨R, j, rfl⟩ : ∃ (R : Fin 16384) (j : Fin 256), i = ix2 R j := ⟨i 0, i 1, eq_ix2 (n0 := 16384) (n1 := 256) i⟩
  have hy := v160_at x0 x1 x2
  unfold val_main_v228 val_main_v227
  generalize val_main_v160 (F := Ideal) x0 x1 x2 = y at hy
  pointwise
  rw [hy, tok_of]
  simp only [col_of]
  rfl

/-- The index keys, a sequence's columns by its places. -/
theorem valueKI : val_main_v229 (F := Ideal) x0 x1 x2 x5 = outKI x0 x1 x2 x5 := by
  funext i
  obtain ⟨b, j, p, rfl⟩ : ∃ (b : Fin 4) (j : Fin 64) (p : Fin 4096), i = ix3 b j p := ⟨i 0, i 1, i 2, eq_ix3 (n0 := 4) (n1 := 64) (n2 := 4096) i⟩
  have hy := v208_at x0 x1 x2 x5
  unfold val_main_v229 val_main_v209
  generalize val_main_v208 (F := Ideal) x0 x1 x2 x5 = y at hy
  pointwise
  rw [hy]
  rfl

/-- The recurrence's queries. -/
theorem valueGQ : val_main_v230 (F := Ideal) x0 x1 x2 = outGQ x0 x1 x2 := by
  funext i
  obtain ⟨R, j, rfl⟩ : ∃ (R : Fin 16384) (j : Fin 256), i = ix2 R j := ⟨i 0, i 1, eq_ix2 (n0 := 16384) (n1 := 256) i⟩
  have hy := col_at x0 x1 x2
  unfold val_main_v230 val_main_v211 val_main_v210 val_main_cst_23 val_main_v22
  generalize val_main_v15 (F := Ideal) x0 x1 x2 = y at hy
  pointwise
  rw [hy, tok_of]
  rfl

/-- The recurrence's keys. -/
theorem valueGK : val_main_v231 (F := Ideal) x0 x1 x2 = outGK x0 x1 x2 := by
  funext i
  obtain ⟨R, j, rfl⟩ : ∃ (R : Fin 16384) (j : Fin 256), i = ix2 R j := ⟨i 0, i 1, eq_ix2 (n0 := 16384) (n1 := 256) i⟩
  have hy := col_at x0 x1 x2
  unfold val_main_v231 val_main_v23
  generalize val_main_v15 (F := Ideal) x0 x1 x2 = y at hy
  pointwise
  rw [hy, tok_of]
  rfl

/-- The recurrence's values. -/
theorem valueGV : val_main_v232 (F := Ideal) x0 x1 x2 = outGV x0 x1 x2 := by
  funext i
  obtain ⟨R, j, rfl⟩ : ∃ (R : Fin 16384) (j : Fin 512), i = ix2 R j := ⟨i 0, i 1, eq_ix2 (n0 := 16384) (n1 := 512) i⟩
  have hy := col_at x0 x1 x2
  unfold val_main_v232 val_main_v24
  generalize val_main_v15 (F := Ideal) x0 x1 x2 = y at hy
  pointwise
  rw [hy, tok_of]
  rfl

/-- The log decays. -/
theorem valueLA : val_main_v233 (F := Ideal) x0 x1 x2 x6 x7 = outLA x0 x1 x2 x6 x7 := by
  funext i
  obtain ⟨R, j, rfl⟩ : ∃ (R : Fin 16384) (j : Fin 256), i = ix2 R j := ⟨i 0, i 1, eq_ix2 (n0 := 16384) (n1 := 256) i⟩
  have hy := col_at x0 x1 x2
  unfold val_main_v233 val_main_v218 val_main_v217 val_main_cst_24 val_main_v216 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v215 val_main_v214 val_main_v213 val_main_v212 val_main_v25
  generalize val_main_v15 (F := Ideal) x0 x1 x2 = y at hy
  pointwise
  simp only [hy, tok_of, ne_eq, not_true_eq_false, if_false]
  have e := logd_eq (∑ x : Fin 16, cols x0 x1 x2 R 2372 x.val * x6 (ix2 x j) + x7 (ix1 j))
  simp only [sub_zero] at e
  exact e

/-- The recurrence's gates. -/
theorem valueGR : val_main_v234 (F := Ideal) x0 x1 x2 = outGR x0 x1 x2 := by
  funext i
  obtain ⟨R, j, rfl⟩ : ∃ (R : Fin 16384) (j : Fin 512), i = ix2 R j := ⟨i 0, i 1, eq_ix2 (n0 := 16384) (n1 := 512) i⟩
  have hy := col_at x0 x1 x2
  unfold val_main_v234 val_main_v26
  generalize val_main_v15 (F := Ideal) x0 x1 x2 = y at hy
  pointwise
  rw [hy, tok_of]
  rfl

/-- The merge's first gates. -/
theorem valueGA : val_main_v235 (F := Ideal) x0 x1 x2 = outGA x0 x1 x2 := by
  funext i
  obtain ⟨R, j, rfl⟩ : ∃ (R : Fin 16384) (j : Fin 1024), i = ix2 R j := ⟨i 0, i 1, eq_ix2 (n0 := 16384) (n1 := 1024) i⟩
  have hy := col_at x0 x1 x2
  unfold val_main_v235 val_main_v27
  generalize val_main_v15 (F := Ideal) x0 x1 x2 = y at hy
  pointwise
  rw [hy, tok_of]
  rfl

/-- The merge's second gates. -/
theorem valueGB : val_main_v236 (F := Ideal) x0 x1 x2 = outGB x0 x1 x2 := by
  funext i
  obtain ⟨R, j, rfl⟩ : ∃ (R : Fin 16384) (j : Fin 1024), i = ix2 R j := ⟨i 0, i 1, eq_ix2 (n0 := 16384) (n1 := 1024) i⟩
  have hy := col_at x0 x1 x2
  unfold val_main_v236 val_main_v28
  generalize val_main_v15 (F := Ideal) x0 x1 x2 = y at hy
  pointwise
  rw [hy, tok_of]
  rfl

end

end Cert.ProjRefIdeal.Hand
end
-- ==== Proof.Proj.Claim.lean ====
module

public import proofs.«01_k».proof.Defs
public import proofs.«01_k».proof.Proof.Proj.Run
public import proofs.«01_k».proof.Proof.Proj.RefResults
public import proofs.«01_k».proof.Proof.Gen.ProjRefIdeal.Run
public import proofs.«01_k».proof.Proof.Gen.Pre_proj_finite

@[expose] public section

set_option maxRecDepth 16384

noncomputable section

open Idealize.ShloMosaic Idealize.ShloMosaic.TcCoe Idealize.SL.Sem Idealize.ShloMosaic.StableHlo

/-! ## The projection claim -/

namespace Cert.Proof.Proj

/-- A value whose magnitude compares below infinity is a real number. -/
theorem real_of_finite (a : EReal) (h : Ideal.cmp .olt (FloatOps.absf (F := Ideal) (φ := FTy.f32) a) (Ideal.ofBits FTy.f32 2139095040#32) = 1#1) : Re a := by
  rw [show Ideal.ofBits FTy.f32 2139095040#32 = (⊤ : EReal) from by decide +kernel] at h
  have hlt : (max a (-a) : EReal) < ⊤ := by
    by_contra hn
    rw [show Ideal.cmp .olt (FloatOps.absf (F := Ideal) (φ := FTy.f32) a) (⊤ : EReal) = 0#1 from congrArg BitVec.ofBool (decide_eq_false hn)] at h
    exact absurd h (by decide)
  induction a using EReal.rec with
  | bot => exact absurd hlt (by simp)
  | top => exact absurd hlt (by simp)
  | coe r => exact ⟨r, rfl⟩

/-- The precondition makes the activations, the norm's weights, the projection's weights and the decay's weights real numbers. -/
theorem reals (m : (ℓ : Loc Cert.ProjIdeal.nD Cert.ProjIdeal.τ Cert.ProjIdeal.sig) → Buf (Elt Ideal) ℓ)
    (h : Cert.Pre_ProjIdeal_proj_finite (hPre_proj_finite := Cert.Pre_proj_finite.Gen.facts) m) (c : Dev Cert.ProjIdeal.nD) : Cert.ProjIdeal.Hand.Reals m c := by
  have hc := h c
  refine ⟨fun i => ?_, fun i => ?_, fun i => ?_, fun i => ?_⟩
  · have hi := congrFun hc.1 i
    generalize m (c.tc.loc Cert.ProjIdeal.main_arg0) = x at hi ⊢
    idx_vars i
    revert hi
    pointwise [Cert.Pre_proj_finite.fn]
    exact real_of_finite _
  · have hi := congrFun hc.2.1 i
    generalize m (c.tc.loc Cert.ProjIdeal.main_arg1) = x at hi ⊢
    idx_vars i
    revert hi
    pointwise [Cert.Pre_proj_finite.fn]
    exact real_of_finite _
  · have hi := congrFun hc.2.2.1 i
    generalize m (c.tc.loc Cert.ProjIdeal.main_arg2) = x at hi ⊢
    idx_vars i
    revert hi
    pointwise [Cert.Pre_proj_finite.fn]
    exact real_of_finite _
  · have hi := congrFun hc.2.2.2 i
    generalize m (c.tc.loc Cert.ProjIdeal.main_arg6) = x at hi ⊢
    idx_vars i
    revert hi
    pointwise [Cert.Pre_proj_finite.fn]
    exact real_of_finite _

/-- Where those are finite, the kernel's twelve results and the reference's are the same functions of the arguments. -/
theorem algebraic : Cert.algebraic_ProjIdeal_ProjRefIdeal_pre_proj_finite (hProjIdeal := Cert.ProjIdeal.Gen.facts) (hProjRefIdeal := Cert.ProjRefIdeal.Gen.facts) (hPre_proj_finite := Cert.Pre_proj_finite.Gen.facts) := by
  intro m ρ m' ρ' hp h
  have h0 (c : Dev 1) : launchContents m' c (Proc.devRef .tc Cert.ProjRefIdeal.main_arg0) = m (c.tc.loc Cert.ProjIdeal.main_arg0) := (h c).1
  have h1 (c : Dev 1) : launchContents m' c (Proc.devRef .tc Cert.ProjRefIdeal.main_arg1) = m (c.tc.loc Cert.ProjIdeal.main_arg1) := (h c).2.1
  have h2 (c : Dev 1) : launchContents m' c (Proc.devRef .tc Cert.ProjRefIdeal.main_arg2) = m (c.tc.loc Cert.ProjIdeal.main_arg2) := (h c).2.2.1
  have h3 (c : Dev 1) : launchContents m' c (Proc.devRef .tc Cert.ProjRefIdeal.main_arg3) = m (c.tc.loc Cert.ProjIdeal.main_arg3) := (h c).2.2.2.1
  have h4 (c : Dev 1) : launchContents m' c (Proc.devRef .tc Cert.ProjRefIdeal.main_arg4) = m (c.tc.loc Cert.ProjIdeal.main_arg4) := (h c).2.2.2.2.1
  have h5 (c : Dev 1) : launchContents m' c (Proc.devRef .tc Cert.ProjRefIdeal.main_arg5) = m (c.tc.loc Cert.ProjIdeal.main_arg5) := (h c).2.2.2.2.2.1
  have h6 (c : Dev 1) : launchContents m' c (Proc.devRef .tc Cert.ProjRefIdeal.main_arg6) = m (c.tc.loc Cert.ProjIdeal.main_arg6) := (h c).2.2.2.2.2.2.1
  have h7 (c : Dev 1) : launchContents m' c (Proc.devRef .tc Cert.ProjRefIdeal.main_arg7) = m (c.tc.loc Cert.ProjIdeal.main_arg7) := (h c).2.2.2.2.2.2.2
  refine ⟨_, _, _, _, _, _, _, _, _, _, _, _, Cert.ProjIdeal.Hand.run m ρ (reals m hp),
    (θ_run Cert.ProjRefIdeal.defs _ _).mono (fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2.1.trans ?_, (hr c).2.2.2.2.2.2.2.2.1.trans ?_, (hr c).2.2.2.2.2.2.2.2.2.1.trans ?_, (hr c).2.2.2.2.2.2.2.2.2.2.1.trans ?_, (hr c).2.2.2.2.2.2.2.2.2.2.2.1.trans ?_, (hr c).2.2.2.2.2.2.2.2.2.2.2.2⟩) (Cert.ProjRefIdeal.Value.run (F := Ideal) m' ρ')⟩
  · exact (Cert.ProjRefIdeal.Read.val_main_v222_eq _).trans ((Cert.ProjRefIdeal.Hand.valueQ _ _ _ _).trans (by rw [h0 c, h1 c, h2 c, h3 c]))
  · exact (Cert.ProjRefIdeal.Read.val_main_v224_eq _).trans ((Cert.ProjRefIdeal.Hand.valueK _ _ _ _).trans (by rw [h0 c, h1 c, h2 c, h4 c]))
  · exact (Cert.ProjRefIdeal.Read.val_main_v226_eq _).trans ((Cert.ProjRefIdeal.Hand.valueV _ _ _).trans (by rw [h0 c, h1 c, h2 c]))
  · exact (Cert.ProjRefIdeal.Read.val_main_v228_eq _).trans ((Cert.ProjRefIdeal.Hand.valueQI _ _ _).trans (by rw [h0 c, h1 c, h2 c]))
  · exact (Cert.ProjRefIdeal.Read.val_main_v229_eq _).trans ((Cert.ProjRefIdeal.Hand.valueKI _ _ _ _).trans (by rw [h0 c, h1 c, h2 c, h5 c]))
  · exact (Cert.ProjRefIdeal.Read.val_main_v230_eq _).trans ((Cert.ProjRefIdeal.Hand.valueGQ _ _ _).trans (by rw [h0 c, h1 c, h2 c]))
  · exact (Cert.ProjRefIdeal.Read.val_main_v231_eq _).trans ((Cert.ProjRefIdeal.Hand.valueGK _ _ _).trans (by rw [h0 c, h1 c, h2 c]))
  · exact (Cert.ProjRefIdeal.Read.val_main_v232_eq _).trans ((Cert.ProjRefIdeal.Hand.valueGV _ _ _).trans (by rw [h0 c, h1 c, h2 c]))
  · exact (Cert.ProjRefIdeal.Read.val_main_v233_eq _).trans ((Cert.ProjRefIdeal.Hand.valueLA _ _ _ _ _).trans (by rw [h0 c, h1 c, h2 c, h6 c, h7 c]))
  · exact (Cert.ProjRefIdeal.Read.val_main_v234_eq _).trans ((Cert.ProjRefIdeal.Hand.valueGR _ _ _).trans (by rw [h0 c, h1 c, h2 c]))
  · exact (Cert.ProjRefIdeal.Read.val_main_v235_eq _).trans ((Cert.ProjRefIdeal.Hand.valueGA _ _ _).trans (by rw [h0 c, h1 c, h2 c]))
  · exact (Cert.ProjRefIdeal.Read.val_main_v236_eq _).trans ((Cert.ProjRefIdeal.Hand.valueGB _ _ _).trans (by rw [h0 c, h1 c, h2 c]))

/-- The projection's reference runs, leaves its arguments as they were and ends with no semaphore raised. -/
theorem frame_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2.2.2.2.2.2, sem_eq_zero_of_no_sems (by decide) r.2⟩) (Cert.ProjRefIdeal.Value.run (F := Ideal) m ρ)

/-- With the precondition too, which is not used. -/
theorem frame_ref_pre : Cert.quiescent_ProjRefIdeal_pre_proj_finite (hProjRefIdeal := Cert.ProjRefIdeal.Gen.facts) (hPre_proj_finite := Cert.Pre_proj_finite.Gen.facts) := fun m ρ _ =>
  (θ_run Cert.ProjRefIdeal.defs _ _).mono (fun r h => ⟨fun c => (h c).2.2.2.2.2.2.2.2.2.2.2.2, sem_eq_zero_of_no_sems (by decide) r.2⟩) (Cert.ProjRefIdeal.Value.run (F := Ideal) m ρ)

end Cert.Proof.Proj
end
-- ==== Proof.FfnS.Kernel.lean ====
module

public import proofs.«01_k».proof.Proof.Gen.FfnSIdeal.Value
public import proofs.«01_k».proof.Proof.Ffn.Kernel

@[expose] public section

set_option maxRecDepth 1024

noncomputable section

open Idealize.ShloMosaic Idealize.ShloMosaic.TcCoe Idealize.SL.Sem
open Idealize.ShloMosaic.Pipeline (Dat)

/-! ## The feed-forward call of the sample group: what its result array holds -/

namespace Cert.FfnSIdeal.Hand

open Cert.FfnSIdeal Cert.FfnSIdeal.Gen
open Cert.FfnIdeal.Hand (hz gated hidden out halves)

section
variable {F : FTy → Type} [FloatOps F]

/-- The first half of a row block's hidden columns: the carried scratch ends at zero plus that half's product. -/
theorem sout_A (c : Dev nD) (i : grid0.Coords) (a2 h2 a3 h3 a4 h4 a5 h5 a6 h6 a7 h7 a8 h8) (hc0 : cond0_0 i) (hc1 : ¬cond0_1 i)
    (x0 : Vec F S512x1024 .bf16) (x1 : Vec F S512x1024 .f32) (x2 : Vec F S1024x2816 .bf16) (x3 : Vec F S1024x2816 .bf16) (x4 : Vec F S2816x1024 .bf16) :
    sout0_A_0 c i a2 h2 a3 h3 a4 h4 a5 h5 a6 h6 a7 h7 a8 h8 hc0 hc1 x0 x1 x2 x3 x4
      = k0_pay3 x0 (View.ld x2 (Rect.unit (s := S1024x2816) (k0_off1 i) S1024x1408.size (k0_off1_inb i))) (View.ld x3 (Rect.unit (s := S1024x2816) (k0_off1 i) S1024x1408.size (k0_off1_inb i))) (k0_pay2 (F := F)) (View.ld x4 (Rect.unit (s := S2816x1024) (k0_off2 i) S1408x1024.size (k0_off2_inb i))) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, h2.read_unread, h4.read_unread, h5.read_unread, h6.read_unread, View.ld_unit_zero (S := S512x1024) hz]

/-- The second half: the block written is the residual plus what the scratch held plus that half's product. -/
theorem out_B (c : Dev nD) (i : grid0.Coords) (a2 h2 a3 h3 a4 h4 a5 h5 a6 h6 a7 h7 a8 h8) (hc0 : ¬cond0_0 i) (hc1 : cond0_1 i)
    (x0 : Vec F S512x1024 .bf16) (x1 : Vec F S512x1024 .f32) (x2 : Vec F S1024x2816 .bf16) (x3 : Vec F S1024x2816 .bf16) (x4 : Vec F S2816x1024 .bf16) (xs : Vec F S512x1024 .f32) :
    out0_B_5 c i a2 h2 a3 h3 a4 h4 a5 h5 a6 h6 a7 h7 a8 h8 hc0 hc1 x0 x1 x2 x3 x4 xs
      = k0_pay1 x1 (k0_pay3 x0 (View.ld x2 (Rect.unit (s := S1024x2816) (k0_off1 i) S1024x1408.size (k0_off1_inb i))) (View.ld x3 (Rect.unit (s := S1024x2816) (k0_off1 i) S1024x1408.size (k0_off1_inb i))) xs (View.ld x4 (Rect.unit (s := S2816x1024) (k0_off2 i) S1408x1024.size (k0_off2_inb i)))) := by
  unfold out0_B_5
  rw [View.read_writes_eq_canon _ _ _ (cover0_B_5 c i a2 h2 a3 h3 a4 h4 a5 h5 a6 h6 a7 h7 a8 h8 hc0 hc1 x0 x1 x2 x3 x4 xs)]
  unfold kernelRun0_B
  dsimp only
  sl_unfold_words
  rw [View.canon_unit_zero hz, View.readCov_unit_zero (S := S512x1024) _ hz]
  simp only [View.readAt_eq_ld, h2.read_unread, h3.read_unread, h4.read_unread, h5.read_unread, h6.read_unread, h8.read_unread, View.ld_unit_zero (S := S512x1024) hz]
end

/-- One grid point's product at an index: the accumulator plus the sum over that half's 1408 hidden units. -/
theorem pay3_apply (x0 : Vec Ideal S512x1024 .bf16) (g : Vec Ideal S1024x1408 .bf16) (u : Vec Ideal S1024x1408 .bf16) (a : Vec Ideal S512x1024 .f32) (d : Vec Ideal S1408x1024 .bf16) (j0 : Fin 512) (j1 : Fin 1024) :
    k0_pay3 x0 g u a d (ix2 j0 j1) = a (ix2 j0 j1) + ∑ x : Fin 1408,
      gated (∑ k : Fin 1024, x0 (ix2 j0 k) * g (ix2 k x)) (∑ k : Fin 1024, x0 (ix2 j0 k) * u (ix2 k x)) * d (ix2 x j1) :=
  Cert.FfnIdeal.Hand.pay3_apply x0 g u a d j0 j1

variable (m : (ℓ : Loc nD τ sig) → Buf (Elt Ideal) ℓ) (ρ : Dev nD → PrngReg)

theorem V_v1 (c : Dev nD) (k : Fin 1024) (j : Fin 2816) :
    V m c main_v1 (ix2 k j) = m (c.tc.loc main_arg2) (ix2 k ⟨j.val, by omega⟩) := by
  entry_read
  pointwise
theorem V_v3 (c : Dev nD) (k : Fin 1024) (j : Fin 2816) :
    V m c main_v3 (ix2 k j) = m (c.tc.loc main_arg2) (ix2 k ⟨2816 + j.val, by omega⟩) := by
  entry_read
  pointwise
theorem V_v4 (c : Dev nD) (j : Fin 2816) (k : Fin 1024) :
    V m c main_v4 (ix2 j k) = m (c.tc.loc main_arg3) (ix2 j k) := by
  entry_read
  pointwise

theorem off1 : ∀ t : Fin cfg0.N, k0_off1 (grid0.coords t) = ![0, t.val % 2 * 1408] :=
  (by decide +kernel : ∀ t : Fin grid0.N, _)
theorem off2 : ∀ t : Fin cfg0.N, k0_off2 (grid0.coords t) = ![t.val % 2 * 1408, 0] :=
  (by decide +kernel : ∀ t : Fin grid0.N, _)
theorem idx : ∀ t : Fin cfg0.N, win0_0.index t = ![t.val / 2, 0] ∧ win0_1.index t = ![t.val / 2, 0] ∧ win0_2.index t = ![0, 0]
    ∧ win0_3.index t = ![0, 0] ∧ win0_4.index t = ![0, 0] ∧ win0_5.index t = ![t.val / 2, 0] :=
  (by decide +kernel : ∀ t : Fin grid0.N, _)

theorem blk0 (c : Dev nD) (t : Fin cfg0.N) (r : Fin 512) (k : Fin 1024) (R : Fin 1024) (hR : R.val = t.val / 2 * 512 + r.val) :
    (iblk m c 0 t : Vec Ideal S512x1024 .bf16) (ix2 r k) = m (c.tc.loc main_arg0) (ix2 R k) := by
  blk_ext! [iblk, V_main_arg0, (idx t).1]
theorem blk1 (c : Dev nD) (t : Fin cfg0.N) (r : Fin 512) (k : Fin 1024) (R : Fin 1024) (hR : R.val = t.val / 2 * 512 + r.val) :
    (iblk m c 1 t : Vec Ideal S512x1024 .f32) (ix2 r k) = m (c.tc.loc main_arg1) (ix2 R k) := by
  blk_ext! [iblk, V_main_arg1, (idx t).2.1]
/-- The gate columns loaded at a point are that half of the gate matrix … -/
theorem ld_gate (c : Dev nD) (t : Fin cfg0.N) (k : Fin 1024) (j : Fin 1408) (J : Fin 2816) (hJ : J.val = t.val % 2 * 1408 + j.val) :
    (View.ld (iblk m c 2 t : Vec Ideal S1024x2816 .bf16) (Rect.unit (s := S1024x2816) (k0_off1 (grid0.coords t)) S1024x1408.size (k0_off1_inb (grid0.coords t)))) (ix2 k j) = V m c main_v1 (ix2 k J) := by
  refine (View.ld_unit_apply_of _ _ _ _ _ (ix2 k J) (fun a => ?_)).trans ?_
  · match a with
    | ⟨0, _⟩ => show k.val = k0_off1 (grid0.coords t) 0 + k.val; have := congrFun (off1 t) 0; have h : k0_off1 (grid0.coords t) 0 = 0 := this; omega
    | ⟨1, _⟩ => show J.val = k0_off1 (grid0.coords t) 1 + j.val; have := congrFun (off1 t) 1; have h : k0_off1 (grid0.coords t) 1 = t.val % 2 * 1408 := this; omega
  · blk_ext [iblk, (idx t).2.2.1]
/-- … the up columns that half of the up matrix … -/
theorem ld_up (c : Dev nD) (t : Fin cfg0.N) (k : Fin 1024) (j : Fin 1408) (J : Fin 2816) (hJ : J.val = t.val % 2 * 1408 + j.val) :
    (View.ld (iblk m c 3 t : Vec Ideal S1024x2816 .bf16) (Rect.unit (s := S1024x2816) (k0_off1 (grid0.coords t)) S1024x1408.size (k0_off1_inb (grid0.coords t)))) (ix2 k j) = V m c main_v3 (ix2 k J) := by
  refine (View.ld_unit_apply_of _ _ _ _ _ (ix2 k J) (fun a => ?_)).trans ?_
  · match a with
    | ⟨0, _⟩ => show k.val = k0_off1 (grid0.coords t) 0 + k.val; have := congrFun (off1 t) 0; have h : k0_off1 (grid0.coords t) 0 = 0 := this; omega
    | ⟨1, _⟩ => show J.val = k0_off1 (grid0.coords t) 1 + j.val; have := congrFun (off1 t) 1; have h : k0_off1 (grid0.coords t) 1 = t.val % 2 * 1408 := this; omega
  · blk_ext [iblk, (idx t).2.2.2.1]
/-- … and the down rows that half of the down matrix. -/
theorem ld_down (c : Dev nD) (t : Fin cfg0.N) (j : Fin 1408) (k : Fin 1024) (J : Fin 2816) (hJ : J.val = t.val % 2 * 1408 + j.val) :
    (View.ld (iblk m c 4 t : Vec Ideal S2816x1024 .bf16) (Rect.unit (s := S2816x1024) (k0_off2 (grid0.coords t)) S1408x1024.size (k0_off2_inb (grid0.coords t)))) (ix2 j k) = V m c main_v4 (ix2 J k) := by
  refine (View.ld_unit_apply_of _ _ _ _ _ (ix2 J k) (fun a => ?_)).trans ?_
  · match a with
    | ⟨0, _⟩ => show J.val = k0_off2 (grid0.coords t) 0 + j.val; have := congrFun (off2 t) 0; have h : k0_off2 (grid0.coords t) 0 = t.val % 2 * 1408 := this; omega
    | ⟨1, _⟩ => show k.val = k0_off2 (grid0.coords t) 1 + k.val; have := congrFun (off2 t) 1; have h : k0_off2 (grid0.coords t) 1 = 0 := this; omega
  · blk_ext [iblk, (idx t).2.2.2.2.1]

/-- What a grid point adds to its accumulator, over the argument arrays. -/
theorem point (c : Dev nD) (t : Fin cfg0.N) (a : Vec Ideal S512x1024 .f32) (r : Fin 512) (d : Fin 1024) (R : Fin 1024)
    (hR : R.val = t.val / 2 * 512 + r.val) (p : Fin 2) (hp : p.val = t.val % 2) :
    k0_pay3 (iblk m c 0 t : Vec Ideal S512x1024 .bf16)
      (View.ld (iblk m c 2 t : Vec Ideal S1024x2816 .bf16) (Rect.unit (s := S1024x2816) (k0_off1 (grid0.coords t)) S1024x1408.size (k0_off1_inb (grid0.coords t))))
      (View.ld (iblk m c 3 t : Vec Ideal S1024x2816 .bf16) (Rect.unit (s := S1024x2816) (k0_off1 (grid0.coords t)) S1024x1408.size (k0_off1_inb (grid0.coords t)))) a
      (View.ld (iblk m c 4 t : Vec Ideal S2816x1024 .bf16) (Rect.unit (s := S2816x1024) (k0_off2 (grid0.coords t)) S1408x1024.size (k0_off2_inb (grid0.coords t)))) (ix2 r d)
    = a (ix2 r d) + ∑ x : Fin 1408, hidden (m (c.tc.loc main_arg0)) (m (c.tc.loc main_arg2)) R ⟨p.val * 1408 + x.val, by omega⟩
        * m (c.tc.loc main_arg3) (ix2 ⟨p.val * 1408 + x.val, by omega⟩ d) := by
  rw [pay3_apply]
  refine congrArg (a (ix2 r d) + ·) (Finset.sum_congr rfl fun x _ => ?_)
  rw [ld_down m c t x d ⟨p.val * 1408 + x.val, by omega⟩ (by show p.val * 1408 + x.val = _; omega), V_v4]
  refine congrArg (fun z : EReal => z * (m (c.tc.loc main_arg3) (ix2 ⟨p.val * 1408 + x.val, by omega⟩ d) : EReal)) ?_
  unfold Cert.FfnIdeal.Hand.hidden
  refine congrArg₂ gated (Finset.sum_congr rfl fun k _ => ?_) (Finset.sum_congr rfl fun k _ => ?_)
  · rw [blk0 m c t r k R hR, ld_gate m c t k x ⟨p.val * 1408 + x.val, by omega⟩ (by show p.val * 1408 + x.val = _; omega), V_v1]
  · rw [blk0 m c t r k R hR, ld_up m c t k x ⟨p.val * 1408 + x.val, by omega⟩ (by show p.val * 1408 + x.val = _; omega), V_v3]

set_option maxHeartbeats 1000000 in
/-- The result array holds the layer's output, of the arguments. -/
theorem final (c : Dev nD) : (dats m 0 c).arrAt 5 cfg0.N = out (m (c.tc.loc main_arg0)) (m (c.tc.loc main_arg1)) (m (c.tc.loc main_arg2)) (m (c.tc.loc main_arg3)) := by
  refine (dats m 0 c).arrAt_eq_of_covers 5 _ (by decide +kernel) fun t hf y => ?_
  have h1 : t.val % 2 = 1 := (flush0_5 t).mp hf
  have hN : t.val < 4 := lt_of_lt_of_eq t.isLt (show cfg0.N = 4 from N_0)
  blk_simp
  rw [after0_5, outsAt0_B m c t (by omega) h1]
  dsimp only
  rw [out_B]
  have hA := outsAt0_A m c ⟨t.val - 1, Nat.lt_of_le_of_lt (Nat.sub_le _ _) t.isLt⟩ (by show (t.val - 1) % 2 = 0; omega) (by show ¬ (t.val - 1) % 2 = 1; omega)
  dsimp only at hA
  rw [hA]
  dsimp only
  rw [sout_A]
  have hz0 : ∀ r d, k0_pay2 (F := Ideal) (ix2 r d) = 0 := fun r d => by pointwise [k0_pay2]
  have hhalf : (t.val - 1) / 2 = t.val / 2 := by omega
  have key : ∀ (r : Fin 512) (d : Fin 1024) (R : Fin 1024), R.val = t.val / 2 * 512 + r.val →
      k0_pay1 (iblk m c 1 t : Vec Ideal S512x1024 .f32) (k0_pay3 (iblk m c 0 t : Vec Ideal S512x1024 .bf16) _ _ (k0_pay3 (iblk m c 0 ⟨t.val - 1, Nat.lt_of_le_of_lt (Nat.sub_le _ _) t.isLt⟩ : Vec Ideal S512x1024 .bf16) _ _ (k0_pay2 (F := Ideal)) _) _) (ix2 r d)
        = out (m (c.tc.loc main_arg0)) (m (c.tc.loc main_arg1)) (m (c.tc.loc main_arg2)) (m (c.tc.loc main_arg3)) (ix2 R d) := fun r d R hR => by
    have hR' : R.val = (t.val - 1) / 2 * 512 + r.val := by rw [hhalf]; exact hR
    pointwise [k0_pay1]
    rw [point m c t _ r d R hR 1 (by show 1 = _; omega), point m c ⟨t.val - 1, Nat.lt_of_le_of_lt (Nat.sub_le _ _) t.isLt⟩ _ r d R hR' 0 (by show 0 = (t.val - 1) % 2; omega), hz0, blk1 m c t r d R hR, zero_add]
    exact halves _ _ _ _ R d
  obtain ⟨r, d, rfl⟩ : ∃ (r : Fin 512) (d : Fin 1024), y = ix2 r d := ⟨y 0, y 1, eq_ix2 (n0 := 512) (n1 := 1024) y⟩
  have he : ((View.whole main_v5).slice (win0_5.rect t)).emb (ix2 r d) = ix2 ⟨t.val / 2 * 512 + r.val, by omega⟩ d := by
    blk_ext [(idx t).2.2.2.2.2]
  exact (key r d _ rfl).trans (congrArg _ he.symm)

/-- The call's run: its result array at the layer's output of the arguments, the arguments unchanged. -/
theorem run : θ_run defs (onTc (τ := τ) (main (F := Ideal))) ⟨m, fun _ => 0, ρ⟩ fun r => ∀ c : Dev nD,
      r.2.mem (c.tc.loc main_v5) = out (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final m c), (h c).2⟩) (Value.run_blocks m ρ)

end Cert.FfnSIdeal.Hand
end
-- ==== Proof.FfnS.Claim.lean ====
module

public import proofs.«01_k».proof.Defs
public import proofs.«01_k».proof.Proof.FfnS.Kernel
public import proofs.«01_k».proof.Proof.Gen.FfnSRefIdeal.Run
public import proofs.«01_k».proof.Proof.Gen.FfnSRefIdeal.Read

@[expose] public section

set_option maxRecDepth 1024

noncomputable section

open Idealize.ShloMosaic Idealize.ShloMosaic.TcCoe Idealize.SL.Sem

/-! ## The feed-forward claim, sample group -/

namespace Cert.FfnSRefIdeal.Hand

open Cert.FfnSRefIdeal Cert.FfnSRefIdeal.Read

/-- What the host reference computes, index by index: the layer's output. -/
theorem value (x0 x1 x2 x3) : val_main_v7 (F := Ideal) x0 x1 x2 x3 = Cert.FfnIdeal.Hand.out x0 x1 x2 x3 := by
  funext i
  idx_vars i
  pointwise [val_main_v7, val_main_v6, val_main_v5, val_main_v4, val_main_v3, val_main_v2, val_main_v1, val_main_v0, val_main_call0_v0,
    val_main_call0_v1, val_main_call0_cst, val_main_call0_v2, val_main_call0_v3, val_main_call0_cst_0, val_main_call0_v4, val_main_call0_v5]
  rfl

end Cert.FfnSRefIdeal.Hand

namespace Cert.Proof.FfnS

/-- The kernel's result and the reference's are the same function of the arguments. -/
theorem algebraic : Cert.algebraic_FfnSIdeal_FfnSRefIdeal (hFfnSIdeal := Cert.FfnSIdeal.Gen.facts) (hFfnSRefIdeal := Cert.FfnSRefIdeal.Gen.facts) := by
  intro m ρ m' ρ' _ h
  refine ⟨_, FfnSIdeal.Hand.run m ρ, (θ_run Cert.FfnSRefIdeal.defs _ _).mono (fun r hr c => ⟨(hr c).1.trans ?_, (hr c).2⟩) (Cert.FfnSRefIdeal.Value.run (F := Ideal) m' ρ')⟩
  refine (Cert.FfnSRefIdeal.Read.val_main_v7_eq _ _ _ _).trans ?_
  rw [Cert.FfnSRefIdeal.Hand.value, (h c).1, (h c).2.1, (h c).2.2.1, (h c).2.2.2]

end Cert.Proof.FfnS
end
-- ==== Proof.MergeS.Kernel.lean ====
module

public import proofs.«01_k».proof.Proof.Gen.MergeSIdeal.Value
public import proofs.«01_k».proof.Proof.Merge.Kernel

@[expose] public section

set_option maxRecDepth 1024

noncomputable section

open Idealize.ShloMosaic Idealize.ShloMosaic.TcCoe Idealize.SL.Sem
open Idealize.ShloMosaic.Pipeline (Dat)

/-! ## The gated merge of the sample group: what its two result arrays hold -/

namespace Cert.MergeSIdeal.Hand

open Cert.MergeSIdeal Cert.MergeSIdeal.Gen
open Cert.MergeIdeal.Hand (hz headed merged normed row out1 out2)

variable (m : (ℓ : Loc nD τ sig) → Buf (Elt Ideal) ℓ) (ρ : Dev nD → PrngReg)

theorem V_v0 (c : Dev nD) (k : Fin 128) : V m c main_v0 (ix2 0 k) = m (c.tc.loc main_arg6) (ix1 k) := by
  entry_read
  pointwise
theorem V_v1 (c : Dev nD) (j : Fin 512) (k : Fin 1024) : V m c main_v1 (ix2 j k) = m (c.tc.loc main_arg7) (ix2 j k) := by
  entry_read
  pointwise
theorem V_v2 (c : Dev nD) (j : Fin 512) (k : Fin 1024) : V m c main_v2 (ix2 j k) = m (c.tc.loc main_arg8) (ix2 j k) := by
  entry_read
  pointwise
theorem V_v3 (c : Dev nD) (j : Fin 1024) (k : Fin 1024) : V m c main_v3 (ix2 j k) = m (c.tc.loc main_arg9) (ix2 j k) := by
  entry_read
  pointwise
theorem V_v4 (c : Dev nD) (k : Fin 1024) : V m c main_v4 (ix2 0 k) = m (c.tc.loc main_arg10) (ix1 k) := by
  entry_read
  pointwise

theorem pay5_apply (v0 v1 : Vec Ideal S512x512 .f32) (w : Vec Ideal S1x128 .f32) (r e : Fin 512) :
    k0_pay5 v0 v1 (k0_pay1 v0 w) (k0_pay2 v0 w) (k0_pay3 v0) (k0_pay4 v0) w w (ix2 r e)
      = headed (fun x => v0 (ix2 r x)) (fun x => w (ix2 0 x)) (fun x => v1 (ix2 r x)) e :=
  Cert.MergeIdeal.Hand.pay5_apply v0 v1 w r e

theorem pay8_apply (g : FVec Ideal S512x512 .f32) (a : Vec Ideal S512x1024 .f32) (o : Vec Ideal S512x512 .bf16) (wa : Vec Ideal S512x1024 .bf16) (b : Vec Ideal S512x1024 .f32)
    (wb : Vec Ideal S512x1024 .bf16) (x : Vec Ideal S512x1024 .f32) (wo : Vec Ideal S1024x1024 .bf16) (r : Fin 512) (d : Fin 1024) :
    k0_pay8 g (k0_pay6 a) o (k0_pay7 wa) b wb x wo (ix2 r d)
      = merged (fun k => x (ix2 r k)) (fun k => o (ix2 r k)) (fun k => g (ix2 r k)) (fun k => a (ix2 r k)) (fun k => b (ix2 r k)) wa wb wo d :=
  Cert.MergeIdeal.Hand.pay8_apply g a o wa b wb x wo r d

theorem pay9_apply (g : FVec Ideal S512x512 .f32) (a : FVec Ideal S512x1024 .f32) (o : Vec Ideal S512x512 .bf16) (wa : FVec Ideal S512x1024 .bf16) (b : Vec Ideal S512x1024 .f32)
    (wb : Vec Ideal S512x1024 .bf16) (x : Vec Ideal S512x1024 .f32) (wo : Vec Ideal S1024x1024 .bf16) (w : Vec Ideal S1x1024 .f32) (r : Fin 512) (d : Fin 1024) :
    k0_pay9 g a o wa b wb x wo w (ix2 r d) = normed (fun k => k0_pay8 g a o wa b wb x wo (ix2 r k)) (fun k => w (ix2 0 k)) d :=
  Cert.MergeIdeal.Hand.pay9_apply g a o wa b wb x wo w r d

/-- Which block each window is on at grid point `t`: the token arrays on their `t`-th 512 rows, the weights whole. -/
theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0])
    ∧ (win0_6.index t = ![0, 0] ∧ win0_7.index t = ![0, 0] ∧ win0_8.index t = ![0, 0] ∧ win0_9.index t = ![0, 0] ∧ win0_10.index t = ![0, 0])
    ∧ win0_11.index t = ![t.val, 0] ∧ win0_12.index t = ![t.val, 0] :=
  (by decide +kernel : ∀ t : Fin grid0.N, _)

section
variable (c : Dev nD) (t : Fin cfg0.N) (r : Fin 512) (R : Fin 1024) (hR : R.val = t.val * 512 + r.val)
include hR
theorem blk0 (k : Fin 1024) : (iblk m c 0 t : Vec Ideal S512x1024 .f32) (ix2 r k) = m (c.tc.loc main_arg0) (ix2 R k) := by
  blk_ext! [iblk, V_main_arg0, (idx t).1.1]
theorem blk1 (k : Fin 512) : (iblk m c 1 t : Vec Ideal S512x512 .bf16) (ix2 r k) = m (c.tc.loc main_arg1) (ix2 R k) := by
  blk_ext! [iblk, V_main_arg1, (idx t).1.2.1]
theorem blk2 (k : Fin 512) : (iblk m c 2 t : Vec Ideal S512x512 .f32) (ix2 r k) = m (c.tc.loc main_arg2) (ix2 R k) := by
  blk_ext! [iblk, V_main_arg2, (idx t).1.2.2.1]
theorem blk3 (k : Fin 512) : (iblk m c 3 t : Vec Ideal S512x512 .f32) (ix2 r k) = m (c.tc.loc main_arg3) (ix2 R k) := by
  blk_ext! [iblk, V_main_arg3, (idx t).1.2.2.2.1]
theorem blk4 (k : Fin 1024) : (iblk m c 4 t : Vec Ideal S512x1024 .f32) (ix2 r k) = m (c.tc.loc main_arg4) (ix2 R k) := by
  blk_ext! [iblk, V_main_arg4, (idx t).1.2.2.2.2.1]
theorem blk5 (k : Fin 1024) : (iblk m c 5 t : Vec Ideal S512x1024 .f32) (ix2 r k) = m (c.tc.loc main_arg5) (ix2 R k) := by
  blk_ext! [iblk, V_main_arg5, (idx t).1.2.2.2.2.2]
end

section
variable (c : Dev nD) (t : Fin cfg0.N)
theorem blk6 (k : Fin 128) : (iblk m c 6 t : Vec Ideal S1x128 .f32) (ix2 0 k) = m (c.tc.loc main_arg6) (ix1 k) := by
  refine Eq.trans ?_ (V_v0 m c k)
  blk_ext [iblk, (idx t).2.1.1]
theorem blk7 : (iblk m c 7 t : Vec Ideal S512x1024 .bf16) = m (c.tc.loc main_arg7) := by
  funext i; idx_vars i
  refine Eq.trans ?_ (V_v1 m c _ _)
  blk_ext [iblk, (idx t).2.1.2.1]
theorem blk8 : (iblk m c 8 t : Vec Ideal S512x1024 .bf16) = m (c.tc.loc main_arg8) := by
  funext i; idx_vars i
  refine Eq.trans ?_ (V_v2 m c _ _)
  blk_ext [iblk, (idx t).2.1.2.2.1]
theorem blk9 : (iblk m c 9 t : Vec Ideal S1024x1024 .bf16) = m (c.tc.loc main_arg9) := by
  funext i; idx_vars i
  refine Eq.trans ?_ (V_v3 m c _ _)
  blk_ext [iblk, (idx t).2.1.2.2.2.1]
theorem blk10 (k : Fin 1024) : (iblk m c 10 t : Vec Ideal S1x1024 .f32) (ix2 0 k) = m (c.tc.loc main_arg10) (ix1 k) := by
  refine Eq.trans ?_ (V_v4 m c k)
  blk_ext [iblk, (idx t).2.1.2.2.2.2]
end

/-- One row of the merged block a grid point computes, over the argument arrays. -/
theorem block_row (c : Dev nD) (t : Fin cfg0.N) (r : Fin 512) (R : Fin 1024) (hR : R.val = t.val * 512 + r.val) (d : Fin 1024) :
    k0_pay8 (k0_pay5 (iblk m c 2 t : Vec Ideal S512x512 .f32) (iblk m c 3 t : Vec Ideal S512x512 .f32) (k0_pay1 (iblk m c 2 t : Vec Ideal S512x512 .f32) (iblk m c 6 t : Vec Ideal S1x128 .f32))
        (k0_pay2 (iblk m c 2 t : Vec Ideal S512x512 .f32) (iblk m c 6 t : Vec Ideal S1x128 .f32)) (k0_pay3 (iblk m c 2 t : Vec Ideal S512x512 .f32)) (k0_pay4 (iblk m c 2 t : Vec Ideal S512x512 .f32))
        (iblk m c 6 t : Vec Ideal S1x128 .f32) (iblk m c 6 t : Vec Ideal S1x128 .f32))
      (k0_pay6 (iblk m c 4 t : Vec Ideal S512x1024 .f32)) (iblk m c 1 t : Vec Ideal S512x512 .bf16) (k0_pay7 (iblk m c 7 t : Vec Ideal S512x1024 .bf16))
      (iblk m c 5 t : Vec Ideal S512x1024 .f32) (iblk m c 8 t : Vec Ideal S512x1024 .bf16) (iblk m c 0 t : Vec Ideal S512x1024 .f32) (iblk m c 9 t : Vec Ideal S1024x1024 .bf16) (ix2 r d)
    = row (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) R d := by
  rw [pay8_apply]
  have e0 := funext fun k => blk0 m c t r R hR k
  have e1 := funext fun k => blk1 m c t r R hR k
  have e2 := funext fun k => blk2 m c t r R hR k
  have e3 := funext fun k => blk3 m c t r R hR k
  have e4 := funext fun k => blk4 m c t r R hR k
  have e5 := funext fun k => blk5 m c t r R hR k
  have e6 := funext fun k => blk6 m c t k
  have eh := funext fun k => pay5_apply (iblk m c 2 t : Vec Ideal S512x512 .f32) (iblk m c 3 t : Vec Ideal S512x512 .f32) (iblk m c 6 t : Vec Ideal S1x128 .f32) r k
  rw [e2, e3, e6] at eh
  rw [e0, e1, eh, e4, e5, blk7, blk8, blk9]
  rfl

set_option maxHeartbeats 1000000 in
/-- The first result array holds the merged activations. -/
theorem final1 (c : Dev nD) : (dats m 0 c).arrAt 11 cfg0.N = out1 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) := by
  refine (dats m 0 c).arrAt_eq_of_covers 11 _ (by decide +kernel) fun t hf y => ?_
  have hN : t.val < 2 := lt_of_lt_of_eq t.isLt (show cfg0.N = 2 from N_0)
  blk_simp
  rw [after0_11]
  unfold_out out0_11
  rw [View.canon_unit_zero hz]
  simp only [View.ld_unit_zero (S := S512x1024) hz, View.ld_unit_zero (S := S512x512) hz, View.ld_unit_zero (S := S1x128) hz, View.ld_unit_zero (S := S1024x1024) hz]
  obtain ⟨r, d, rfl⟩ : ∃ (r : Fin 512) (d : Fin 1024), y = ix2 r d := ⟨y 0, y 1, eq_ix2 (n0 := 512) (n1 := 1024) y⟩
  have he : ((View.whole main_v5_0).slice (win0_11.rect t)).emb (ix2 r d) = ix2 ⟨t.val * 512 + r.val, by omega⟩ d := by
    blk_ext [(idx t).2.2.1]
  refine Eq.trans ?_ (congrArg _ he.symm)
  exact block_row m c t r ⟨t.val * 512 + r.val, by omega⟩ rfl d

/-- The second holds them normalised. -/
theorem final2 (c : Dev nD) : (dats m 0 c).arrAt 12 cfg0.N = out2 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) (m (c.tc.loc main_arg10)) := by
  refine (dats m 0 c).arrAt_eq_of_covers 12 _ (by decide +kernel) fun t hf y => ?_
  have hN : t.val < 2 := lt_of_lt_of_eq t.isLt (show cfg0.N = 2 from N_0)
  blk_simp
  rw [after0_12]
  unfold_out out0_12
  rw [View.canon_unit_zero hz]
  simp only [View.ld_unit_zero (S := S512x1024) hz, View.ld_unit_zero (S := S512x512) hz, View.ld_unit_zero (S := S1x128) hz, View.ld_unit_zero (S := S1024x1024) hz, View.ld_unit_zero (S := S1x1024) hz]
  obtain ⟨r, d, rfl⟩ : ∃ (r : Fin 512) (d : Fin 1024), y = ix2 r d := ⟨y 0, y 1, eq_ix2 (n0 := 512) (n1 := 1024) y⟩
  have he : ((View.whole main_v5_1).slice (win0_12.rect t)).emb (ix2 r d) = ix2 ⟨t.val * 512 + r.val, by omega⟩ d := by
    blk_ext [(idx t).2.2.2]
  refine Eq.trans ?_ (congrArg _ he.symm)
  refine (pay9_apply _ _ _ _ _ _ _ _ _ r d).trans ?_
  have e1 := funext fun k => block_row m c t r ⟨t.val * 512 + r.val, by omega⟩ rfl k
  have e2 := funext fun k => blk10 m c t k
  rw [e1, e2]
  rfl

/-- The call's run: its result arrays at the merge of the arguments, the arguments unchanged. -/
theorem run : θ_run defs (onTc (τ := τ) (main (F := Ideal))) ⟨m, fun _ => 0, ρ⟩ fun r => ∀ c : Dev nD,
      r.2.mem (c.tc.loc main_v5_0) = out1 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9))
      ∧ r.2.mem (c.tc.loc main_v5_1) = out2 (m (c.tc.loc main_arg0)) (m (c.tc.loc main_arg1)) (m (c.tc.loc main_arg2)) (m (c.tc.loc main_arg3)) (m (c.tc.loc main_arg4)) (m (c.tc.loc main_arg5))
        (m (c.tc.loc main_arg6)) (m (c.tc.loc main_arg7)) (m (c.tc.loc main_arg8)) (m (c.tc.loc main_arg9)) (m (c.tc.loc main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) :=
  (θ_run defs _ _).mono (fun r h c => ⟨(h c).1.trans (final1 m c), (h c).2.1.trans (final2 m c), (h c).2.2⟩) (Value.run_blocks m ρ)

end Cert.MergeSIdeal.Hand
end
-- ==== Proof.MergeS.Claim.lean ====
module

public import proofs.«01_k».proof.Defs
public import proofs.«01_k».proof.Proof.MergeS.Kernel
public import proofs.«01_k».proof.Proof.Gen.MergeSRefIdeal.Run
public import proofs.«01_k».proof.Proof.Gen.MergeSRefIdeal.Read

@[expose] public section

set_option maxRecDepth 1024

noncomputable section

open Idealize.ShloMosaic Idealize.ShloMosaic.TcCoe Idealize.SL.Sem

/-! ## The gated merge's claim, sample group -/

namespace Cert.MergeSRefIdeal.Hand

open Cert.MergeSRefIdeal Cert.MergeSRefIdeal.Read
open Cert.MergeIdeal.Hand (headed merged normed row out1 out2)

/-- The reference's normalised and gated recurrence rows. -/
theorem gated_value (x2 x3 x6) (r : Fin 1024) (e : Fin 512) :
    val_main_v16 (F := Ideal) x2 x3 x6 (ix2 r e) = headed (fun k => x2 (ix2 r k)) (fun k => x6 (ix1 k)) (fun k => x3 (ix2 r k)) e := by
  pointwise [val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0, val_main_call0_v5, val_main_call0_v4, val_main_call0_cst_0, val_main_call0_v3, val_main_call0_v2, val_main_call0_cst, val_main_call0_v1, val_main_call0_v0]
  rfl

/-- The reference's merged rows. -/
theorem row_value (x0 x1 x2 x3 x4 x5 x6 x7 x8 x9) (r : Fin 1024) (d : Fin 1024) :
    val_main_v36 (F := Ideal) x0 x1 x2 x3 x4 x5 x6 x7 x8 x9 (ix2 r d) = row x0 x1 x2 x3 x4 x5 x6 x7 x8 x9 r d := by
  pointwise [val_main_v36, val_main_v35, val_main_v34, val_main_v33, val_main_v32, val_main_v31, val_main_v30, val_main_cst_5, val_main_v29, val_main_v28, val_main_cst_4, val_main_v27, val_main_v26, val_main_v25, val_main_v24, val_main_v23, val_main_v22, val_main_v21, val_main_cst_3, val_main_v20, val_main_v19, val_main_cst_2, val_main_v18, val_main_v17]
  simp only [gated_value]
  rfl

/-- The reference's first result. -/
theorem value1 (x0 x1 x2 x3 x4 x5 x6 x7 x8 x9) :
    val_main_v36 (F := Ideal) x0 x1 x2 x3 x4 x5 x6 x7 x8 x9 = out1 x0 x1 x2 x3 x4 x5 x6 x7 x8 x9 := by
  funext i
  idx_vars i
  exact row_value x0 x1 x2 x3 x4 x5 x6 x7 x8 x9 _ _

/-- The reference's second result. -/
theorem value2 (x0 x1 x2 x3 x4 x5 x6 x7 x8 x9 x10) :
    val_main_v50 (F := Ideal) x0 x1 x2 x3 x4 x5 x6 x7 x8 x9 x10 = out2 x0 x1 x2 x3 x4 x5 x6 x7 x8 x9 x10 := by
  funext i
  idx_vars i
  pointwise [val_main_v50, val_main_v49, val_main_v48, val_main_v47, val_main_v46, val_main_v45, val_main_v44, val_main_v43, val_main_v42, val_main_cst_8, val_main_v41, val_main_v40, val_main_cst_7, val_main_v39, val_main_v38, val_main_cst_6, val_main_v37]
  simp only [row_value]
  rfl

end Cert.MergeSRefIdeal.Hand

namespace Cert.Proof.MergeS

/-- The kernel's two results and the reference's are the same functions of the arguments. -/
theorem algebraic : Cert.algebraic_MergeSIdeal_MergeSRefIdeal (hMergeSIdeal := Cert.MergeSIdeal.Gen.facts) (hMergeSRefIdeal := Cert.MergeSRefIdeal.Gen.facts) := by
  intro m ρ m' ρ' _ h
  refine ⟨_, _, MergeSIdeal.Hand.run m ρ, (θ_run Cert.MergeSRefIdeal.defs _ _).mono (fun r hr c => ⟨(hr c).1.trans ?_, (hr c).2.1.trans ?_, (hr c).2.2⟩) (Cert.MergeSRefIdeal.Value.run (F := Ideal) m' ρ')⟩
  · refine (Cert.MergeSRefIdeal.Read.val_main_v36_eq _ _ _ _ _ _ _ _ _ _).trans ?_
    rw [Cert.MergeSRefIdeal.Hand.value1, (h c).1, (h c).2.1, (h c).2.2.1, (h c).2.2.2.1, (h c).2.2.2.2.1, (h c).2.2.2.2.2.1, (h c).2.2.2.2.2.2.1, (h c).2.2.2.2.2.2.2.1,
      (h c).2.2.2.2.2.2.2.2.1, (h c).2.2.2.2.2.2.2.2.2.1]
  · refine (Cert.MergeSRefIdeal.Read.val_main_v50_eq _ _).trans ?_
    rw [Cert.MergeSRefIdeal.Hand.value2, (h c).1, (h c).2.1, (h c).2.2.1, (h c).2.2.2.1, (h c).2.2.2.2.1, (h c).2.2.2.2.2.1, (h c).2.2.2.2.2.2.1, (h c).2.2.2.2.2.2.2.1,
      (h c).2.2.2.2.2.2.2.2.1, (h c).2.2.2.2.2.2.2.2.2.1, (h c).2.2.2.2.2.2.2.2.2.2]

end Cert.Proof.MergeS
end
-- ==== Proof.lean ====
module

public import proofs.«01_k».proof.Defs
public import proofs.«01_k».proof.Proof.Gen.Gla
public import proofs.«01_k».proof.Proof.Gen.Gla.Frame
public import proofs.«01_k».proof.Proof.Gen.GlaIdeal
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.Gen.GlaRefIdeal.Read
public import proofs.«01_k».proof.Proof.Gen.Pre_decay_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Proj
public import proofs.«01_k».proof.Proof.Gen.ProjIdeal
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_proj_finite
public import proofs.«01_k».proof.Proof.Gen.FfnS
public import proofs.«01_k».proof.Proof.Gen.FfnS.Frame
public import proofs.«01_k».proof.Proof.Gen.FfnSIdeal
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Run
public import proofs.«01_k».proof.Proof.Gen.FfnSRefIdeal.Read
public import proofs.«01_k».proof.Proof.Gen.MergeS
public import proofs.«01_k».proof.Proof.Gen.MergeS.Frame
public import proofs.«01_k».proof.Proof.Gen.MergeSIdeal
public import proofs.«01_k».proof.Proof.Gen.MergeSIdeal.Frame
public import proofs.«01_k».proof.Proof.Gen.MergeSIdeal.Value
public import proofs.«01_k».proof.Proof.Gen.MergeSRefIdeal
public import proofs.«01_k».proof.Proof.Gen.MergeSRefIdeal.Run
public import proofs.«01_k».proof.Proof.Gen.MergeSRefIdeal.Read
public import proofs.«01_k».proof.Proof.Gla.Claim
public import proofs.«01_k».proof.Proof.Ffn.Claim
public import proofs.«01_k».proof.Proof.Merge.Claim
public import proofs.«01_k».proof.Proof.Proj.Same
public import proofs.«01_k».proof.Proof.Proj.Claim
public import proofs.«01_k».proof.Proof.FfnS.Claim
public import proofs.«01_k».proof.Proof.MergeS.Claim
public import Idealize.ShloMosaic.Adequacy
public import Idealize.ShloMosaic.Init

@[expose] public section

noncomputable section

namespace Cert.Proof

open Idealize.ShloMosaic Idealize.SL.Sem

/-- The feed-forward reference runs, leaves its arguments as they were and ends with no semaphore raised. -/
theorem frame_FfnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩) (Cert.FfnRefIdeal.Value.run (F := Ideal) m ρ)

/-- So does the merge's reference. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2.2, sem_eq_zero_of_no_sems (by decide) r.2⟩) (Cert.MergeRefIdeal.Value.run (F := Ideal) m ρ)

/-- So does the sample group's feed-forward reference. -/
theorem frame_FfnSRef : Cert.quiescent_FfnSRefIdeal (hFfnSRefIdeal := Cert.FfnSRefIdeal.Gen.facts) := fun m ρ _ =>
  (θ_run Cert.FfnSRefIdeal.defs _ _).mono (fun r h => ⟨fun c => (h c).2, sem_eq_zero_of_no_sems (by decide) r.2⟩) (Cert.FfnSRefIdeal.Value.run (F := Ideal) m ρ)

/-- So does the sample group's merge reference. -/
theorem frame_MergeSRef : Cert.quiescent_MergeSRefIdeal (hMergeSRefIdeal := Cert.MergeSRefIdeal.Gen.facts) := fun m ρ _ =>
  (θ_run Cert.MergeSRefIdeal.defs _ _).mono (fun r h => ⟨fun c => (h c).2.2, sem_eq_zero_of_no_sems (by decide) r.2⟩) (Cert.MergeSRefIdeal.Value.run (F := Ideal) m ρ)

/-- So does the recurrence's reference, with the precondition; the precondition is not used. -/
theorem frame_GlaRef_pre : Cert.quiescent_GlaRefIdeal_pre_decay_finite (hGlaRefIdeal := Cert.GlaRefIdeal.Gen.facts) (hPre_decay_finite := Cert.Pre_decay_finite.Gen.facts) := fun m ρ _ =>
  (θ_run Cert.GlaRefIdeal.defs _ _).mono (fun r h => ⟨fun c => (h c).2.2, sem_eq_zero_of_no_sems (by decide) r.2⟩) (Cert.GlaRefIdeal.Value.run (F := Ideal) m ρ)

/-- And without it. -/
theorem frame_GlaRef : Cert.quiescent_GlaRefIdeal (hGlaRefIdeal := Cert.GlaRefIdeal.Gen.facts) := fun m ρ _ =>
  (θ_run Cert.GlaRefIdeal.defs _ _).mono (fun r h => ⟨fun c => (h c).2.2, sem_eq_zero_of_no_sems (by decide) r.2⟩) (Cert.GlaRefIdeal.Value.run (F := Ideal) m ρ)

/-- Everything claimed: the frames, the untouched arguments of the ideal copies, and the equal results. -/
theorem claim : Cert.Claim := ⟨Cert.Gla.Gen.facts, Cert.GlaIdeal.Gen.facts, Cert.GlaRefIdeal.Gen.facts,
  Cert.Ffn.Gen.facts, Cert.FfnIdeal.Gen.facts, Cert.FfnRefIdeal.Gen.facts, Cert.Merge.Gen.facts, Cert.MergeIdeal.Gen.facts, Cert.MergeRefIdeal.Gen.facts,
  Cert.Proj.Gen.facts, Cert.ProjIdeal.Gen.facts, Cert.ProjRefIdeal.Gen.facts,
  Cert.FfnS.Gen.facts, Cert.FfnSIdeal.Gen.facts, Cert.FfnSRefIdeal.Gen.facts, Cert.MergeS.Gen.facts, Cert.MergeSIdeal.Gen.facts, Cert.MergeSRefIdeal.Gen.facts,
  Cert.Pre_decay_finite.Gen.facts, Cert.Pre_proj_finite.Gen.facts,
  fun m ρ _ => Cert.Gla.Gen.frame m ρ, fun m ρ _ => Cert.GlaIdeal.Gen.frame m ρ, fun m ρ _ => Cert.GlaIdeal.Gen.frame m ρ,
  frame_GlaRef, frame_GlaRef_pre,
  fun m ρ _ => Cert.Ffn.Gen.frame m ρ, fun m ρ _ => Cert.FfnIdeal.Gen.frame m ρ, frame_FfnRef,
  fun m ρ _ => Cert.Merge.Gen.frame m ρ, fun m ρ _ => Cert.MergeIdeal.Gen.frame m ρ, frame_MergeRef,
  Cert.Proof.Proj.frame_bits, fun m ρ _ => Cert.ProjIdeal.Hand.frame m ρ, fun m ρ _ => Cert.ProjIdeal.Hand.frame m ρ,
  Cert.Proof.Proj.frame_ref, Cert.Proof.Proj.frame_ref_pre,
  fun m ρ _ => Cert.FfnS.Gen.frame m ρ, fun m ρ _ => Cert.FfnSIdeal.Gen.frame m ρ, frame_FfnSRef,
  fun m ρ _ => Cert.MergeS.Gen.frame m ρ, fun m ρ _ => Cert.MergeSIdeal.Gen.frame m ρ, frame_MergeSRef,
  trivial, Cert.Proof.Gla.algebraic, trivial, Cert.Proof.Ffn.algebraic, trivial, Cert.Proof.Merge.algebraic,
  trivial, Cert.Proof.Proj.algebraic,
  trivial, Cert.Proof.FfnS.algebraic, trivial, Cert.Proof.MergeS.algebraic⟩

end Cert.Proof

end
